-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_sqrt_160" .f32 0x3DA1E89B#32 (((Real.sqrt 160)⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 512]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![512, 2048]⟩ (Layout.meshBlock [2, 4, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![512, 2048]⟩ (Layout.meshBlock [2, 4, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .bf16) (main_arg6 : FVec F S2048x32 .bf16) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .bf16 := Host.absf main_arg5
  let main_cst_6 : FVec F S_ .bf16 := constant S_ .bf16 0x7F80#16
  let main_v20 : FVec F S2048x512 .bf16 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .bf16 := Host.absf main_arg6
  let main_cst_8 : FVec F S_ .bf16 := constant S_ .bf16 0x7F80#16
  let main_v25 : FVec F S2048x32 .bf16 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .bf16) (main_arg1 : FVec F S2048x128 .bf16) (main_arg2 : FVec F S128x2048 .bf16) (main_arg3 : FVec F S128x2048 .bf16) (main_arg4 : FVec F S2048x2048 .bf16) (main_arg5 : FVec F S2048x512 .bf16) (main_arg6 : FVec F S2048x32 .bf16) (main_arg7 : FVec F S2048x2048 .bf16) : IVec S_ 1 :=
  let main_v0 : FVec F S2x512x2048 .bf16 := Host.absf main_arg0
  let main_cst : FVec F S_ .bf16 := constant S_ .bf16 0x7F80#16
  let main_v1 : FVec F S2x512x2048 .bf16 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .bf16 := Host.absf main_arg1
  let main_cst_0 : FVec F S_ .bf16 := constant S_ .bf16 0x7F80#16
  let main_v5 : FVec F S2048x128 .bf16 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .bf16 := Host.absf main_arg2
  let main_cst_2 : FVec F S_ .bf16 := constant S_ .bf16 0x7F80#16
  let main_v10 : FVec F S128x2048 .bf16 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .bf16 := Host.absf main_arg4
  let main_cst_4 : FVec F S_ .bf16 := constant S_ .bf16 0x7F80#16
  let main_v15 : FVec F S2048x2048 .bf16 := broadcastInDim S2048x2048 ![] bcast_S_S2048x2048 main_cst_4
  let main_v16 : IVec S2048x2048 1 := cmpf .olt main_v14 main_v15
  fn_part1 (F := F) main_arg5 main_arg6 main_v13 main_v16
-- ==== Pre_scores_finite_ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .bf16) (main_arg6 : FVec F S2048x32 .bf16) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .bf16 := Host.absf main_arg5
  let main_cst_6 : FVec F S_ .bf16 := constant S_ .bf16 0x7F80#16
  let main_v20 : FVec F S2048x512 .bf16 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .bf16 := Host.absf main_arg6
  let main_cst_8 : FVec F S_ .bf16 := constant S_ .bf16 0x7F80#16
  let main_v25 : FVec F S2048x32 .bf16 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .bf16) (main_arg1 : FVec F S2048x512 .bf16) (main_arg2 : FVec F S512x2048 .bf16) (main_arg3 : FVec F S512x2048 .bf16) (main_arg4 : FVec F S2048x2048 .bf16) (main_arg5 : FVec F S2048x512 .bf16) (main_arg6 : FVec F S2048x32 .bf16) (main_arg7 : FVec F S2048x2048 .bf16) : IVec S_ 1 :=
  let main_v0 : FVec F S2x512x2048 .bf16 := Host.absf main_arg0
  let main_cst : FVec F S_ .bf16 := constant S_ .bf16 0x7F80#16
  let main_v1 : FVec F S2x512x2048 .bf16 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x512 .bf16 := Host.absf main_arg1
  let main_cst_0 : FVec F S_ .bf16 := constant S_ .bf16 0x7F80#16
  let main_v5 : FVec F S2048x512 .bf16 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .bf16 := Host.absf main_arg2
  let main_cst_2 : FVec F S_ .bf16 := constant S_ .bf16 0x7F80#16
  let main_v10 : FVec F S512x2048 .bf16 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x2048 .bf16 := Host.absf main_arg4
  let main_cst_4 : FVec F S_ .bf16 := constant S_ .bf16 0x7F80#16
  let main_v15 : FVec F S2048x2048 .bf16 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S4x1024x128 : Shape := ⟨3, ![4, 1024, 128]⟩
abbrev S4x128x2048 : Shape := ⟨3, ![4, 128, 2048]⟩
abbrev S1024x2048 : Shape := ⟨2, ![1024, 2048]⟩
abbrev S32x512x32 : Shape := ⟨3, ![32, 512, 32]⟩
abbrev S2x512x32 : Shape := ⟨3, ![2, 512, 32]⟩
abbrev S18 : Shape := ⟨1, ![18]⟩
abbrev S1024x128 : Shape := ⟨2, ![1024, 128]⟩
abbrev S1x1024x128 : Shape := ⟨3, ![1, 1024, 128]⟩
abbrev S1x128x2048 : Shape := ⟨3, ![1, 128, 2048]⟩
abbrev S_ : Shape := ⟨0, ![]⟩
abbrev S1 : Shape := ⟨1, ![1]⟩
abbrev S1x512x128 : Shape := ⟨3, ![1, 512, 128]⟩
abbrev S512x128 : Shape := ⟨2, ![512, 128]⟩
abbrev S1x64x2048 : Shape := ⟨3, ![1, 64, 2048]⟩
abbrev S64x2048 : Shape := ⟨2, ![64, 2048]⟩
abbrev S1024x512 : Shape := ⟨2, ![1024, 512]⟩
abbrev S1024x32 : Shape := ⟨2, ![1024, 32]⟩
abbrev S512x32 : Shape := ⟨2, ![512, 32]⟩
abbrev S1x512x32 : Shape := ⟨3, ![1, 512, 32]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S2x512x2048, .bf16⟩
  | .local _ .vmem, ⟨0, _⟩ => ⟨S2x512x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x2048, .bf16⟩
  | .local _ .vmem, ⟨5, _⟩ => ⟨S2048x512, .bf16⟩
  | .local _ .vmem, ⟨6, _⟩ => ⟨S2048x32, .bf16⟩
  | .local _ .vmem, ⟨7, _⟩ => ⟨S2048x2048, .bf16⟩
  | .local _ .vmem, ⟨8, _⟩ => ⟨S2x512x2048, .bf16⟩
  | .local _ .vmem, ⟨9, _⟩ => ⟨S4x1024x128, .bf16⟩
  | .local _ .vmem, ⟨10, _⟩ => ⟨S4x128x2048, .bf16⟩
  | .local _ .vmem, ⟨11, _⟩ => ⟨S4x128x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S32x512x32, .bf16⟩
  | .local _ .vmem, ⟨17, _⟩ => ⟨S2x512x32, .bf16⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v53 : BitVec 32 := Scalar.muli v2 c16_i32_34
  let v54 : BitVec 32 := Scalar.addi c0_i32_35 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_36 : BitVec 32 := 4#32
  let v55 : BitVec 32 := Scalar.muli v31 c4_i32_36
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v57 : BitVec 32 := Scalar.muli v8 c1_i32_37
  let v58 : BitVec 32 := Scalar.addi v56 v57
  v58.toNat
def k0_dev2 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v59 : BitVec 32 := Scalar.muli v2 c16_i32_39
  let v60 : BitVec 32 := Scalar.addi c0_i32_40 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_41 : BitVec 32 := 4#32
  let v61 : BitVec 32 := Scalar.muli v19 c4_i32_41
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v63 : BitVec 32 := Scalar.muli v8 c1_i32_42
  let v64 : BitVec 32 := Scalar.addi v62 v63
  v64.toNat
def k0_dev3 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v65 : BitVec 32 := Scalar.muli v2 c16_i32_48
  let v66 : BitVec 32 := Scalar.addi c0_i32_49 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_50 : BitVec 32 := 4#32
  let v67 : BitVec 32 := Scalar.muli v19 c4_i32_50
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v69 : BitVec 32 := Scalar.muli v8 c1_i32_51
  let v70 : BitVec 32 := Scalar.addi v68 v69
  v70.toNat
def k0_dev4 (d0 : Dev nD) : Nat :=
  let c0_i32_60 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v79 : BitVec 32 := Scalar.muli v2 c16_i32_59
  let v80 : BitVec 32 := Scalar.addi c0_i32_60 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_61 : BitVec 32 := 4#32
  let v81 : BitVec 32 := Scalar.muli v19 c4_i32_61
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v83 : BitVec 32 := Scalar.muli v8 c1_i32_62
  let v84 : BitVec 32 := Scalar.addi v82 v83
  v84.toNat
def k0_dev5 (d0 : Dev nD) : Nat :=
  let c0_i32_71 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_70 : BitVec 32 := 16#32
  let v93 : BitVec 32 := Scalar.muli v2 c16_i32_70
  let v94 : BitVec 32 := Scalar.addi c0_i32_71 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_72 : BitVec 32 := 4#32
  let v95 : BitVec 32 := Scalar.muli v19 c4_i32_72
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v97 : BitVec 32 := Scalar.muli v8 c1_i32_73
  let v98 : BitVec 32 := Scalar.addi v96 v97
  v98.toNat
def k0_dev6 (d0 : Dev nD) : Nat :=
  let c0_i32_83 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_82 : BitVec 32 := 16#32
  let v107 : BitVec 32 := Scalar.muli v2 c16_i32_82
  let v108 : BitVec 32 := Scalar.addi c0_i32_83 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_84 : BitVec 32 := 4#32
  let v109 : BitVec 32 := Scalar.muli v19 c4_i32_84
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v111 : BitVec 32 := Scalar.muli v8 c1_i32_85
  let v112 : BitVec 32 := Scalar.addi v110 v111
  v112.toNat
def k0_dev7 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v121 : BitVec 32 := Scalar.muli v2 c16_i32_92
  let v122 : BitVec 32 := Scalar.addi c0_i32_93 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_94 : BitVec 32 := 4#32
  let v123 : BitVec 32 := Scalar.muli v19 c4_i32_94
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v125 : BitVec 32 := Scalar.muli v8 c1_i32_95
  let v126 : BitVec 32 := Scalar.addi v124 v125
  v126.toNat
def k0_dev8 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_102 : BitVec 32 := 16#32
  let v135 : BitVec 32 := Scalar.muli v2 c16_i32_102
  let v136 : BitVec 32 := Scalar.addi c0_i32_103 v135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_104 : BitVec 32 := 4#32
  let v137 : BitVec 32 := Scalar.muli v19 c4_i32_104
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v139 : BitVec 32 := Scalar.muli v8 c1_i32_105
  let v140 : BitVec 32 := Scalar.addi v138 v139
  v140.toNat
def k0_dev9 (d0 : Dev nD) : Nat :=
  let c0_i32_174 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_173 : BitVec 32 := 16#32
  let v210 : BitVec 32 := Scalar.muli v2 c16_i32_173
  let v211 : BitVec 32 := Scalar.addi c0_i32_174 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_175 : BitVec 32 := 4#32
  let v212 : BitVec 32 := Scalar.muli v19 c4_i32_175
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v214 : BitVec 32 := Scalar.muli v8 c1_i32_176
  let v215 : BitVec 32 := Scalar.addi v213 v214
  v215.toNat
def k0_dev10 (d0 : Dev nD) : Nat :=
  let c0_i32_185 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_184 : BitVec 32 := 16#32
  let v224 : BitVec 32 := Scalar.muli v2 c16_i32_184
  let v225 : BitVec 32 := Scalar.addi c0_i32_185 v224
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_186 : BitVec 32 := 4#32
  let v226 : BitVec 32 := Scalar.muli v19 c4_i32_186
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v228 : BitVec 32 := Scalar.muli v8 c1_i32_187
  let v229 : BitVec 32 := Scalar.addi v227 v228
  v229.toNat
def k0_dev11 (d0 : Dev nD) : Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_195 : BitVec 32 := 16#32
  let v238 : BitVec 32 := Scalar.muli v2 c16_i32_195
  let v239 : BitVec 32 := Scalar.addi c0_i32_196 v238
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_197 : BitVec 32 := 4#32
  let v240 : BitVec 32 := Scalar.muli v19 c4_i32_197
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v242 : BitVec 32 := Scalar.muli v8 c1_i32_198
  let v243 : BitVec 32 := Scalar.addi v241 v242
  v243.toNat
def k0_dev12 (d0 : Dev nD) : Nat :=
  let c0_i32_247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_246 : BitVec 32 := 16#32
  let v295 : BitVec 32 := Scalar.muli v2 c16_i32_246
  let v296 : BitVec 32 := Scalar.addi c0_i32_247 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_248 : BitVec 32 := 4#32
  let v297 : BitVec 32 := Scalar.muli v19 c4_i32_248
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v299 : BitVec 32 := Scalar.muli v8 c1_i32_249
  let v300 : BitVec 32 := Scalar.addi v298 v299
  v300.toNat
def k0_dev13 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v309 : BitVec 32 := Scalar.muli v2 c16_i32_257
  let v310 : BitVec 32 := Scalar.addi c0_i32_258 v309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_259 : BitVec 32 := 4#32
  let v311 : BitVec 32 := Scalar.muli v19 c4_i32_259
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v313 : BitVec 32 := Scalar.muli v8 c1_i32_260
  let v314 : BitVec 32 := Scalar.addi v312 v313
  v314.toNat
def k0_dev14 (d0 : Dev nD) : Nat :=
  let c0_i32_269 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_268 : BitVec 32 := 16#32
  let v323 : BitVec 32 := Scalar.muli v2 c16_i32_268
  let v324 : BitVec 32 := Scalar.addi c0_i32_269 v323
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_270 : BitVec 32 := 4#32
  let v325 : BitVec 32 := Scalar.muli v19 c4_i32_270
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v327 : BitVec 32 := Scalar.muli v8 c1_i32_271
  let v328 : BitVec 32 := Scalar.addi v326 v327
  v328.toNat
def k0_dev15 (d0 : Dev nD) : Nat :=
  let c0_i32_342 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_341 : BitVec 32 := 16#32
  let v402 : BitVec 32 := Scalar.muli v2 c16_i32_341
  let v403 : BitVec 32 := Scalar.addi c0_i32_342 v402
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_343 : BitVec 32 := 4#32
  let v404 : BitVec 32 := Scalar.muli v19 c4_i32_343
  let v405 : BitVec 32 := Scalar.addi v403 v404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v406 : BitVec 32 := Scalar.muli v8 c1_i32_344
  let v407 : BitVec 32 := Scalar.addi v405 v406
  v407.toNat
def k0_dev16 (d0 : Dev nD) : Nat :=
  let c0_i32_353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_352 : BitVec 32 := 16#32
  let v416 : BitVec 32 := Scalar.muli v2 c16_i32_352
  let v417 : BitVec 32 := Scalar.addi c0_i32_353 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_354 : BitVec 32 := 4#32
  let v418 : BitVec 32 := Scalar.muli v19 c4_i32_354
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v420 : BitVec 32 := Scalar.muli v8 c1_i32_355
  let v421 : BitVec 32 := Scalar.addi v419 v420
  v421.toNat
def k0_dev17 (d0 : Dev nD) : Nat :=
  let c0_i32_365 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_364 : BitVec 32 := 16#32
  let v430 : BitVec 32 := Scalar.muli v2 c16_i32_364
  let v431 : BitVec 32 := Scalar.addi c0_i32_365 v430
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_366 : BitVec 32 := 4#32
  let v432 : BitVec 32 := Scalar.muli v19 c4_i32_366
  let v433 : BitVec 32 := Scalar.addi v431 v432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v434 : BitVec 32 := Scalar.muli v8 c1_i32_367
  let v435 : BitVec 32 := Scalar.addi v433 v434
  v435.toNat
def k0_dev18 (d0 : Dev nD) : Nat :=
  let c0_i32_416 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_415 : BitVec 32 := 16#32
  let v487 : BitVec 32 := Scalar.muli v2 c16_i32_415
  let v488 : BitVec 32 := Scalar.addi c0_i32_416 v487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_417 : BitVec 32 := 4#32
  let v489 : BitVec 32 := Scalar.muli v19 c4_i32_417
  let v490 : BitVec 32 := Scalar.addi v488 v489
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v491 : BitVec 32 := Scalar.muli v8 c1_i32_418
  let v492 : BitVec 32 := Scalar.addi v490 v491
  v492.toNat
def k0_dev19 (d0 : Dev nD) : Nat :=
  let c0_i32_427 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_426 : BitVec 32 := 16#32
  let v501 : BitVec 32 := Scalar.muli v2 c16_i32_426
  let v502 : BitVec 32 := Scalar.addi c0_i32_427 v501
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_428 : BitVec 32 := 4#32
  let v503 : BitVec 32 := Scalar.muli v19 c4_i32_428
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v505 : BitVec 32 := Scalar.muli v8 c1_i32_429
  let v506 : BitVec 32 := Scalar.addi v504 v505
  v506.toNat
def k0_dev20 (d0 : Dev nD) : Nat :=
  let c0_i32_438 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_437 : BitVec 32 := 16#32
  let v515 : BitVec 32 := Scalar.muli v2 c16_i32_437
  let v516 : BitVec 32 := Scalar.addi c0_i32_438 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_439 : BitVec 32 := 4#32
  let v517 : BitVec 32 := Scalar.muli v19 c4_i32_439
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v519 : BitVec 32 := Scalar.muli v8 c1_i32_440
  let v520 : BitVec 32 := Scalar.addi v518 v519
  v520.toNat
@[reducible] def k0_t1_loop : Scf.Loop 32 :=
  let c0_i32_801 : BitVec 32 := 0#32
  let c32_i32 : BitVec 32 := 32#32
  let v897 : BitVec 32 := Scalar.addi c0_i32_801 c32_i32
  let c1_i32_802 : BitVec 32 := 1#32
  ⟨c0_i32_801, v897, c1_i32_802⟩
def k0_off1 (k0_t1 : Fin k0_t1_loop.trips) : Fin 2 → Nat :=
  let c0_i32_801 : BitVec 32 := 0#32
  let c1_i32_802 : BitVec 32 := 1#32
  let arg20 : BitVec 32 := Scf.iv c0_i32_801 c1_i32_802 k0_t1
  let c0_i32_813 : BitVec 32 := 0#32
  let v906 : BitVec 1 := Scalar.cmpi .sgt arg20 c0_i32_813
  let v907 : BitVec 32 := Scalar.extui v906
  let c0_i32_814 : BitVec 32 := 0#32
  let v908 : BitVec 1 := Scalar.cmpi .slt arg20 c0_i32_814
  let v909 : BitVec 32 := Scalar.extui v908
  let v910 : BitVec 32 := Scalar.subi v907 v909
  let c16_i32_812 : BitVec 32 := 16#32
  let c0_i32_815 : BitVec 32 := 0#32
  let v911 : BitVec 1 := Scalar.cmpi .sgt c16_i32_812 c0_i32_815
  let v912 : BitVec 32 := Scalar.extui v911
  let c0_i32_816 : BitVec 32 := 0#32
  let v913 : BitVec 1 := Scalar.cmpi .slt c16_i32_812 c0_i32_816
  let v914 : BitVec 32 := Scalar.extui v913
  let v915 : BitVec 32 := Scalar.subi v912 v914
  let v916 : BitVec 1 := Scalar.cmpi .ne v910 v915
  let v917 : BitVec 32 := Scalar.remsi arg20 c16_i32_812
  let c0_i32_817 : BitVec 32 := 0#32
  let v918 : BitVec 1 := Scalar.cmpi .ne v917 c0_i32_817
  let v919 : BitVec 1 := Scalar.andi v916 v918
  let v905 : BitVec 32 := Scalar.divsi arg20 c16_i32_812
  let c1_i32_818 : BitVec 32 := 1#32
  let v920 : BitVec 32 := Scalar.subi v905 c1_i32_818
  let v921 : BitVec 32 := Scalar.select v919 v920 v905
  let c512_i32_825 : BitVec 32 := 512#32
  let v932 : BitVec 32 := Scalar.muli v921 c512_i32_825
  let v934 : Index := Scalar.indexCast v932
  let c16_i32_819 : BitVec 32 := 16#32
  let c0_i32_820 : BitVec 32 := 0#32
  let v922 : BitVec 1 := Scalar.cmpi .eq c16_i32_819 c0_i32_820
  let c1_i32_821 : BitVec 32 := 1#32
  let v923 : BitVec 32 := Scalar.select v922 c1_i32_821 c16_i32_819
  let v924 : BitVec 32 := Scalar.remsi arg20 v923
  let c0_i32_823 : BitVec 32 := 0#32
  let v926 : BitVec 1 := Scalar.cmpi .slt v924 c0_i32_823
  let c0_i32_824 : BitVec 32 := 0#32
  let v927 : BitVec 1 := Scalar.cmpi .slt v923 c0_i32_824
  let v928 : BitVec 1 := Scalar.xori v926 v927
  let c0_i32_822 : BitVec 32 := 0#32
  let v925 : BitVec 1 := Scalar.cmpi .ne v924 c0_i32_822
  let v929 : BitVec 1 := Scalar.andi v928 v925
  let v930 : BitVec 32 := Scalar.addi v924 v923
  let v931 : BitVec 32 := Scalar.select v929 v930 v924
  let c128_i32 : BitVec 32 := 128#32
  let v933 : BitVec 32 := Scalar.muli v931 c128_i32
  let v935 : Index := Scalar.indexCast v933
  ![v934.toNat, v935.toNat]
def k0_off2 (k0_t1 : Fin k0_t1_loop.trips) : Fin 3 → Nat :=
  let c0_i32_801 : BitVec 32 := 0#32
  let c1_i32_802 : BitVec 32 := 1#32
  let arg20 : BitVec 32 := Scf.iv c0_i32_801 c1_i32_802 k0_t1
  let v945 : Index := Scalar.indexCast arg20
  let c0_828 : Index := 0#32
  let c0_829 : Index := 0#32
  ![v945.toNat, 0, 0]
def k0_off3 (k0_t1 : Fin k0_t1_loop.trips) : Fin 3 → Nat :=
  let c0_i32_801 : BitVec 32 := 0#32
  let c1_i32_802 : BitVec 32 := 1#32
  let arg20 : BitVec 32 := Scf.iv c0_i32_801 c1_i32_802 k0_t1
  let c0_i32_813 : BitVec 32 := 0#32
  let v906 : BitVec 1 := Scalar.cmpi .sgt arg20 c0_i32_813
  let v907 : BitVec 32 := Scalar.extui v906
  let c0_i32_814 : BitVec 32 := 0#32
  let v908 : BitVec 1 := Scalar.cmpi .slt arg20 c0_i32_814
  let v909 : BitVec 32 := Scalar.extui v908
  let v910 : BitVec 32 := Scalar.subi v907 v909
  let c16_i32_812 : BitVec 32 := 16#32
  let c0_i32_815 : BitVec 32 := 0#32
  let v911 : BitVec 1 := Scalar.cmpi .sgt c16_i32_812 c0_i32_815
  let v912 : BitVec 32 := Scalar.extui v911
  let c0_i32_816 : BitVec 32 := 0#32
  let v913 : BitVec 1 := Scalar.cmpi .slt c16_i32_812 c0_i32_816
  let v914 : BitVec 32 := Scalar.extui v913
  let v915 : BitVec 32 := Scalar.subi v912 v914
  let v916 : BitVec 1 := Scalar.cmpi .ne v910 v915
  let v917 : BitVec 32 := Scalar.remsi arg20 c16_i32_812
  let c0_i32_817 : BitVec 32 := 0#32
  let v918 : BitVec 1 := Scalar.cmpi .ne v917 c0_i32_817
  let v919 : BitVec 1 := Scalar.andi v916 v918
  let v905 : BitVec 32 := Scalar.divsi arg20 c16_i32_812
  let c1_i32_818 : BitVec 32 := 1#32
  let v920 : BitVec 32 := Scalar.subi v905 c1_i32_818
  let v921 : BitVec 32 := Scalar.select v919 v920 v905
  let v948 : Index := Scalar.indexCast v921
  let c0_830 : Index := 0#32
  let c0_831 : Index := 0#32
  ![v948.toNat, 0, 0]
abbrev stage0_0 : Fin 1 → Memref sig .tc .vmem S2x512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "inv_sqrt_160" => some (((Real.sqrt 160)⁻¹ : ℝ) : EReal)
  | _ => none
-- ==== ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S2x512x512 : Shape := ⟨3, ![2, 512, 512]⟩
abbrev S2x512x16x128 : Shape := ⟨4, ![2, 512, 16, 128]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S_ : Shape := ⟨0, ![]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x512x2048, .bf16⟩
  | .hbm, ⟨1, _⟩ => ⟨S2048x512, .bf16⟩
  | .hbm, ⟨2, _⟩ => ⟨S512x2048, .bf16⟩
  | .hbm, ⟨3, _⟩ => ⟨S512x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S2x512x2048, .f32⟩
  | .hbm, ⟨9, _⟩ => ⟨S2048x512, .f32⟩
  | .hbm, ⟨10, _⟩ => ⟨S512x2048, .f32⟩
  | .hbm, ⟨11, _⟩ => ⟨S512x2048, .f32⟩
  | .hbm, ⟨12, _⟩ => ⟨S2048x2048, .f32⟩
  | .hbm, ⟨13, _⟩ => ⟨S2048x512, .f32⟩
  | .hbm, ⟨14, _⟩ => ⟨S2048x32, .f32⟩
  | .hbm, ⟨15, _⟩ => ⟨S2048x2048, .f32⟩
  | .hbm, ⟨16, _⟩ => ⟨S2x512x512, .f32⟩
  | .hbm, ⟨17, _⟩ => ⟨S2x512x2048, .f32⟩
  | .hbm, ⟨18, _⟩ => ⟨S2x512x16x128, .f32⟩
  | .hbm, ⟨19, _⟩ => ⟨S2x512x2048, .f32⟩
  | .hbm, ⟨20, _⟩ => ⟨S2x512x16x128, .f32⟩
  | .hbm, ⟨21, _⟩ => ⟨S2x512x2048, .f32⟩
  | .hbm, ⟨22, _⟩ => ⟨S2x512x16x128, .f32⟩
  | .hbm, ⟨23, _⟩ => ⟨S2x512x512, .f32⟩
  | .hbm, ⟨24, _⟩ => ⟨S2x512x16x32, .f32⟩
  | .hbm, ⟨25, _⟩ => ⟨S2x512x32, .f32⟩
  | .hbm, ⟨26, _⟩ => ⟨S2x512x1x32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x16x512x512, .f32⟩
  | .hbm, ⟨32, _⟩ => ⟨S2x512x16x32, .f32⟩
  | .hbm, ⟨33, _⟩ => ⟨S2x16x512x512, .f32⟩
  | .hbm, ⟨34, _⟩ => ⟨S2x16x512x512, .f32⟩
  | .hbm, ⟨35, _⟩ => ⟨S2x16x512x512, .f32⟩
  | .hbm, ⟨36, _⟩ => ⟨S2x16x512x512, .f32⟩
  | .hbm, ⟨37, _⟩ => ⟨S_, .f32⟩
  | .hbm, ⟨38, _⟩ => ⟨S2x16x512, .f32⟩
  | .hbm, ⟨39, _⟩ => ⟨S2x16x512x1, .f32⟩
  | .hbm, ⟨40, _⟩ => ⟨S2x16x512x512, .f32⟩
  | .hbm, ⟨41, _⟩ => ⟨S2x16x512x512, .f32⟩
  | .hbm, ⟨42, _⟩ => ⟨S2x16x512x512, .f32⟩
  | .hbm, ⟨43, _⟩ => ⟨S_, .f32⟩
  | .hbm, ⟨44, _⟩ => ⟨S2x16x512, .f32⟩
  | .hbm, ⟨45, _⟩ => ⟨S2x16x512x1, .f32⟩
  | .hbm, ⟨46, _⟩ => ⟨S2x16x512x512, .f32⟩
  | .hbm, ⟨47, _⟩ => ⟨S2x16x512x512, .f32⟩
  | .hbm, ⟨48, _⟩ => ⟨S2x16x128x512, .f32⟩
  | .hbm, ⟨49, _⟩ => ⟨S2x512x16x128, .f32⟩
  | .hbm, ⟨50, _⟩ => ⟨S2x512x2048, .f32⟩
  | .hbm, ⟨51, _⟩ => ⟨S2x512x2048, .f32⟩
  | .hbm, ⟨52, _⟩ => ⟨S2x512x2048, .bf16⟩
  | _, _ => ⟨S2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.Ring.lean ====
/-
# `Ring`: the ring of devices, its cells, the pieces of the exchanged buffers and what they hold

Every device owns one block of three matrices (a low-rank projection of the input, and one row block of each of two
weights). Three buffers of four slots each travel around the ring along the mesh's second axis, in three hops; every hop
moves each slot in two halves. The eighteen copies a device issues are numbered `i = 3 * (2 * hop + half) + buffer`, and
the twenty-four half slots of its three buffers are numbered alike, so that copy `i` takes piece `i` of a device to piece
`i + 6` of the next device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.Pointwise.Index
public import Idealize.ShloMosaic.Lib.Tactic

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The next device along the mesh's second axis. -/
def nxt (c : Dev nD) : Dev nD := ⟨(c.val / 16) * 16 + ((c.val / 4 + 1) % 4) * 4 + c.val % 4, by have := c.isLt; simp only [nD] at *; omega⟩
set_option backward.proofsInPublic true in
/-- The device before along the mesh's second axis. -/
def prv (c : Dev nD) : Dev nD := ⟨(c.val / 16) * 16 + ((c.val / 4 + 3) % 4) * 4 + c.val % 4, by have := c.isLt; simp only [nD] at *; omega⟩

theorem prv_nxt (c : Dev nD) : prv (nxt c) = c := by revert c; decide
theorem nxt_prv (c : Dev nD) : nxt (prv c) = c := by revert c; decide

/-- The ring's step as a permutation of the devices. -/
def ring : Dev nD ≃ Dev nD := ⟨nxt, prv, prv_nxt, nxt_prv⟩

/-- The device `n` steps before. -/
def back : ℕ → Dev nD → Dev nD
  | 0, c => c
  | n + 1, c => back n (prv c)

theorem back_nxt (n : ℕ) (c : Dev nD) : back (n + 1) (nxt c) = back n c := by
  show back n (prv (nxt c)) = _
  rw [prv_nxt]

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = nxt c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = nxt c := by revert c; decide +kernel
theorem dev13_eq (c : Dev nD) : (⟨k0_dev13 c, k0_dev13_lt c⟩ : Dev nD) = nxt c := by revert c; decide +kernel
theorem dev14_eq (c : Dev nD) : (⟨k0_dev14 c, k0_dev14_lt c⟩ : Dev nD) = nxt c := by revert c; decide +kernel
theorem dev15_eq (c : Dev nD) : (⟨k0_dev15 c, k0_dev15_lt c⟩ : Dev nD) = nxt c := by revert c; decide +kernel
theorem dev16_eq (c : Dev nD) : (⟨k0_dev16 c, k0_dev16_lt c⟩ : Dev nD) = nxt c := by revert c; decide +kernel
theorem dev17_eq (c : Dev nD) : (⟨k0_dev17 c, k0_dev17_lt c⟩ : Dev nD) = nxt c := by revert c; decide +kernel
theorem dev18_eq (c : Dev nD) : (⟨k0_dev18 c, k0_dev18_lt c⟩ : Dev nD) = nxt c := by revert c; decide +kernel
theorem dev19_eq (c : Dev nD) : (⟨k0_dev19 c, k0_dev19_lt c⟩ : Dev nD) = nxt c := by revert c; decide +kernel
theorem dev20_eq (c : Dev nD) : (⟨k0_dev20 c, k0_dev20_lt c⟩ : Dev nD) = nxt c := by revert c; decide +kernel

/-! ## The semaphores -/

/-- The number, among the eighteen, of the semaphores copy `i` completes on. -/
abbrev kOf (i : ℕ) : ℕ := (i % 3 * 6 + i / 3) % 18
theorem kOf_lt (i : ℕ) : kOf i < 18 := Nat.mod_lt _ (by decide)

/-- The runtime's barrier semaphore; copy `i`'s send semaphore; copy `i`'s receive semaphore. -/
abbrev barS : Sem sig := (SemArray.scalar (sig.barrier 0 rfl) : Sems sig S_).sem
def sS (i : ℕ) : DmaSem sig := ⟨9 + kOf i, by have := kOf_lt i; simp only [sig]; omega⟩
def rS (i : ℕ) : DmaSem sig := ⟨27 + kOf i, by have := kOf_lt i; simp only [sig]; omega⟩

abbrev barCell (c : Dev nD) : GSem nD τ sig := ((c : Thread nD τ), .reg barS)
abbrev sendCell (c : Dev nD) (i : ℕ) : GSem nD τ sig := ((c : Thread nD τ), .dma (sS i))
abbrev recvCell (c : Dev nD) (i : ℕ) : GSem nD τ sig := ((c : Thread nD τ), .dma (rS i))

/-! ## The pieces -/

abbrev cM : Memref sig .tc .vmem S4x1024x128 .bf16 := Memref.whole cc0_scratch0
abbrev kM : Memref sig .tc .vmem S4x128x2048 .bf16 := Memref.whole cc0_scratch1
abbrev vM : Memref sig .tc .vmem S4x128x2048 .bf16 := Memref.whole cc0_scratch2

/-- Where piece `p` begins in the first buffer, and in each of the other two. -/
abbrev offC (p : ℕ) : Fin 3 → ℕ := ![p / 6 % 4, 512 * (p / 3 % 2), 0]
abbrev offW (p : ℕ) : Fin 3 → ℕ := ![p / 6 % 4, 64 * (p / 3 % 2), 0]

theorem inbC (p : ℕ) : ∀ a, offC p a + S1x512x128.size a ≤ S4x1024x128.size a := by
  intro a
  fin_cases a
  · show p / 6 % 4 + 1 ≤ 4; omega
  · show 512 * (p / 3 % 2) + 512 ≤ 1024; omega
  · show 0 + 128 ≤ 128; omega
theorem inbW (p : ℕ) : ∀ a, offW p a + S1x64x2048.size a ≤ S4x128x2048.size a := by
  intro a
  fin_cases a
  · show p / 6 % 4 + 1 ≤ 4; omega
  · show 64 * (p / 3 % 2) + 64 ≤ 128; omega
  · show 0 + 2048 ≤ 2048; omega

abbrev recC (p : ℕ) : Rect S4x1024x128 := Rect.unit (s := S4x1024x128) (offC p) S1x512x128.size (inbC p)
abbrev recW (p : ℕ) : Rect S4x128x2048 := Rect.unit (s := S4x128x2048) (offW p) S1x64x2048.size (inbW p)

abbrev pcC (p : ℕ) : Memref sig .tc .vmem S512x128 .bf16 :=
  (cM.slice (recC p) (fun _ => rfl)).squeeze S512x128 squeezes_S1x512x128_S512x128
abbrev pcK (p : ℕ) : Memref sig .tc .vmem S64x2048 .bf16 :=
  (kM.slice (recW p) (fun _ => rfl)).squeeze S64x2048 squeezes_S1x64x2048_S64x2048
abbrev pcV (p : ℕ) : Memref sig .tc .vmem S64x2048 .bf16 :=
  (vM.slice (recW p) (fun _ => rfl)).squeeze S64x2048 squeezes_S1x64x2048_S64x2048

theorem sem_check1 : ((cc0_scratch9.slice (Rect.unit (s := S18) ![6] S1.size inb_S18_S1_6)).squeeze S_ squeezes_S1_S_).sem = sS 1 := rfl
theorem sem_check2 : ((cc0_scratch10.slice (Rect.unit (s := S18) ![0] S1.size inb_S18_S1_0)).squeeze S_ squeezes_S1_S_).sem = rS 0 := rfl
theorem mem_check : (cM.slice (Rect.unit (s := S4x1024x128) ![1, 0, 0] S1x512x128.size inb_S4x1024x128_S1x512x128_1_0_0) (fun _ => rfl)).squeeze S512x128 squeezes_S1x512x128_S512x128 = pcC 6 := rfl

/-- The elements of piece `p`. -/
abbrev setC (p : ℕ) : Finset S4x1024x128.Idx := (pcC p).view.set

theorem mem_pcC (p : ℕ) (e : S4x1024x128.Idx) :
    e ∈ setC p ↔ (e 0).val = p / 6 % 4 ∧ (e 1).val / 512 = p / 3 % 2 := by
  rw [show setC p = ((View.whole cc0_scratch0).slice (recC p)).set from View.set_reshape _ _]
  refine (ValueKit.mem_set_slice_whole_iff cc0_scratch0 (recC p) e Rect.mem_set_unit).trans ?_
  have h0 : (e 0).val < 4 := (e 0).isLt
  have h1 : (e 1).val < 1024 := (e 1).isLt
  have h2 : (e 2).val < 128 := (e 2).isLt
  refine (Fin.forall_fin_succ (n := 2)).trans ((and_congr Iff.rfl (Fin.forall_fin_succ (n := 1))).trans ?_)
  refine (and_congr Iff.rfl (and_congr Iff.rfl Fin.forall_fin_one)).trans ?_
  show (p / 6 % 4 ≤ (e 0).val ∧ (e 0).val < p / 6 % 4 + 1) ∧ (512 * (p / 3 % 2) ≤ (e 1).val ∧ (e 1).val < 512 * (p / 3 % 2) + 512) ∧ (0 ≤ (e 2).val ∧ (e 2).val < 0 + 128) ↔ _
  omega
/-- The elements of piece `p`. -/
abbrev setK (p : ℕ) : Finset S4x128x2048.Idx := (pcK p).view.set

theorem mem_pcK (p : ℕ) (e : S4x128x2048.Idx) :
    e ∈ setK p ↔ (e 0).val = p / 6 % 4 ∧ (e 1).val / 64 = p / 3 % 2 := by
  rw [show setK p = ((View.whole cc0_scratch1).slice (recW p)).set from View.set_reshape _ _]
  refine (ValueKit.mem_set_slice_whole_iff cc0_scratch1 (recW p) e Rect.mem_set_unit).trans ?_
  have h0 : (e 0).val < 4 := (e 0).isLt
  have h1 : (e 1).val < 128 := (e 1).isLt
  have h2 : (e 2).val < 2048 := (e 2).isLt
  refine (Fin.forall_fin_succ (n := 2)).trans ((and_congr Iff.rfl (Fin.forall_fin_succ (n := 1))).trans ?_)
  refine (and_congr Iff.rfl (and_congr Iff.rfl Fin.forall_fin_one)).trans ?_
  show (p / 6 % 4 ≤ (e 0).val ∧ (e 0).val < p / 6 % 4 + 1) ∧ (64 * (p / 3 % 2) ≤ (e 1).val ∧ (e 1).val < 64 * (p / 3 % 2) + 64) ∧ (0 ≤ (e 2).val ∧ (e 2).val < 0 + 2048) ↔ _
  omega
/-- The elements of piece `p`. -/
abbrev setV (p : ℕ) : Finset S4x128x2048.Idx := (pcV p).view.set

theorem mem_pcV (p : ℕ) (e : S4x128x2048.Idx) :
    e ∈ setV p ↔ (e 0).val = p / 6 % 4 ∧ (e 1).val / 64 = p / 3 % 2 := by
  rw [show setV p = ((View.whole cc0_scratch2).slice (recW p)).set from View.set_reshape _ _]
  refine (ValueKit.mem_set_slice_whole_iff cc0_scratch2 (recW p) e Rect.mem_set_unit).trans ?_
  have h0 : (e 0).val < 4 := (e 0).isLt
  have h1 : (e 1).val < 128 := (e 1).isLt
  have h2 : (e 2).val < 2048 := (e 2).isLt
  refine (Fin.forall_fin_succ (n := 2)).trans ((and_congr Iff.rfl (Fin.forall_fin_succ (n := 1))).trans ?_)
  refine (and_congr Iff.rfl (and_congr Iff.rfl Fin.forall_fin_one)).trans ?_
  show (p / 6 % 4 ≤ (e 0).val ∧ (e 0).val < p / 6 % 4 + 1) ∧ (64 * (p / 3 % 2) ≤ (e 1).val ∧ (e 1).val < 64 * (p / 3 % 2) + 64) ∧ (0 ≤ (e 2).val ∧ (e 2).val < 0 + 2048) ↔ _
  omega

/-! ## The contents -/

/-- The staged input blocks of device `c`. -/
def xB (c : Dev nD) : Vec F S2x512x2048 .bf16 := m ((c : Thread nD τ).loc main_arg0)
def dB (c : Dev nD) : Vec F S2048x128 .bf16 := m ((c : Thread nD τ).loc main_arg1)
def ukB (c : Dev nD) : Vec F S128x2048 .bf16 := m ((c : Thread nD τ).loc main_arg2)
def uvB (c : Dev nD) : Vec F S128x2048 .bf16 := m ((c : Thread nD τ).loc main_arg3)
def wqB (c : Dev nD) : Vec F S2048x2048 .bf16 := m ((c : Thread nD τ).loc main_arg4)
def wqrB (c : Dev nD) : Vec F S2048x512 .bf16 := m ((c : Thread nD τ).loc main_arg5)
def wkrB (c : Dev nD) : Vec F S2048x32 .bf16 := m ((c : Thread nD τ).loc main_arg6)
def woB (c : Dev nD) : Vec F S2048x2048 .bf16 := m ((c : Thread nD τ).loc main_arg7)

/-- The input flattened to rows; and what device `c` puts into slot `0` of the three travelling buffers. -/
def xF (c : Dev nD) : FVec F S1024x2048 .bf16 := k0_pay3 (xB m c)
def ownC (c : Dev nD) : FVec F S1x1024x128 .bf16 := k0_pay4 (xF m c) (dB m c)
def ownK (c : Dev nD) : FVec F S1x128x2048 .bf16 := k0_pay5 (ukB m c)
def ownV (c : Dev nD) : FVec F S1x128x2048 .bf16 := k0_pay6 (uvB m c)

/-- What the three travelling buffers of device `c` end up holding: slot `h` the block of the device `h` steps before. -/
def gC (c : Dev nD) : Buf (Elt F) ((c : Thread nD τ).loc cc0_scratch0) :=
  fun (e : S4x1024x128.Idx) => ownC m (back (e 0).val c) (ix3 (0 : Fin 1) (e 1) (e 2))
def gK (c : Dev nD) : Buf (Elt F) ((c : Thread nD τ).loc cc0_scratch1) :=
  fun (e : S4x128x2048.Idx) => ownK m (back (e 0).val c) (ix3 (0 : Fin 1) (e 1) (e 2))
def gV (c : Dev nD) : Buf (Elt F) ((c : Thread nD τ).loc cc0_scratch2) :=
  fun (e : S4x128x2048.Idx) => ownV m (back (e 0).val c) (ix3 (0 : Fin 1) (e 1) (e 2))

/-- An element of a view sits under one of its indices. -/
theorem exists_emb {κ : Kind} {sp : Space} {s : Shape} {e : EltTy} (v : View sig κ sp s e) (i : v.ty.Idx) (h : i ∈ v.set) : ∃ j, v.emb j = i := by
  obtain ⟨j, -, hj⟩ := Finset.mem_map.mp h
  exact ⟨j, hj⟩

/-- What is read off one view and written through another is `g` on the latter, if the sources agree with it index by index. -/
theorem write_read_eq {κ κ' : Kind} {sp sp' : Space} {s : Shape} {e : EltTy} (v : View sig κ sp s e) (v' : View sig κ' sp' s e)
    (f : v.ty.Contents (Elt F)) (fd g : v'.ty.Contents (Elt F)) (h : ∀ j, v.read (Elt F) f j = v'.read (Elt F) g j) (i : v'.ty.Idx) (hi : i ∈ v'.set) :
    v'.write (Elt F) fd (v.read (Elt F) f) Finset.univ i = g i := by
  obtain ⟨j, rfl⟩ := exists_emb v' i hi
  rw [View.write_emb_of_mem _ _ (Finset.mem_univ _), h j, View.read_apply]
  simp

/-! ## What lands, what a load of a slot reads, what the store into slot `0` leaves -/

theorem land_C (c : Dev nD) (p : ℕ) (hp : p < 18) (j : S512x128.Idx) :
    View.read (Elt F) (pcC p).view (gC m c) j = View.read (Elt F) (pcC (p + 6)).view (gC m (nxt c)) j := by
  show gC m c ((recC p).emb (Shape.reshapeEquiv _ j)) = gC m (nxt c) ((recC (p + 6)).emb (Shape.reshapeEquiv _ j))
  generalize Shape.reshapeEquiv _ j = j'
  have hh : ((recC (p + 6)).emb j' 0).val = ((recC p).emb j' 0).val + 1 := by
    rw [ValueKit.rect_emb_unit_val, ValueKit.rect_emb_unit_val]
    show (p + 6) / 6 % 4 + (j' 0).val = p / 6 % 4 + (j' 0).val + 1
    rw [show (p + 6) / 6 % 4 = p / 6 % 4 + 1 by omega, Nat.add_right_comm]
  have h1 : (recC p).emb j' 1 = (recC (p + 6)).emb j' 1 := Fin.ext (by
    rw [ValueKit.rect_emb_unit_val, ValueKit.rect_emb_unit_val]
    show 512 * (p / 3 % 2) + (j' 1).val = 512 * ((p + 6) / 3 % 2) + (j' 1).val
    rw [show (p + 6) / 3 % 2 = p / 3 % 2 by omega])
  have h2 : (recC p).emb j' 2 = (recC (p + 6)).emb j' 2 := Fin.ext (by
    rw [ValueKit.rect_emb_unit_val, ValueKit.rect_emb_unit_val]
    rfl)
  unfold gC
  rw [hh, back_nxt, h1, h2]

theorem slot_mem_C (h : ℕ) (hh : h < 4) (inb : ∀ a, (![h, 0, 0] : Fin 3 → ℕ) a + S1x1024x128.size a ≤ S4x1024x128.size a) :
    (cM : Memref sig .tc .vmem S4x1024x128 .bf16).view.setOn (Rect.unit (s := S4x1024x128) ![h, 0, 0] S1x1024x128.size inb).toLoadRect.set
      ⊆ setC (6 * h + 0) ∪ setC (6 * h + 0 + 3) := by
  intro e he
  have he' : e ∈ (Rect.unit (s := S4x1024x128) ![h, 0, 0] S1x1024x128.size inb).set := by
    obtain ⟨x, hx, rfl⟩ := Finset.mem_map.mp he
    exact hx
  have h0 := Rect.mem_set_unit.mp he' 0
  have h1 : (e 1).val < 1024 := (e 1).isLt
  have h0' : h ≤ (e 0).val ∧ (e 0).val < h + 1 := h0
  rw [Finset.mem_union, mem_pcC, mem_pcC]
  omega

theorem slot_read_C (c : Dev nD) (h : ℕ) (inb : ∀ a, (![h, 0, 0] : Fin 3 → ℕ) a + S1x1024x128.size a ≤ S4x1024x128.size a) :
    (cM : Memref sig .tc .vmem S4x1024x128 .bf16).view.readAt (Elt F) (Rect.unit (s := S4x1024x128) ![h, 0, 0] S1x1024x128.size inb).toLoadRect (gC m c)
      = ownC m (back h c) := by
  funext j
  show gC m c ((Rect.unit (s := S4x1024x128) ![h, 0, 0] S1x1024x128.size inb).emb j) = _
  have hj0 : (j 0).val < 1 := (j 0).isLt
  have hh : ((Rect.unit (s := S4x1024x128) ![h, 0, 0] S1x1024x128.size inb).emb j 0).val = h := by
    rw [ValueKit.rect_emb_unit_val]
    show h + (j 0).val = h
    omega
  unfold gC
  rw [hh]
  refine congrArg _ ((congrArg₂ (ix3 (0 : Fin 1)) (Fin.ext ?_) (Fin.ext ?_)).trans ((congrArg (fun z => ix3 z (j 1) (j 2)) (Fin.ext (by omega : (0 : ℕ) = (j 0).val))).trans (eq_ix3 j).symm))
  · rw [ValueKit.rect_emb_unit_val]; exact Nat.zero_add _
  · rw [ValueKit.rect_emb_unit_val]; exact Nat.zero_add _

theorem slot_write_C (c : Dev nD) (f : Buf (Elt F) ((c : Thread nD τ).loc cc0_scratch0)) (inb : ∀ a, (![0, 0, 0] : Fin 3 → ℕ) a + S1x1024x128.size a ≤ S4x1024x128.size a) (e : S4x1024x128.Idx) (he : (e 0).val = 0) :
    ((cM : Memref sig .tc .vmem S4x1024x128 .bf16).access (Rect.unit (s := S4x1024x128) ![0, 0, 0] S1x1024x128.size inb)).write (Elt F) f (ownC m c) Finset.univ e = gC m c e := by
  have hmem : e ∈ ((cM : Memref sig .tc .vmem S4x1024x128 .bf16).access (Rect.unit (s := S4x1024x128) ![0, 0, 0] S1x1024x128.size inb)).set :=
    (ValueKit.mem_set_slice_whole_iff cc0_scratch0 _ e Rect.mem_set_unit).mpr fun a => by
      have := (e a).isLt
      fin_cases a
      · exact ⟨Nat.zero_le _, by show (e 0).val < 0 + 1; omega⟩
      · exact ⟨Nat.zero_le _, by show (e 1).val < 0 + 1024; rw [Nat.zero_add]; exact (e 1).isLt⟩
      · exact ⟨Nat.zero_le _, by show (e 2).val < 0 + 128; rw [Nat.zero_add]; exact (e 2).isLt⟩
  obtain ⟨j, -, rfl⟩ := Finset.mem_map.mp hmem
  rw [View.write_emb_of_mem _ _ (Finset.mem_univ _)]
  exact (congrFun (slot_read_C m c 0 inb) j).symm

theorem land_K (c : Dev nD) (p : ℕ) (hp : p < 18) (j : S64x2048.Idx) :
    View.read (Elt F) (pcK p).view (gK m c) j = View.read (Elt F) (pcK (p + 6)).view (gK m (nxt c)) j := by
  show gK m c ((recW p).emb (Shape.reshapeEquiv _ j)) = gK m (nxt c) ((recW (p + 6)).emb (Shape.reshapeEquiv _ j))
  generalize Shape.reshapeEquiv _ j = j'
  have hh : ((recW (p + 6)).emb j' 0).val = ((recW p).emb j' 0).val + 1 := by
    rw [ValueKit.rect_emb_unit_val, ValueKit.rect_emb_unit_val]
    show (p + 6) / 6 % 4 + (j' 0).val = p / 6 % 4 + (j' 0).val + 1
    rw [show (p + 6) / 6 % 4 = p / 6 % 4 + 1 by omega, Nat.add_right_comm]
  have h1 : (recW p).emb j' 1 = (recW (p + 6)).emb j' 1 := Fin.ext (by
    rw [ValueKit.rect_emb_unit_val, ValueKit.rect_emb_unit_val]
    show 64 * (p / 3 % 2) + (j' 1).val = 64 * ((p + 6) / 3 % 2) + (j' 1).val
    rw [show (p + 6) / 3 % 2 = p / 3 % 2 by omega])
  have h2 : (recW p).emb j' 2 = (recW (p + 6)).emb j' 2 := Fin.ext (by
    rw [ValueKit.rect_emb_unit_val, ValueKit.rect_emb_unit_val]
    rfl)
  unfold gK
  rw [hh, back_nxt, h1, h2]

theorem slot_mem_K (h : ℕ) (hh : h < 4) (inb : ∀ a, (![h, 0, 0] : Fin 3 → ℕ) a + S1x128x2048.size a ≤ S4x128x2048.size a) :
    (kM : Memref sig .tc .vmem S4x128x2048 .bf16).view.setOn (Rect.unit (s := S4x128x2048) ![h, 0, 0] S1x128x2048.size inb).toLoadRect.set
      ⊆ setK (6 * h + 1) ∪ setK (6 * h + 1 + 3) := by
  intro e he
  have he' : e ∈ (Rect.unit (s := S4x128x2048) ![h, 0, 0] S1x128x2048.size inb).set := by
    obtain ⟨x, hx, rfl⟩ := Finset.mem_map.mp he
    exact hx
  have h0 := Rect.mem_set_unit.mp he' 0
  have h1 : (e 1).val < 128 := (e 1).isLt
  have h0' : h ≤ (e 0).val ∧ (e 0).val < h + 1 := h0
  rw [Finset.mem_union, mem_pcK, mem_pcK]
  omega

theorem slot_read_K (c : Dev nD) (h : ℕ) (inb : ∀ a, (![h, 0, 0] : Fin 3 → ℕ) a + S1x128x2048.size a ≤ S4x128x2048.size a) :
    (kM : Memref sig .tc .vmem S4x128x2048 .bf16).view.readAt (Elt F) (Rect.unit (s := S4x128x2048) ![h, 0, 0] S1x128x2048.size inb).toLoadRect (gK m c)
      = ownK m (back h c) := by
  funext j
  show gK m c ((Rect.unit (s := S4x128x2048) ![h, 0, 0] S1x128x2048.size inb).emb j) = _
  have hj0 : (j 0).val < 1 := (j 0).isLt
  have hh : ((Rect.unit (s := S4x128x2048) ![h, 0, 0] S1x128x2048.size inb).emb j 0).val = h := by
    rw [ValueKit.rect_emb_unit_val]
    show h + (j 0).val = h
    omega
  unfold gK
  rw [hh]
  refine congrArg _ ((congrArg₂ (ix3 (0 : Fin 1)) (Fin.ext ?_) (Fin.ext ?_)).trans ((congrArg (fun z => ix3 z (j 1) (j 2)) (Fin.ext (by omega : (0 : ℕ) = (j 0).val))).trans (eq_ix3 j).symm))
  · rw [ValueKit.rect_emb_unit_val]; exact Nat.zero_add _
  · rw [ValueKit.rect_emb_unit_val]; exact Nat.zero_add _

theorem slot_write_K (c : Dev nD) (f : Buf (Elt F) ((c : Thread nD τ).loc cc0_scratch1)) (inb : ∀ a, (![0, 0, 0] : Fin 3 → ℕ) a + S1x128x2048.size a ≤ S4x128x2048.size a) (e : S4x128x2048.Idx) (he : (e 0).val = 0) :
    ((kM : Memref sig .tc .vmem S4x128x2048 .bf16).access (Rect.unit (s := S4x128x2048) ![0, 0, 0] S1x128x2048.size inb)).write (Elt F) f (ownK m c) Finset.univ e = gK m c e := by
  have hmem : e ∈ ((kM : Memref sig .tc .vmem S4x128x2048 .bf16).access (Rect.unit (s := S4x128x2048) ![0, 0, 0] S1x128x2048.size inb)).set :=
    (ValueKit.mem_set_slice_whole_iff cc0_scratch1 _ e Rect.mem_set_unit).mpr fun a => by
      have := (e a).isLt
      fin_cases a
      · exact ⟨Nat.zero_le _, by show (e 0).val < 0 + 1; omega⟩
      · exact ⟨Nat.zero_le _, by show (e 1).val < 0 + 128; rw [Nat.zero_add]; exact (e 1).isLt⟩
      · exact ⟨Nat.zero_le _, by show (e 2).val < 0 + 2048; rw [Nat.zero_add]; exact (e 2).isLt⟩
  obtain ⟨j, -, rfl⟩ := Finset.mem_map.mp hmem
  rw [View.write_emb_of_mem _ _ (Finset.mem_univ _)]
  exact (congrFun (slot_read_K m c 0 inb) j).symm

theorem land_V (c : Dev nD) (p : ℕ) (hp : p < 18) (j : S64x2048.Idx) :
    View.read (Elt F) (pcV p).view (gV m c) j = View.read (Elt F) (pcV (p + 6)).view (gV m (nxt c)) j := by
  show gV m c ((recW p).emb (Shape.reshapeEquiv _ j)) = gV m (nxt c) ((recW (p + 6)).emb (Shape.reshapeEquiv _ j))
  generalize Shape.reshapeEquiv _ j = j'
  have hh : ((recW (p + 6)).emb j' 0).val = ((recW p).emb j' 0).val + 1 := by
    rw [ValueKit.rect_emb_unit_val, ValueKit.rect_emb_unit_val]
    show (p + 6) / 6 % 4 + (j' 0).val = p / 6 % 4 + (j' 0).val + 1
    rw [show (p + 6) / 6 % 4 = p / 6 % 4 + 1 by omega, Nat.add_right_comm]
  have h1 : (recW p).emb j' 1 = (recW (p + 6)).emb j' 1 := Fin.ext (by
    rw [ValueKit.rect_emb_unit_val, ValueKit.rect_emb_unit_val]
    show 64 * (p / 3 % 2) + (j' 1).val = 64 * ((p + 6) / 3 % 2) + (j' 1).val
    rw [show (p + 6) / 3 % 2 = p / 3 % 2 by omega])
  have h2 : (recW p).emb j' 2 = (recW (p + 6)).emb j' 2 := Fin.ext (by
    rw [ValueKit.rect_emb_unit_val, ValueKit.rect_emb_unit_val]
    rfl)
  unfold gV
  rw [hh, back_nxt, h1, h2]

theorem slot_mem_V (h : ℕ) (hh : h < 4) (inb : ∀ a, (![h, 0, 0] : Fin 3 → ℕ) a + S1x128x2048.size a ≤ S4x128x2048.size a) :
    (vM : Memref sig .tc .vmem S4x128x2048 .bf16).view.setOn (Rect.unit (s := S4x128x2048) ![h, 0, 0] S1x128x2048.size inb).toLoadRect.set
      ⊆ setV (6 * h + 2) ∪ setV (6 * h + 2 + 3) := by
  intro e he
  have he' : e ∈ (Rect.unit (s := S4x128x2048) ![h, 0, 0] S1x128x2048.size inb).set := by
    obtain ⟨x, hx, rfl⟩ := Finset.mem_map.mp he
    exact hx
  have h0 := Rect.mem_set_unit.mp he' 0
  have h1 : (e 1).val < 128 := (e 1).isLt
  have h0' : h ≤ (e 0).val ∧ (e 0).val < h + 1 := h0
  rw [Finset.mem_union, mem_pcV, mem_pcV]
  omega

theorem slot_read_V (c : Dev nD) (h : ℕ) (inb : ∀ a, (![h, 0, 0] : Fin 3 → ℕ) a + S1x128x2048.size a ≤ S4x128x2048.size a) :
    (vM : Memref sig .tc .vmem S4x128x2048 .bf16).view.readAt (Elt F) (Rect.unit (s := S4x128x2048) ![h, 0, 0] S1x128x2048.size inb).toLoadRect (gV m c)
      = ownV m (back h c) := by
  funext j
  show gV m c ((Rect.unit (s := S4x128x2048) ![h, 0, 0] S1x128x2048.size inb).emb j) = _
  have hj0 : (j 0).val < 1 := (j 0).isLt
  have hh : ((Rect.unit (s := S4x128x2048) ![h, 0, 0] S1x128x2048.size inb).emb j 0).val = h := by
    rw [ValueKit.rect_emb_unit_val]
    show h + (j 0).val = h
    omega
  unfold gV
  rw [hh]
  refine congrArg _ ((congrArg₂ (ix3 (0 : Fin 1)) (Fin.ext ?_) (Fin.ext ?_)).trans ((congrArg (fun z => ix3 z (j 1) (j 2)) (Fin.ext (by omega : (0 : ℕ) = (j 0).val))).trans (eq_ix3 j).symm))
  · rw [ValueKit.rect_emb_unit_val]; exact Nat.zero_add _
  · rw [ValueKit.rect_emb_unit_val]; exact Nat.zero_add _

theorem slot_write_V (c : Dev nD) (f : Buf (Elt F) ((c : Thread nD τ).loc cc0_scratch2)) (inb : ∀ a, (![0, 0, 0] : Fin 3 → ℕ) a + S1x128x2048.size a ≤ S4x128x2048.size a) (e : S4x128x2048.Idx) (he : (e 0).val = 0) :
    ((vM : Memref sig .tc .vmem S4x128x2048 .bf16).access (Rect.unit (s := S4x128x2048) ![0, 0, 0] S1x128x2048.size inb)).write (Elt F) f (ownV m c) Finset.univ e = gV m c e := by
  have hmem : e ∈ ((vM : Memref sig .tc .vmem S4x128x2048 .bf16).access (Rect.unit (s := S4x128x2048) ![0, 0, 0] S1x128x2048.size inb)).set :=
    (ValueKit.mem_set_slice_whole_iff cc0_scratch2 _ e Rect.mem_set_unit).mpr fun a => by
      have := (e a).isLt
      fin_cases a
      · exact ⟨Nat.zero_le _, by show (e 0).val < 0 + 1; omega⟩
      · exact ⟨Nat.zero_le _, by show (e 1).val < 0 + 128; rw [Nat.zero_add]; exact (e 1).isLt⟩
      · exact ⟨Nat.zero_le _, by show (e 2).val < 0 + 2048; rw [Nat.zero_add]; exact (e 2).isLt⟩
  obtain ⟨j, -, rfl⟩ := Finset.mem_map.mp hmem
  rw [View.write_emb_of_mem _ _ (Finset.mem_univ _)]
  exact (congrFun (slot_read_V m c 0 inb) j).symm

end Cert.MlaProof

end
-- ==== Proof.Sched.lean ====
/-
# `Sched`: who signals and copies onto which semaphore, how much, in what order, and what each landing hands over

One round each. A device's barrier cell has two duties: `false`, paid by the device before it, handing over nothing, and
`true`, paid by the device after it, handing over that device's landing slots. The cell of receive semaphore `i` has one
duty, paid by copy `i` of the device before: it hands over piece `i + 6`, holding its final contents. The cell of send
semaphore `i` has one duty, paid by the device's own copy `i`: it hands back half a share of piece `i`.
-/
module

public import proofs.«01_k».proof.Proof.Ring

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Pieces as assertions -/

/-- Piece `p` of device `c` at share `q`, holding its final contents. -/
def pc (c : Dev nD) (p : ℕ) (q : PosShare TreeShare) : sProp 𝕄 :=
  if p % 3 = 0 then ((c : Thread nD τ).loc cc0_scratch0) ↦[setC p]{q} gC m c
  else if p % 3 = 1 then ((c : Thread nD τ).loc cc0_scratch1) ↦[setK p]{q} gK m c
  else ((c : Thread nD τ).loc cc0_scratch2) ↦[setV p]{q} gV m c

/-- Piece `p` of device `c`, whole, holding anything. -/
def pcAny (c : Dev nD) (p : ℕ) : sProp 𝕄 :=
  if p % 3 = 0 then iprop(∃ f : Buf (Elt F) ((c : Thread nD τ).loc cc0_scratch0), ((c : Thread nD τ).loc cc0_scratch0) ↦[setC p]{fullShare} f)
  else if p % 3 = 1 then iprop(∃ f : Buf (Elt F) ((c : Thread nD τ).loc cc0_scratch1), ((c : Thread nD τ).loc cc0_scratch1) ↦[setK p]{fullShare} f)
  else iprop(∃ f : Buf (Elt F) ((c : Thread nD τ).loc cc0_scratch2), ((c : Thread nD τ).loc cc0_scratch2) ↦[setV p]{fullShare} f)

theorem pc_C (c : Dev nD) (p : ℕ) (hp : p % 3 = 0) (q : PosShare TreeShare) :
    pc m c p q = (((c : Thread nD τ).loc cc0_scratch0) ↦[setC p]{q} gC m c : sProp 𝕄) := if_pos hp
theorem pc_K (c : Dev nD) (p : ℕ) (hp : p % 3 = 1) (q : PosShare TreeShare) :
    pc m c p q = (((c : Thread nD τ).loc cc0_scratch1) ↦[setK p]{q} gK m c : sProp 𝕄) := (if_neg (by omega)).trans (if_pos hp)
theorem pc_V (c : Dev nD) (p : ℕ) (hp : p % 3 = 2) (q : PosShare TreeShare) :
    pc m c p q = (((c : Thread nD τ).loc cc0_scratch2) ↦[setV p]{q} gV m c : sProp 𝕄) := (if_neg (by omega)).trans (if_neg (by omega))

instance pc_storable (c : Dev nD) (p : ℕ) (q) : BI.Storable (upEmb : UEmb _ 𝕄) (pc (F := F) m c p q) := by
  unfold pc; split
  · infer_instance
  · split <;> infer_instance
instance pcAny_storable (c : Dev nD) (p : ℕ) : BI.Storable (upEmb : UEmb _ 𝕄) (pcAny (F := F) c p) := by
  unfold pcAny; split
  · infer_instance
  · split <;> infer_instance

/-- A piece is its two halves. -/
theorem pc_halves (c : Dev nD) (p : ℕ) : pc m c p fullShare ⊣⊢ (iprop(pc m c p fullShare.left ∗ pc m c p fullShare.right) : sProp 𝕄) := by
  unfold pc
  split
  · exact pointsTo_share (PosShare.mem_left_op_right fullShare)
  · split
    · exact pointsTo_share (PosShare.mem_left_op_right fullShare)
    · exact pointsTo_share (PosShare.mem_left_op_right fullShare)

/-! ## Amounts -/

/-- The amount copy `i` adds to its two semaphores. -/
def nOf (i : ℕ) : ℕ :=
  if i % 3 = 0 then (pcC 0).view.dmaCredit else if i % 3 = 1 then (pcK 0).view.dmaCredit else (pcV 0).view.dmaCredit

theorem nOf_C (i p : ℕ) (hi : i % 3 = 0) : (pcC p).view.dmaCredit = nOf i := by unfold nOf; rw [if_pos hi]
theorem nOf_K (i p : ℕ) (hi : i % 3 = 1) : (pcK p).view.dmaCredit = nOf i := by unfold nOf; rw [if_neg (by omega), if_pos hi]
theorem nOf_V (i p : ℕ) (hi : i % 3 = 2) : (pcV p).view.dmaCredit = nOf i := by unfold nOf; rw [if_neg (by omega), if_neg (by omega)]
theorem nOf_pos (i : ℕ) : 0 < nOf i := by
  unfold nOf
  split
  · exact View.dmaCredit_pos _ (by decide)
  · split
    · exact View.dmaCredit_pos _ (by decide)
    · exact View.dmaCredit_pos _ (by decide)

/-- The copy a semaphore's number belongs to. -/
def iOf (k : ℕ) : ℕ := k % 6 * 3 + k / 6
theorem iOf_kOf (i : ℕ) (hi : i < 18) : iOf (kOf i) = i := by revert i; decide

/-! ## The schedule -/

/-- What the signal of the device after `c` hands `c`: that device's landing slots. -/
def barPay (c : Dev nD) : sProp 𝕄 := bigSep (Finset.Ico 6 24) fun p => pcAny (nxt c) p

def duties (g : GSem nD τ sig) : Finset Bool :=
  match g.2 with
  | .reg s => if s = barS then Finset.univ else ∅
  | .dma q => if 9 ≤ q.val then {false} else ∅

def amt (g : GSem nD τ sig) : ℕ :=
  match g.2 with
  | .reg _ => 1
  | .dma q => if 27 ≤ q.val then nOf (iOf (q.val - 27)) else nOf (iOf (q.val - 9))

def pay (g : GSem nD τ sig) (d : Bool) : sProp 𝕄 :=
  match g.2 with
  | .reg _ => if d then barPay g.1.1 else iprop(emp)
  | .dma q => if 27 ≤ q.val then pc m g.1.1 (iOf (q.val - 27) + 6) fullShare else pc m g.1.1 (iOf (q.val - 9)) fullShare.right

instance pay_storable (g : GSem nD τ sig) (d : Bool) : BI.Storable (upEmb : UEmb _ 𝕄) (pay (F := F) m g d) := by
  unfold pay barPay
  split <;> split <;> infer_instance

def ringRd : Rounds.Schedule (GSem nD τ sig) Bool 𝕄 where
  duties g r := if r = 0 ∧ g.1.2 = .tc then duties g else ∅
  unitless _ := False
  amount g _ _ := amt g
  payload g _ d := pay m g d
  amount_pos g _ _ _ := by
    unfold amt
    split
    · exact Nat.one_pos
    · split <;> exact nOf_pos _

instance ringRd_payload_storable (g : GSem nD τ sig) (r : ℕ) (d : Bool) :
    BI.Storable (upEmb : UEmb _ 𝕄) ((ringRd (F := F) m).payload g r d) := pay_storable m g d

section Tables
variable (c : Dev nD) (i : ℕ)

theorem duties_bar : (ringRd (F := F) m).duties (barCell c) 0 = Finset.univ := by
  show (if 0 = 0 ∧ (c : Thread nD τ).2 = .tc then duties (barCell c) else ∅) = _
  rw [if_pos ⟨rfl, rfl⟩]
  show (if barS = barS then Finset.univ else ∅) = _
  rw [if_pos rfl]
theorem duties_send : (ringRd (F := F) m).duties (sendCell c i) 0 = {false} := by
  show (if 0 = 0 ∧ (c : Thread nD τ).2 = .tc then duties (sendCell c i) else ∅) = _
  rw [if_pos ⟨rfl, rfl⟩]
  exact if_pos (show 9 ≤ 9 + kOf i by omega)
theorem duties_recv : (ringRd (F := F) m).duties (recvCell c i) 0 = {false} := by
  show (if 0 = 0 ∧ (c : Thread nD τ).2 = .tc then duties (recvCell c i) else ∅) = _
  rw [if_pos ⟨rfl, rfl⟩]
  exact if_pos (show 9 ≤ 27 + kOf i by omega)
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := rfl
theorem amount_send (d : Bool) (hi : i < 18) : (ringRd (F := F) m).amount (sendCell c i) 0 d = nOf i := by
  show (if 27 ≤ 9 + kOf i then nOf (iOf (9 + kOf i - 27)) else nOf (iOf (9 + kOf i - 9))) = _
  rw [if_neg (by have := kOf_lt i; omega), Nat.add_sub_cancel_left, iOf_kOf i hi]
theorem amount_recv (d : Bool) (hi : i < 18) : (ringRd (F := F) m).amount (recvCell c i) 0 d = nOf i := by
  show (if 27 ≤ 27 + kOf i then nOf (iOf (27 + kOf i - 27)) else nOf (iOf (27 + kOf i - 9))) = _
  rw [if_pos (by omega), Nat.add_sub_cancel_left, iOf_kOf i hi]

theorem payload_bar_true : (ringRd (F := F) m).payload (barCell c) 0 true = barPay c := rfl
theorem payload_bar_false : (ringRd (F := F) m).payload (barCell c) 0 false = iprop(emp) := rfl
theorem payload_send (d : Bool) (hi : i < 18) : (ringRd (F := F) m).payload (sendCell c i) 0 d = pc m c i fullShare.right := by
  show (if 27 ≤ 9 + kOf i then pc m c (iOf (9 + kOf i - 27) + 6) fullShare else pc m c (iOf (9 + kOf i - 9)) fullShare.right) = _
  rw [if_neg (by have := kOf_lt i; omega), Nat.add_sub_cancel_left, iOf_kOf i hi]
theorem payload_recv (d : Bool) (hi : i < 18) : (ringRd (F := F) m).payload (recvCell c i) 0 d = pc m c (i + 6) fullShare := by
  show (if 27 ≤ 27 + kOf i then pc m c (iOf (27 + kOf i - 27) + 6) fullShare else pc m c (iOf (27 + kOf i - 9)) fullShare.right) = _
  rw [if_pos (by omega), Nat.add_sub_cancel_left, iOf_kOf i hi]

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send (hi : i < 18) : (ringRd (F := F) m).expect (sendCell c i) 0 = nOf i := by
  unfold Schedule.expect Schedule.amountOf; rw [duties_send, Finset.sum_singleton, amount_send m c i _ hi]
theorem expect_recv (hi : i < 18) : (ringRd (F := F) m).expect (recvCell c i) 0 = nOf i := by
  unfold Schedule.expect Schedule.amountOf; rw [duties_recv, Finset.sum_singleton, amount_recv m c i _ hi]

/-- A barrier cell's whole round: nothing, and the landing slots of the device after. -/
theorem rest_bar : bigSep ((ringRd (F := F) m).duties (barCell c) 0 \ ∅) (fun d => (ringRd (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send (hi : i < 18) : bigSep ((ringRd (F := F) m).duties (sendCell c i) 0 \ ∅) (fun d => (ringRd (F := F) m).payload (sendCell c i) 0 d) = pc m c i fullShare.right := by
  rw [Finset.sdiff_empty, duties_send, bigSep_singleton, payload_send m c i _ hi]
theorem rest_recv (hi : i < 18) : bigSep ((ringRd (F := F) m).duties (recvCell c i) 0 \ ∅) (fun d => (ringRd (F := F) m).payload (recvCell c i) 0 d) = pc m c (i + 6) fullShare := by
  rw [Finset.sdiff_empty, duties_recv, bigSep_singleton, payload_recv m c i _ hi]

end Tables

/-! ## Stretches of numbers -/

theorem Ico_head {a b : ℕ} (h : a < b) : Finset.Ico a b = insert a (Finset.Ico (a + 1) b) := by
  ext x; rw [Finset.mem_insert, Finset.mem_Ico, Finset.mem_Ico]; omega
theorem Ico_last {a b : ℕ} (h : a ≤ b) : Finset.Ico a (b + 1) = insert b (Finset.Ico a b) := by
  ext x; rw [Finset.mem_insert, Finset.mem_Ico, Finset.mem_Ico]; omega
theorem head_notMem {a b : ℕ} : a ∉ Finset.Ico (a + 1) b := fun h => by rw [Finset.mem_Ico] at h; omega
theorem last_notMem {a b : ℕ} : b ∉ Finset.Ico a b := fun h => by rw [Finset.mem_Ico] at h; omega

/-- The first of a stretch comes off. -/
theorem sep_head {a b : ℕ} (h : a < b) (Φ : ℕ → sProp 𝕄) : bigSep (Finset.Ico a b) Φ = iprop(Φ a ∗ bigSep (Finset.Ico (a + 1) b) Φ) := by
  rw [Ico_head h, bigSep_insert head_notMem]; rfl
/-- One more goes on at the end. -/
theorem sep_last {a b : ℕ} (h : a ≤ b) (Φ : ℕ → sProp 𝕄) : bigSep (Finset.Ico a (b + 1)) Φ = iprop(Φ b ∗ bigSep (Finset.Ico a b) Φ) := by
  rw [Ico_last h, bigSep_insert last_notMem]; rfl

/-! ## What a device owes; the levels -/

/-- What device `c` owes once its first `n` copies are out: the amounts of the others, to the next device's receive cells. -/
def owe (c : Dev nD) (n : ℕ) : CellTallies nD τ sig Unit := ∑ i ∈ Finset.Ico n 18, tallyAt (recvCell (nxt c) i) () (nOf i)

theorem owe_step (c : Dev nD) (n : ℕ) (hn : n < 18) : owe c n = owe c (n + 1) + tallyAt (recvCell (nxt c) n) () (nOf n) := by
  unfold owe
  rw [Ico_head hn, Finset.sum_insert head_notMem, add_comm]
theorem owe_done (c : Dev nD) : owe c 18 = 0 := by unfold owe; rw [Finset.Ico_self, Finset.sum_empty]

/-- What it owes at launch: besides, one unit to each neighbour's barrier cell, in the order it pays them. -/
def O₁ (c : Dev nD) : CellTallies nD τ sig Unit := owe c 0 + tallyAt (barCell (nxt c)) () 1
def O₀ (c : Dev nD) : CellTallies nD τ sig Unit := O₁ c + tallyAt (barCell (prv c)) () 1

theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem owe_pos {c : Dev nD} {n : ℕ} {g : GSem nD τ sig} {u : Unit} (h : 0 < owe c n g u) : ∃ i, n ≤ i ∧ i < 18 ∧ g = recvCell (nxt c) i := by
  unfold owe at h
  rw [Finset.sum_apply, Finsupp.finset_sum_apply] at h
  obtain ⟨i, hi, hp⟩ := Finset.exists_ne_zero_of_sum_ne_zero (Nat.pos_iff_ne_zero.mp h)
  rw [Finset.mem_Ico] at hi
  exact ⟨i, hi.1, hi.2, tally_pos (Nat.pos_iff_ne_zero.mpr hp)⟩

theorem O₀_pos {c : Dev nD} {g : GSem nD τ sig} {u : Unit} (h : 0 < O₀ c g u) :
    (∃ i, i < 18 ∧ g = recvCell (nxt c) i) ∨ g = barCell (nxt c) ∨ g = barCell (prv c) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, h1, h2⟩ := owe_pos h
      exact .inl ⟨i, h1, h2⟩
    · exact .inr (.inl (tally_pos h))
  · exact .inr (.inr (tally_pos h))

def L (g : GSem nD τ sig) : Finset Unit := if g.1.2 = .tc then {()} else ∅
/-- Barrier cells at 1, the receive cell of copy `i` at `2 + i`, everything else at 0. -/
def lv (g : GSem nD τ sig) (_ : Unit) : ℕ :=
  match g.2 with
  | .reg _ => 1
  | .dma q => if 27 ≤ q.val then 2 + iOf (q.val - 27) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (i : ℕ) (hi : i < 18) : lv (recvCell c i) () = 2 + i := by
  show (if 27 ≤ 27 + kOf i then 2 + iOf (27 + kOf i - 27) else 0) = _
  rw [if_pos (by omega), Nat.add_sub_cancel_left, iOf_kOf i hi]
theorem lv_low (c : Dev nD) (q : DmaSem sig) (hq : q.val < 27) : lv ((c : Thread nD τ), .dma q) () = 0 := if_neg (by omega)

/-- A staging semaphore may be waited on at launch, and owing nothing. -/
theorem mayWait_stage (c : Dev nD) (q : DmaSem sig) (hq : q.val < 27) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, _, rfl⟩ | rfl | rfl <;> exact Finset.mem_singleton_self _)
      (fun p hp => by rw [Finset.mem_singleton.mp hp]; exact (lv_low c q hq).le)
      (fun g u hg => by
        rcases O₀_pos hg with ⟨i, hi, rfl⟩ | rfl | rfl
        · show 0 < lv _ (); rw [lv_recv _ i hi]; omega
        · exact Nat.one_pos
        · exact Nat.one_pos)
  · rw [MayWait_zero]; iintro -; iempintro

/-- The barrier may be waited on owing copies only. -/
theorem mayWait_bar (c : Dev nD) :
    (levAts L lv : sProp 𝕄) ⊢ MayWait (c : Thread nD τ) (.reg barS) () (owe c 0) :=
  MayOwe.of_cut (L := L) (lev := lv) 1 (fun p hp => by rw [Finset.mem_singleton.mp hp, L_tc]; exact Finset.mem_singleton_self _)
    (fun g u hg => by obtain ⟨i, _, _, rfl⟩ := owe_pos hg; exact Finset.mem_singleton_self _)
    (fun p hp => by rw [Finset.mem_singleton.mp hp]; exact le_refl 1)
    (fun g u hg => by obtain ⟨i, _, hi, rfl⟩ := owe_pos hg; show 1 < lv _ (); rw [lv_recv _ i hi]; omega)

/-- Receive semaphore `i` may be waited on owing later copies only. -/
theorem mayWait_recv (c : Dev nD) (i n : ℕ) (hi : i < 18) (hn : i < n) :
    (levAts L lv : sProp 𝕄) ⊢ MayWait (c : Thread nD τ) (.dma (rS i)) () (owe c n) :=
  MayOwe.of_cut (L := L) (lev := lv) (2 + i) (fun p hp => by rw [Finset.mem_singleton.mp hp, L_tc]; exact Finset.mem_singleton_self _)
    (fun g u hg => by obtain ⟨i, _, _, rfl⟩ := owe_pos hg; exact Finset.mem_singleton_self _)
    (fun p hp => by rw [Finset.mem_singleton.mp hp]; exact (lv_recv c i hi).le)
    (fun g u hg => by obtain ⟨i', h1, h2, rfl⟩ := owe_pos hg; show 2 + i < lv _ (); rw [lv_recv _ i' h2]; omega)

/-- A send semaphore may be waited on owing copies only. -/
theorem mayWait_send (c : Dev nD) (i n : ℕ) :
    (levAts L lv : sProp 𝕄) ⊢ MayWait (c : Thread nD τ) (.dma (sS i)) () (owe c n) :=
  MayOwe.of_cut (L := L) (lev := lv) 0 (fun p hp => by rw [Finset.mem_singleton.mp hp, L_tc]; exact Finset.mem_singleton_self _)
    (fun g u hg => by obtain ⟨i, _, _, rfl⟩ := owe_pos hg; exact Finset.mem_singleton_self _)
    (fun p hp => by rw [Finset.mem_singleton.mp hp]; exact (lv_low c (sS i) (by have := kOf_lt i; show 9 + kOf i < 27; omega)).le)
    (fun g u hg => by obtain ⟨i', h1, h2, rfl⟩ := owe_pos hg; show 0 < lv _ (); rw [lv_recv _ i' h2]; omega)

end Cert.MlaProof

end
-- ==== Proof.Steps.lean ====
/-
# `Steps`: the ring's state while the body runs, and each of its steps as a rule

`St K c ns nr nw` is what device `c` holds once `ns` of its copies are out, `nr` have landed with it and been waited for,
and `nw` of its own have been waited for: half a share of every piece it has (for its loads), the other half of those not
in flight, the right to start the remaining copies, and its positions on its cells.
-/
module

public import proofs.«01_k».proof.Proof.Sched

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-! ## The cells, numbered; what is known of them -/

/-- A device's cells: number `0` its barrier's, `1 + i` send semaphore `i`'s, `19 + i` receive semaphore `i`'s. -/
def csem (k : ℕ) : SemLoc sig := if k = 0 then .reg barS else if k ≤ 18 then .dma (sS (k - 1)) else .dma (rS (k - 19))
abbrev kcell (c : Dev nD) (k : ℕ) : GSem nD τ sig := ((c : Thread nD τ), csem k)

theorem kcell_bar (c : Dev nD) : kcell c 0 = barCell c := rfl
theorem kcell_send (c : Dev nD) (i : ℕ) (hi : i < 18) : kcell c (1 + i) = sendCell c i := by
  unfold kcell csem
  rw [if_neg (by omega), if_pos (by omega), Nat.add_sub_cancel_left]
theorem kcell_recv (c : Dev nD) (i : ℕ) (hi : i < 18) : kcell c (19 + i) = recvCell c i := by
  unfold kcell csem
  rw [if_neg (by omega), if_neg (by omega), Nat.add_sub_cancel_left]

/-- Every cell's invariant, under the name it was allocated at, and that every cell's round `0` is open. -/
def records (K : Dev nD → ℕ → ℕ) : sProp 𝕄 :=
  iprop((bigSep Finset.univ fun ck : Dev nD × Fin 37 => cellInv ER (ringRd m) (K ck.1 ck.2.val) (kcell ck.1 ck.2.val))
    ∗ bigSep Finset.univ fun ck : Dev nD × Fin 37 => reached ER (kcell ck.1 ck.2.val) 0)

instance records_persistent (K : Dev nD → ℕ → ℕ) : BI.Persistent (records m K) := by unfold records; infer_instance

variable (K : Dev nD → ℕ → ℕ)

theorem inv_all (ck : Dev nD × Fin 37) :
    (bigSep Finset.univ fun ck : Dev nD × Fin 37 => (cellInv ER (ringRd m) (K ck.1 ck.2.val) (kcell ck.1 ck.2.val) : sProp 𝕄))
      ⊢ cellInv ER (ringRd m) (K ck.1 ck.2.val) (kcell ck.1 ck.2.val) := bigSep_elim (Finset.mem_univ ck)
omit [FloatOps F] in
theorem reached_all (ck : Dev nD × Fin 37) :
    (bigSep Finset.univ fun ck : Dev nD × Fin 37 => (reached ER (kcell ck.1 ck.2.val) 0 : sProp 𝕄)) ⊢ reached ER (kcell ck.1 ck.2.val) 0 :=
  bigSep_elim (Finset.mem_univ ck)
theorem inv_at (c : Dev nD) (k : ℕ) (hk : k < 37) : records m K ⊢ cellInv ER (ringRd m) (K c k) (kcell c k) := by
  unfold records
  iintro ⟨H, -⟩
  iapply (inv_all m K (c, ⟨k, hk⟩))
  iexact H
theorem reached_at (c : Dev nD) (k : ℕ) (hk : k < 37) : records m K ⊢ reached ER (kcell c k) 0 := by
  unfold records
  iintro ⟨-, H⟩
  iapply (reached_all (F := F) (c, ⟨k, hk⟩))
  iexact H

theorem inv_bar (c : Dev nD) : records m K ⊢ cellInv ER (ringRd m) (K c 0) (barCell c) := inv_at m K c 0 (by decide)
theorem inv_send (c : Dev nD) (i : ℕ) (hi : i < 18) : records m K ⊢ cellInv ER (ringRd m) (K c (1 + i)) (sendCell c i) := by
  rw [← kcell_send c i hi]; exact inv_at m K c _ (by omega)
theorem inv_recv (c : Dev nD) (i : ℕ) (hi : i < 18) : records m K ⊢ cellInv ER (ringRd m) (K c (19 + i)) (recvCell c i) := by
  rw [← kcell_recv c i hi]; exact inv_at m K c _ (by omega)
theorem reached_bar (c : Dev nD) : records m K ⊢ reached ER (barCell c) 0 := reached_at m K c 0 (by decide)
theorem reached_send (c : Dev nD) (i : ℕ) (hi : i < 18) : records m K ⊢ reached ER (sendCell c i) 0 := by
  rw [← kcell_send c i hi]; exact reached_at m K c _ (by omega)
theorem reached_recv (c : Dev nD) (i : ℕ) (hi : i < 18) : records m K ⊢ reached ER (recvCell c i) 0 := by
  rw [← kcell_recv c i hi]; exact reached_at m K c _ (by omega)

/-! ## The state -/

/-- What copy `i` is started with: its two duties, and the piece it lands in. -/
def sendRes (c : Dev nD) (i : ℕ) : sProp 𝕄 :=
  iprop(dutyTok ER (sendCell c i) 0 false ∗ dutyTok ER (recvCell (nxt c) i) 0 false ∗ pcAny (nxt c) (i + 6))
/-- What receive semaphore `i` is waited on with. -/
def recvRes (c : Dev nD) (i : ℕ) : sProp 𝕄 :=
  iprop(cred (tallyAt (recvCell c i) () (nOf i)) ∗ atPos ER (recvCell c i) 0 ∅ 0)

/-- What every step may look up. -/
def Ctx : sProp 𝕄 := iprop(records m K ∗ levAts L lv)
instance Ctx_persistent : BI.Persistent (Ctx m K) := by unfold Ctx; infer_instance

def St (c : Dev nD) (ns nr nw : ℕ) : sProp 𝕄 :=
  iprop(Ctx m K ∗ (∃ W, owes (c : Thread nD τ) (owe c ns) W)
    ∗ bigSep (Finset.Ico 0 (nr + 6)) (fun p => pc m c p fullShare.left)
    ∗ bigSep (Finset.Ico 0 nw) (fun p => pc m c p fullShare.right)
    ∗ bigSep (Finset.Ico ns (nr + 6)) (fun p => pc m c p fullShare.right)
    ∗ bigSep (Finset.Ico ns 18) (sendRes c)
    ∗ bigSep (Finset.Ico nr 18) (recvRes c)
    ∗ bigSep (Finset.Ico 0 nr) (fun i => atPos ER (recvCell c i) 1 ∅ 0)
    ∗ bigSep (Finset.Ico nw ns) (fun i => cred (tallyAt (sendCell c i) () (nOf i)))
    ∗ bigSep (Finset.Ico nw 18) (fun i => atPos ER (sendCell c i) 0 ∅ 0)
    ∗ bigSep (Finset.Ico 0 nw) (fun i => atPos ER (sendCell c i) 1 ∅ 0))

/-! ## Starting a copy -/

/-- Copy `i`, of the first buffer, as the rounds library starts it. -/
theorem send_core_C (c n : Dev nD) (hn : n = nxt c) (i : ℕ) (hi : i < 18) (hz : i % 3 = 0)
    {hsc : (pcC (i + 6) : Memref sig (Dev.tc n : Thread nD τ).2.kind .vmem S512x128 .bf16).view.ref.isScScratch = false}
    {hsrc : (pcC i).view.WordExact} {hdst : (pcC (i + 6)).view.WordExact}
    {hsem : DmaTarget.Typed .vmem (.dma (rS i)) (.remote (Dev.tc n : Thread nD τ) (pcC (i + 6)) (.dma (sS i)) hsc)}
    {α : Type} {Q : α → sProp 𝕄} {k : PUnit → Prog (TpuEff nD τ sig (Elt F) Λ₀ .tc) α}
    (fn : Buf (Elt F) ((nxt c : Thread nD τ).loc cc0_scratch0)) (W : Waits sig Unit) :
    iprop(cellInv ER (ringRd m) (K c (1 + i)) (sendCell c i) ∗ cellInv ER (ringRd m) (K (nxt c) (19 + i)) (recvCell (nxt c) i)
        ∗ (((c : Thread nD τ).loc cc0_scratch0) ↦[setC i]{fullShare.right} gC m c) ∗ (((nxt c : Thread nD τ).loc cc0_scratch0) ↦[setC (i + 6)]{fullShare} fn)
        ∗ owes (c : Thread nD τ) (owe c i) W
        ∗ dutyTok ER (sendCell c i) 0 false ∗ reached ER (sendCell c i) 0
        ∗ dutyTok ER (recvCell (nxt c) i) 0 false ∗ reached ER (recvCell (nxt c) i) 0)
      ⊢ iprop(((cred (tallyAt (sendCell c i) () (nOf i)) ∗ owes (c : Thread nD τ) (owe c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pcC i) (.remote (Dev.tc n : Thread nD τ) (pcC (i + 6)) (.dma (sS i)) hsc) (.dma (rS i)) hsrc hdst hsem) k) Q) := by
  subst hn
  exact Rounds.wp_send_pointsTo 𝒱₀ ER (ringRd m) (c : Thread nD τ) none (κ₁ := K c (1 + i)) (κ₂ := K (nxt c) (19 + i))
    (c' := (nxt c : Thread nD τ)) (src := pcC i) (dst := pcC (i + 6)) (sS := .dma (sS i)) (sem := .dma (rS i)) (q := fullShare.right)
    (r₁ := 0) (r₂ := 0) (d₁ := false) (d₂ := false) (fs := gC m c) (fd := fn)
    (by rw [duties_send]; exact Finset.mem_singleton_self _) (by rw [duties_recv]; exact Finset.mem_singleton_self _)
    () () (nOf i) (nOf_C i (i + 6) hz) (amount_send m c i false hi) (amount_recv m (nxt c) i false hi) (owe c (i + 1)) (owe_step c i hi) (W := W)
    (by rw [payload_send m c i _ hi, pc_C m c i hz])
    (by
      rw [payload_recv m (nxt c) i _ hi, pc_C m (nxt c) (i + 6) (by omega)]
      exact Entails.of_eq (pointsTo_congr (fun e he => write_read_eq (pcC i).view (pcC (i + 6)).view (gC m c) fn (gC m (nxt c)) (land_C m c i hi) e he)))

/-- Copy `i` of the buffer, on the state. -/
theorem send_C (c n : Dev nD) (hn : n = nxt c) (i nr nw : ℕ) (hi : i < 18) (hz : i % 3 = 0) (hr : i < nr + 6) (hw : nw ≤ i)
    {hsc : (pcC (i + 6) : Memref sig (Dev.tc n : Thread nD τ).2.kind .vmem S512x128 .bf16).view.ref.isScScratch = false}
    {hsrc : (pcC i).view.WordExact} {hdst : (pcC (i + 6)).view.WordExact}
    {hsem : DmaTarget.Typed .vmem (.dma (rS i)) (.remote (Dev.tc n : Thread nD τ) (pcC (i + 6)) (.dma (sS i)) hsc)}
    {α : Type} {Q : α → sProp 𝕄} {k : PUnit → Prog (TpuEff nD τ sig (Elt F) Λ₀ .tc) α} :
    St m K c i nr nw
      ⊢ iprop((St m K c (i + 1) nr nw -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pcC i) (.remote (Dev.tc n : Thread nD τ) (pcC (i + 6)) (.dma (sS i)) hsc) (.dma (rS i)) hsrc hdst hsem) k) Q) := by
  unfold St Ctx
  rw [sep_head hr, sep_head hi, sep_last hw]
  unfold sendRes pcAny
  rw [pc_C m c i hz, if_pos (by omega : (i + 6) % 3 = 0)]
  iintro ⟨⟨#HR, #HL⟩, ⟨%W, HO⟩, Hl, Hrw, ⟨Hp, Hr⟩, ⟨⟨Ht1, Ht2, ⟨%fn, Hd⟩⟩, Hs⟩, Hv, Hv1, Hc, Ha, Ha1⟩ Hk
  iapply (send_core_C m K c n hn i hi hz fn W) $$ [Hp Hd HO Ht1 Ht2]
  · isplitr; · iapply (inv_send m K c i hi); iexact HR
    isplitr; · iapply (inv_recv m K (nxt c) i hi); iexact HR
    isplitl [Hp]; · iexact Hp
    isplitl [Hd]; · iexact Hd
    isplitl [HO]; · iexact HO
    isplitl [Ht1]; · iexact Ht1
    isplitr; · iapply (reached_send m K c i hi); iexact HR
    isplitl [Ht2]; · iexact Ht2
    iapply (reached_recv m K (nxt c) i hi); iexact HR
  iintro ⟨Hc1, HO⟩
  iapply Hk
  isplitr; · isplitl; · iexact HR
             iexact HL
  isplitl [HO]; · iexists W; iexact HO
  isplitl [Hl]; · iexact Hl
  isplitl [Hrw]; · iexact Hrw
  isplitl [Hr]; · iexact Hr
  isplitl [Hs]; · iexact Hs
  isplitl [Hv]; · iexact Hv
  isplitl [Hv1]; · iexact Hv1
  isplitl [Hc Hc1]
  · isplitl [Hc1] <;> iassumption
  isplitl [Ha]; · iexact Ha
  iexact Ha1

/-- Copy `i`, of the second buffer, as the rounds library starts it. -/
theorem send_core_K (c n : Dev nD) (hn : n = nxt c) (i : ℕ) (hi : i < 18) (hz : i % 3 = 1)
    {hsc : (pcK (i + 6) : Memref sig (Dev.tc n : Thread nD τ).2.kind .vmem S64x2048 .bf16).view.ref.isScScratch = false}
    {hsrc : (pcK i).view.WordExact} {hdst : (pcK (i + 6)).view.WordExact}
    {hsem : DmaTarget.Typed .vmem (.dma (rS i)) (.remote (Dev.tc n : Thread nD τ) (pcK (i + 6)) (.dma (sS i)) hsc)}
    {α : Type} {Q : α → sProp 𝕄} {k : PUnit → Prog (TpuEff nD τ sig (Elt F) Λ₀ .tc) α}
    (fn : Buf (Elt F) ((nxt c : Thread nD τ).loc cc0_scratch1)) (W : Waits sig Unit) :
    iprop(cellInv ER (ringRd m) (K c (1 + i)) (sendCell c i) ∗ cellInv ER (ringRd m) (K (nxt c) (19 + i)) (recvCell (nxt c) i)
        ∗ (((c : Thread nD τ).loc cc0_scratch1) ↦[setK i]{fullShare.right} gK m c) ∗ (((nxt c : Thread nD τ).loc cc0_scratch1) ↦[setK (i + 6)]{fullShare} fn)
        ∗ owes (c : Thread nD τ) (owe c i) W
        ∗ dutyTok ER (sendCell c i) 0 false ∗ reached ER (sendCell c i) 0
        ∗ dutyTok ER (recvCell (nxt c) i) 0 false ∗ reached ER (recvCell (nxt c) i) 0)
      ⊢ iprop(((cred (tallyAt (sendCell c i) () (nOf i)) ∗ owes (c : Thread nD τ) (owe c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pcK i) (.remote (Dev.tc n : Thread nD τ) (pcK (i + 6)) (.dma (sS i)) hsc) (.dma (rS i)) hsrc hdst hsem) k) Q) := by
  subst hn
  exact Rounds.wp_send_pointsTo 𝒱₀ ER (ringRd m) (c : Thread nD τ) none (κ₁ := K c (1 + i)) (κ₂ := K (nxt c) (19 + i))
    (c' := (nxt c : Thread nD τ)) (src := pcK i) (dst := pcK (i + 6)) (sS := .dma (sS i)) (sem := .dma (rS i)) (q := fullShare.right)
    (r₁ := 0) (r₂ := 0) (d₁ := false) (d₂ := false) (fs := gK m c) (fd := fn)
    (by rw [duties_send]; exact Finset.mem_singleton_self _) (by rw [duties_recv]; exact Finset.mem_singleton_self _)
    () () (nOf i) (nOf_K i (i + 6) hz) (amount_send m c i false hi) (amount_recv m (nxt c) i false hi) (owe c (i + 1)) (owe_step c i hi) (W := W)
    (by rw [payload_send m c i _ hi, pc_K m c i hz])
    (by
      rw [payload_recv m (nxt c) i _ hi, pc_K m (nxt c) (i + 6) (by omega)]
      exact Entails.of_eq (pointsTo_congr (fun e he => write_read_eq (pcK i).view (pcK (i + 6)).view (gK m c) fn (gK m (nxt c)) (land_K m c i hi) e he)))

/-- Copy `i` of the buffer, on the state. -/
theorem send_K (c n : Dev nD) (hn : n = nxt c) (i nr nw : ℕ) (hi : i < 18) (hz : i % 3 = 1) (hr : i < nr + 6) (hw : nw ≤ i)
    {hsc : (pcK (i + 6) : Memref sig (Dev.tc n : Thread nD τ).2.kind .vmem S64x2048 .bf16).view.ref.isScScratch = false}
    {hsrc : (pcK i).view.WordExact} {hdst : (pcK (i + 6)).view.WordExact}
    {hsem : DmaTarget.Typed .vmem (.dma (rS i)) (.remote (Dev.tc n : Thread nD τ) (pcK (i + 6)) (.dma (sS i)) hsc)}
    {α : Type} {Q : α → sProp 𝕄} {k : PUnit → Prog (TpuEff nD τ sig (Elt F) Λ₀ .tc) α} :
    St m K c i nr nw
      ⊢ iprop((St m K c (i + 1) nr nw -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pcK i) (.remote (Dev.tc n : Thread nD τ) (pcK (i + 6)) (.dma (sS i)) hsc) (.dma (rS i)) hsrc hdst hsem) k) Q) := by
  unfold St Ctx
  rw [sep_head hr, sep_head hi, sep_last hw]
  unfold sendRes pcAny
  rw [pc_K m c i hz, if_neg (by omega : ¬ (i + 6) % 3 = 0), if_pos (by omega : (i + 6) % 3 = 1)]
  iintro ⟨⟨#HR, #HL⟩, ⟨%W, HO⟩, Hl, Hrw, ⟨Hp, Hr⟩, ⟨⟨Ht1, Ht2, ⟨%fn, Hd⟩⟩, Hs⟩, Hv, Hv1, Hc, Ha, Ha1⟩ Hk
  iapply (send_core_K m K c n hn i hi hz fn W) $$ [Hp Hd HO Ht1 Ht2]
  · isplitr; · iapply (inv_send m K c i hi); iexact HR
    isplitr; · iapply (inv_recv m K (nxt c) i hi); iexact HR
    isplitl [Hp]; · iexact Hp
    isplitl [Hd]; · iexact Hd
    isplitl [HO]; · iexact HO
    isplitl [Ht1]; · iexact Ht1
    isplitr; · iapply (reached_send m K c i hi); iexact HR
    isplitl [Ht2]; · iexact Ht2
    iapply (reached_recv m K (nxt c) i hi); iexact HR
  iintro ⟨Hc1, HO⟩
  iapply Hk
  isplitr; · isplitl; · iexact HR
             iexact HL
  isplitl [HO]; · iexists W; iexact HO
  isplitl [Hl]; · iexact Hl
  isplitl [Hrw]; · iexact Hrw
  isplitl [Hr]; · iexact Hr
  isplitl [Hs]; · iexact Hs
  isplitl [Hv]; · iexact Hv
  isplitl [Hv1]; · iexact Hv1
  isplitl [Hc Hc1]
  · isplitl [Hc1] <;> iassumption
  isplitl [Ha]; · iexact Ha
  iexact Ha1

/-- Copy `i`, of the third buffer, as the rounds library starts it. -/
theorem send_core_V (c n : Dev nD) (hn : n = nxt c) (i : ℕ) (hi : i < 18) (hz : i % 3 = 2)
    {hsc : (pcV (i + 6) : Memref sig (Dev.tc n : Thread nD τ).2.kind .vmem S64x2048 .bf16).view.ref.isScScratch = false}
    {hsrc : (pcV i).view.WordExact} {hdst : (pcV (i + 6)).view.WordExact}
    {hsem : DmaTarget.Typed .vmem (.dma (rS i)) (.remote (Dev.tc n : Thread nD τ) (pcV (i + 6)) (.dma (sS i)) hsc)}
    {α : Type} {Q : α → sProp 𝕄} {k : PUnit → Prog (TpuEff nD τ sig (Elt F) Λ₀ .tc) α}
    (fn : Buf (Elt F) ((nxt c : Thread nD τ).loc cc0_scratch2)) (W : Waits sig Unit) :
    iprop(cellInv ER (ringRd m) (K c (1 + i)) (sendCell c i) ∗ cellInv ER (ringRd m) (K (nxt c) (19 + i)) (recvCell (nxt c) i)
        ∗ (((c : Thread nD τ).loc cc0_scratch2) ↦[setV i]{fullShare.right} gV m c) ∗ (((nxt c : Thread nD τ).loc cc0_scratch2) ↦[setV (i + 6)]{fullShare} fn)
        ∗ owes (c : Thread nD τ) (owe c i) W
        ∗ dutyTok ER (sendCell c i) 0 false ∗ reached ER (sendCell c i) 0
        ∗ dutyTok ER (recvCell (nxt c) i) 0 false ∗ reached ER (recvCell (nxt c) i) 0)
      ⊢ iprop(((cred (tallyAt (sendCell c i) () (nOf i)) ∗ owes (c : Thread nD τ) (owe c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pcV i) (.remote (Dev.tc n : Thread nD τ) (pcV (i + 6)) (.dma (sS i)) hsc) (.dma (rS i)) hsrc hdst hsem) k) Q) := by
  subst hn
  exact Rounds.wp_send_pointsTo 𝒱₀ ER (ringRd m) (c : Thread nD τ) none (κ₁ := K c (1 + i)) (κ₂ := K (nxt c) (19 + i))
    (c' := (nxt c : Thread nD τ)) (src := pcV i) (dst := pcV (i + 6)) (sS := .dma (sS i)) (sem := .dma (rS i)) (q := fullShare.right)
    (r₁ := 0) (r₂ := 0) (d₁ := false) (d₂ := false) (fs := gV m c) (fd := fn)
    (by rw [duties_send]; exact Finset.mem_singleton_self _) (by rw [duties_recv]; exact Finset.mem_singleton_self _)
    () () (nOf i) (nOf_V i (i + 6) hz) (amount_send m c i false hi) (amount_recv m (nxt c) i false hi) (owe c (i + 1)) (owe_step c i hi) (W := W)
    (by rw [payload_send m c i _ hi, pc_V m c i hz])
    (by
      rw [payload_recv m (nxt c) i _ hi, pc_V m (nxt c) (i + 6) (by omega)]
      exact Entails.of_eq (pointsTo_congr (fun e he => write_read_eq (pcV i).view (pcV (i + 6)).view (gV m c) fn (gV m (nxt c)) (land_V m c i hi) e he)))

/-- Copy `i` of the buffer, on the state. -/
theorem send_V (c n : Dev nD) (hn : n = nxt c) (i nr nw : ℕ) (hi : i < 18) (hz : i % 3 = 2) (hr : i < nr + 6) (hw : nw ≤ i)
    {hsc : (pcV (i + 6) : Memref sig (Dev.tc n : Thread nD τ).2.kind .vmem S64x2048 .bf16).view.ref.isScScratch = false}
    {hsrc : (pcV i).view.WordExact} {hdst : (pcV (i + 6)).view.WordExact}
    {hsem : DmaTarget.Typed .vmem (.dma (rS i)) (.remote (Dev.tc n : Thread nD τ) (pcV (i + 6)) (.dma (sS i)) hsc)}
    {α : Type} {Q : α → sProp 𝕄} {k : PUnit → Prog (TpuEff nD τ sig (Elt F) Λ₀ .tc) α} :
    St m K c i nr nw
      ⊢ iprop((St m K c (i + 1) nr nw -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pcV i) (.remote (Dev.tc n : Thread nD τ) (pcV (i + 6)) (.dma (sS i)) hsc) (.dma (rS i)) hsrc hdst hsem) k) Q) := by
  unfold St Ctx
  rw [sep_head hr, sep_head hi, sep_last hw]
  unfold sendRes pcAny
  rw [pc_V m c i hz, if_neg (by omega : ¬ (i + 6) % 3 = 0), if_neg (by omega : ¬ (i + 6) % 3 = 1)]
  iintro ⟨⟨#HR, #HL⟩, ⟨%W, HO⟩, Hl, Hrw, ⟨Hp, Hr⟩, ⟨⟨Ht1, Ht2, ⟨%fn, Hd⟩⟩, Hs⟩, Hv, Hv1, Hc, Ha, Ha1⟩ Hk
  iapply (send_core_V m K c n hn i hi hz fn W) $$ [Hp Hd HO Ht1 Ht2]
  · isplitr; · iapply (inv_send m K c i hi); iexact HR
    isplitr; · iapply (inv_recv m K (nxt c) i hi); iexact HR
    isplitl [Hp]; · iexact Hp
    isplitl [Hd]; · iexact Hd
    isplitl [HO]; · iexact HO
    isplitl [Ht1]; · iexact Ht1
    isplitr; · iapply (reached_send m K c i hi); iexact HR
    isplitl [Ht2]; · iexact Ht2
    iapply (reached_recv m K (nxt c) i hi); iexact HR
  iintro ⟨Hc1, HO⟩
  iapply Hk
  isplitr; · isplitl; · iexact HR
             iexact HL
  isplitl [HO]; · iexists W; iexact HO
  isplitl [Hl]; · iexact Hl
  isplitl [Hrw]; · iexact Hrw
  isplitl [Hr]; · iexact Hr
  isplitl [Hs]; · iexact Hs
  isplitl [Hv]; · iexact Hv
  isplitl [Hv1]; · iexact Hv1
  isplitl [Hc Hc1]
  · isplitl [Hc1] <;> iassumption
  isplitl [Ha]; · iexact Ha
  iexact Ha1

/-! ## Waiting -/

/-- The wait for copy `i` of the device before. -/
theorem recv_C (c : Dev nD) (i ns nw : ℕ) (hi : i < 18) (hz : i % 3 = 0) (hs : i < ns) (hs' : ns ≤ i + 6)
    {src : Memref sig .tc .vmem S512x128 .bf16} {hsrc : src.view.WordExact} {hdst : (pcC (i + 6)).view.WordExact}
    {α : Type} {Q : α → sProp 𝕄} {k : PUnit → Prog (TpuEff nD τ sig (Elt F) Λ₀ .tc) α} :
    St m K c ns i nw
      ⊢ iprop((St m K c ns (i + 1) nw -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (rS i) src (pcC (i + 6)) hsrc hdst) k) Q) := by
  unfold St Ctx
  rw [sep_head hi, show i + 1 + 6 = i + 6 + 1 by omega, sep_last (Nat.zero_le (i + 6)), sep_last hs', sep_last (Nat.zero_le i)]
  unfold recvRes
  iintro ⟨⟨#HR, #HL⟩, ⟨%W, HO⟩, Hl, Hrw, Hr, Hs, ⟨⟨Hcr, Hat⟩, Hv⟩, Hv1, Hc, Ha, Ha1⟩ Hk
  iapply (Rounds.wp_wait_rest_token 𝒱₀ ER (ringRd m) (c : Thread nD τ) none (κ := K c (19 + i))
      (wpE_waitDma2_eq 𝒱₀ (c : Thread nD τ) none Set.univ) (Set.mem_univ _) () (O := owe c ns) (W := W) (R := 0) (m := 0) (T := ∅)
      (by rw [Nat.zero_add, expect_recv m c i hi]; exact nOf_C i (i + 6) hz)) $$ [Hcr HO Hat]
  · isplitr; · iapply (inv_recv m K c i hi); iexact HR
    isplitl [Hcr]; · rw [nOf_C i (i + 6) hz]; iexact Hcr
    isplitl [HO]; · iexact HO
    isplitr; · iapply (mayWait_recv c i ns hi hs); iexact HL
    iexact Hat
  iintro ⟨HO, Hat, -, Hpay⟩
  ihave Hp := (Entails.of_eq (rest_recv m c i hi)) $$ Hpay
  ihave Hp2 := (pc_halves m c (i + 6)).1 $$ Hp
  icases Hp2 with ⟨Hpl, Hpr⟩
  iapply Hk
  isplitr; · isplitl; · iexact HR
             iexact HL
  isplitl [HO]; · iexists (insert (SemLoc.dma (rS i), ()) W); iexact HO
  isplitl [Hl Hpl]
  · isplitl [Hpl] <;> iassumption
  isplitl [Hrw]; · iexact Hrw
  isplitl [Hr Hpr]
  · isplitl [Hpr] <;> iassumption
  isplitl [Hs]; · iexact Hs
  isplitl [Hv]; · iexact Hv
  isplitl [Hv1 Hat]
  · isplitl [Hat] <;> iassumption
  isplitl [Hc]; · iexact Hc
  isplitl [Ha]; · iexact Ha
  iexact Ha1

/-- The wait for the device's own copy `i`. -/
theorem done_C (c : Dev nD) (i ns nr : ℕ) (hi : i < 18) (hz : i % 3 = 0) (hs : i < ns)
    {src : Memref sig .tc .vmem S512x128 .bf16} {hsrc : src.view.WordExact} {hdst : (pcC i).view.WordExact}
    {α : Type} {Q : α → sProp 𝕄} {k : PUnit → Prog (TpuEff nD τ sig (Elt F) Λ₀ .tc) α} :
    St m K c ns nr i
      ⊢ iprop((St m K c ns nr (i + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sS i) src (pcC i) hsrc hdst) k) Q) := by
  unfold St Ctx
  rw [sep_head hs, sep_head hi, sep_last (Nat.zero_le i), sep_last (Nat.zero_le i)]
  iintro ⟨⟨#HR, #HL⟩, ⟨%W, HO⟩, Hl, Hrw, Hr, Hs, Hv, Hv1, ⟨Hcr, Hc⟩, ⟨Hat, Ha⟩, Ha1⟩ Hk
  iapply (Rounds.wp_wait_rest_token 𝒱₀ ER (ringRd m) (c : Thread nD τ) none (κ := K c (1 + i))
      (wpE_waitDma2_eq 𝒱₀ (c : Thread nD τ) none Set.univ) (Set.mem_univ _) () (O := owe c ns) (W := W) (R := 0) (m := 0) (T := ∅)
      (by rw [Nat.zero_add, expect_send m c i hi]; exact nOf_C i i hz)) $$ [Hcr HO Hat]
  · isplitr; · iapply (inv_send m K c i hi); iexact HR
    isplitl [Hcr]; · rw [nOf_C i i hz]; iexact Hcr
    isplitl [HO]; · iexact HO
    isplitr; · iapply (mayWait_send c i ns); iexact HL
    iexact Hat
  iintro ⟨HO, Hat, -, Hpay⟩
  ihave Hp := (Entails.of_eq (rest_send m c i hi)) $$ Hpay
  iapply Hk
  isplitr; · isplitl; · iexact HR
             iexact HL
  isplitl [HO]; · iexists (insert (SemLoc.dma (sS i), ()) W); iexact HO
  isplitl [Hl]; · iexact Hl
  isplitl [Hrw Hp]
  · isplitl [Hp] <;> iassumption
  isplitl [Hr]; · iexact Hr
  isplitl [Hs]; · iexact Hs
  isplitl [Hv]; · iexact Hv
  isplitl [Hv1]; · iexact Hv1
  isplitl [Hc]; · iexact Hc
  isplitl [Ha]; · iexact Ha
  isplitl [Hat] <;> iassumption

/-- The wait for copy `i` of the device before. -/
theorem recv_K (c : Dev nD) (i ns nw : ℕ) (hi : i < 18) (hz : i % 3 = 1) (hs : i < ns) (hs' : ns ≤ i + 6)
    {src : Memref sig .tc .vmem S64x2048 .bf16} {hsrc : src.view.WordExact} {hdst : (pcK (i + 6)).view.WordExact}
    {α : Type} {Q : α → sProp 𝕄} {k : PUnit → Prog (TpuEff nD τ sig (Elt F) Λ₀ .tc) α} :
    St m K c ns i nw
      ⊢ iprop((St m K c ns (i + 1) nw -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (rS i) src (pcK (i + 6)) hsrc hdst) k) Q) := by
  unfold St Ctx
  rw [sep_head hi, show i + 1 + 6 = i + 6 + 1 by omega, sep_last (Nat.zero_le (i + 6)), sep_last hs', sep_last (Nat.zero_le i)]
  unfold recvRes
  iintro ⟨⟨#HR, #HL⟩, ⟨%W, HO⟩, Hl, Hrw, Hr, Hs, ⟨⟨Hcr, Hat⟩, Hv⟩, Hv1, Hc, Ha, Ha1⟩ Hk
  iapply (Rounds.wp_wait_rest_token 𝒱₀ ER (ringRd m) (c : Thread nD τ) none (κ := K c (19 + i))
      (wpE_waitDma2_eq 𝒱₀ (c : Thread nD τ) none Set.univ) (Set.mem_univ _) () (O := owe c ns) (W := W) (R := 0) (m := 0) (T := ∅)
      (by rw [Nat.zero_add, expect_recv m c i hi]; exact nOf_K i (i + 6) hz)) $$ [Hcr HO Hat]
  · isplitr; · iapply (inv_recv m K c i hi); iexact HR
    isplitl [Hcr]; · rw [nOf_K i (i + 6) hz]; iexact Hcr
    isplitl [HO]; · iexact HO
    isplitr; · iapply (mayWait_recv c i ns hi hs); iexact HL
    iexact Hat
  iintro ⟨HO, Hat, -, Hpay⟩
  ihave Hp := (Entails.of_eq (rest_recv m c i hi)) $$ Hpay
  ihave Hp2 := (pc_halves m c (i + 6)).1 $$ Hp
  icases Hp2 with ⟨Hpl, Hpr⟩
  iapply Hk
  isplitr; · isplitl; · iexact HR
             iexact HL
  isplitl [HO]; · iexists (insert (SemLoc.dma (rS i), ()) W); iexact HO
  isplitl [Hl Hpl]
  · isplitl [Hpl] <;> iassumption
  isplitl [Hrw]; · iexact Hrw
  isplitl [Hr Hpr]
  · isplitl [Hpr] <;> iassumption
  isplitl [Hs]; · iexact Hs
  isplitl [Hv]; · iexact Hv
  isplitl [Hv1 Hat]
  · isplitl [Hat] <;> iassumption
  isplitl [Hc]; · iexact Hc
  isplitl [Ha]; · iexact Ha
  iexact Ha1

/-- The wait for the device's own copy `i`. -/
theorem done_K (c : Dev nD) (i ns nr : ℕ) (hi : i < 18) (hz : i % 3 = 1) (hs : i < ns)
    {src : Memref sig .tc .vmem S64x2048 .bf16} {hsrc : src.view.WordExact} {hdst : (pcK i).view.WordExact}
    {α : Type} {Q : α → sProp 𝕄} {k : PUnit → Prog (TpuEff nD τ sig (Elt F) Λ₀ .tc) α} :
    St m K c ns nr i
      ⊢ iprop((St m K c ns nr (i + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sS i) src (pcK i) hsrc hdst) k) Q) := by
  unfold St Ctx
  rw [sep_head hs, sep_head hi, sep_last (Nat.zero_le i), sep_last (Nat.zero_le i)]
  iintro ⟨⟨#HR, #HL⟩, ⟨%W, HO⟩, Hl, Hrw, Hr, Hs, Hv, Hv1, ⟨Hcr, Hc⟩, ⟨Hat, Ha⟩, Ha1⟩ Hk
  iapply (Rounds.wp_wait_rest_token 𝒱₀ ER (ringRd m) (c : Thread nD τ) none (κ := K c (1 + i))
      (wpE_waitDma2_eq 𝒱₀ (c : Thread nD τ) none Set.univ) (Set.mem_univ _) () (O := owe c ns) (W := W) (R := 0) (m := 0) (T := ∅)
      (by rw [Nat.zero_add, expect_send m c i hi]; exact nOf_K i i hz)) $$ [Hcr HO Hat]
  · isplitr; · iapply (inv_send m K c i hi); iexact HR
    isplitl [Hcr]; · rw [nOf_K i i hz]; iexact Hcr
    isplitl [HO]; · iexact HO
    isplitr; · iapply (mayWait_send c i ns); iexact HL
    iexact Hat
  iintro ⟨HO, Hat, -, Hpay⟩
  ihave Hp := (Entails.of_eq (rest_send m c i hi)) $$ Hpay
  iapply Hk
  isplitr; · isplitl; · iexact HR
             iexact HL
  isplitl [HO]; · iexists (insert (SemLoc.dma (sS i), ()) W); iexact HO
  isplitl [Hl]; · iexact Hl
  isplitl [Hrw Hp]
  · isplitl [Hp] <;> iassumption
  isplitl [Hr]; · iexact Hr
  isplitl [Hs]; · iexact Hs
  isplitl [Hv]; · iexact Hv
  isplitl [Hv1]; · iexact Hv1
  isplitl [Hc]; · iexact Hc
  isplitl [Ha]; · iexact Ha
  isplitl [Hat] <;> iassumption

/-- The wait for copy `i` of the device before. -/
theorem recv_V (c : Dev nD) (i ns nw : ℕ) (hi : i < 18) (hz : i % 3 = 2) (hs : i < ns) (hs' : ns ≤ i + 6)
    {src : Memref sig .tc .vmem S64x2048 .bf16} {hsrc : src.view.WordExact} {hdst : (pcV (i + 6)).view.WordExact}
    {α : Type} {Q : α → sProp 𝕄} {k : PUnit → Prog (TpuEff nD τ sig (Elt F) Λ₀ .tc) α} :
    St m K c ns i nw
      ⊢ iprop((St m K c ns (i + 1) nw -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (rS i) src (pcV (i + 6)) hsrc hdst) k) Q) := by
  unfold St Ctx
  rw [sep_head hi, show i + 1 + 6 = i + 6 + 1 by omega, sep_last (Nat.zero_le (i + 6)), sep_last hs', sep_last (Nat.zero_le i)]
  unfold recvRes
  iintro ⟨⟨#HR, #HL⟩, ⟨%W, HO⟩, Hl, Hrw, Hr, Hs, ⟨⟨Hcr, Hat⟩, Hv⟩, Hv1, Hc, Ha, Ha1⟩ Hk
  iapply (Rounds.wp_wait_rest_token 𝒱₀ ER (ringRd m) (c : Thread nD τ) none (κ := K c (19 + i))
      (wpE_waitDma2_eq 𝒱₀ (c : Thread nD τ) none Set.univ) (Set.mem_univ _) () (O := owe c ns) (W := W) (R := 0) (m := 0) (T := ∅)
      (by rw [Nat.zero_add, expect_recv m c i hi]; exact nOf_V i (i + 6) hz)) $$ [Hcr HO Hat]
  · isplitr; · iapply (inv_recv m K c i hi); iexact HR
    isplitl [Hcr]; · rw [nOf_V i (i + 6) hz]; iexact Hcr
    isplitl [HO]; · iexact HO
    isplitr; · iapply (mayWait_recv c i ns hi hs); iexact HL
    iexact Hat
  iintro ⟨HO, Hat, -, Hpay⟩
  ihave Hp := (Entails.of_eq (rest_recv m c i hi)) $$ Hpay
  ihave Hp2 := (pc_halves m c (i + 6)).1 $$ Hp
  icases Hp2 with ⟨Hpl, Hpr⟩
  iapply Hk
  isplitr; · isplitl; · iexact HR
             iexact HL
  isplitl [HO]; · iexists (insert (SemLoc.dma (rS i), ()) W); iexact HO
  isplitl [Hl Hpl]
  · isplitl [Hpl] <;> iassumption
  isplitl [Hrw]; · iexact Hrw
  isplitl [Hr Hpr]
  · isplitl [Hpr] <;> iassumption
  isplitl [Hs]; · iexact Hs
  isplitl [Hv]; · iexact Hv
  isplitl [Hv1 Hat]
  · isplitl [Hat] <;> iassumption
  isplitl [Hc]; · iexact Hc
  isplitl [Ha]; · iexact Ha
  iexact Ha1

/-- The wait for the device's own copy `i`. -/
theorem done_V (c : Dev nD) (i ns nr : ℕ) (hi : i < 18) (hz : i % 3 = 2) (hs : i < ns)
    {src : Memref sig .tc .vmem S64x2048 .bf16} {hsrc : src.view.WordExact} {hdst : (pcV i).view.WordExact}
    {α : Type} {Q : α → sProp 𝕄} {k : PUnit → Prog (TpuEff nD τ sig (Elt F) Λ₀ .tc) α} :
    St m K c ns nr i
      ⊢ iprop((St m K c ns nr (i + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sS i) src (pcV i) hsrc hdst) k) Q) := by
  unfold St Ctx
  rw [sep_head hs, sep_head hi, sep_last (Nat.zero_le i), sep_last (Nat.zero_le i)]
  iintro ⟨⟨#HR, #HL⟩, ⟨%W, HO⟩, Hl, Hrw, Hr, Hs, Hv, Hv1, ⟨Hcr, Hc⟩, ⟨Hat, Ha⟩, Ha1⟩ Hk
  iapply (Rounds.wp_wait_rest_token 𝒱₀ ER (ringRd m) (c : Thread nD τ) none (κ := K c (1 + i))
      (wpE_waitDma2_eq 𝒱₀ (c : Thread nD τ) none Set.univ) (Set.mem_univ _) () (O := owe c ns) (W := W) (R := 0) (m := 0) (T := ∅)
      (by rw [Nat.zero_add, expect_send m c i hi]; exact nOf_V i i hz)) $$ [Hcr HO Hat]
  · isplitr; · iapply (inv_send m K c i hi); iexact HR
    isplitl [Hcr]; · rw [nOf_V i i hz]; iexact Hcr
    isplitl [HO]; · iexact HO
    isplitr; · iapply (mayWait_send c i ns); iexact HL
    iexact Hat
  iintro ⟨HO, Hat, -, Hpay⟩
  ihave Hp := (Entails.of_eq (rest_send m c i hi)) $$ Hpay
  iapply Hk
  isplitr; · isplitl; · iexact HR
             iexact HL
  isplitl [HO]; · iexists (insert (SemLoc.dma (sS i), ()) W); iexact HO
  isplitl [Hl]; · iexact Hl
  isplitl [Hrw Hp]
  · isplitl [Hp] <;> iassumption
  isplitl [Hr]; · iexact Hr
  isplitl [Hs]; · iexact Hs
  isplitl [Hv]; · iexact Hv
  isplitl [Hv1]; · iexact Hv1
  isplitl [Hc]; · iexact Hc
  isplitl [Ha]; · iexact Ha
  isplitl [Hat] <;> iassumption

end Cert.MlaProof

end
-- ==== Proof.Slots.lean ====
/-
# `Slots`: reading a whole slot of a ring buffer, splitting the three buffers at the start and joining them at the end
-/
module

public import proofs.«01_k».proof.Proof.Steps

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD → ℕ → ℕ)

/-- One member of a separating conjunction apart from the others. -/
theorem sep_erase {s : Finset ℕ} {i : ℕ} (h : i ∈ s) (Φ : ℕ → sProp 𝕄) : bigSep s Φ = iprop(Φ i ∗ bigSep (s.erase i) Φ) := bigSep_erase h

theorem sep_cut (Φ : ℕ → sProp 𝕄) : bigSep (Finset.Ico 0 24) Φ = iprop(bigSep (Finset.Ico 0 6) Φ ∗ bigSep (Finset.Ico 6 24) Φ) := by
  rw [show Finset.Ico 0 24 = Finset.Ico 0 6 ∪ Finset.Ico 6 24 from (Finset.Ico_union_Ico_eq_Ico (by decide) (by decide)).symm]
  exact bigSep_union (Finset.Ico_disjoint_Ico_consecutive 0 6 24)

theorem sep_each {s : Finset ℕ} {Φ Ψ : ℕ → sProp 𝕄} (h : ∀ p ∈ s, Φ p ⊢ Ψ p) : bigSep s Φ ⊢ bigSep s Ψ := bigSep_mono h

theorem sep_both (s : Finset ℕ) (Φ Ψ : ℕ → sProp 𝕄) : bigSep s (fun i => iprop(Φ i ∗ Ψ i)) = iprop(bigSep s Φ ∗ bigSep s Ψ) := bigSep_sep s Φ Ψ

/-! ## Loading a slot -/

/-- The two pieces of a slot hold no element in common. -/
theorem slot_disj_C (h : ℕ) : Disjoint (setC (6 * h + 0)) (setC (6 * h + 0 + 3)) := by
  rw [Finset.disjoint_left]
  intro e h1 h2
  have h3 := (mem_pcC _ e).mp h1
  have h4 := (mem_pcC _ e).mp h2
  have h5 : (6 * h + 0) / 3 % 2 ≠ (6 * h + 0 + 3) / 3 % 2 := by omega
  exact h5 (h3.2.symm.trans h4.2)

theorem slot_union_C (c : Dev nD) (h : ℕ) (q : PosShare TreeShare) :
    (((c : Thread nD τ).loc cc0_scratch0) ↦[setC (6 * h + 0) ∪ setC (6 * h + 0 + 3)]{q} gC m c : sProp 𝕄)
      ⊣⊢ iprop((((c : Thread nD τ).loc cc0_scratch0) ↦[setC (6 * h + 0)]{q} gC m c) ∗ (((c : Thread nD τ).loc cc0_scratch0) ↦[setC (6 * h + 0 + 3)]{q} gC m c)) :=
  pointsTo_union (ℓ := (c : Thread nD τ).loc cc0_scratch0) (I := setC (6 * h + 0)) (J := setC (6 * h + 0 + 3)) (slot_disj_C h)

/-- Loading slot `h` of the buffer, once it is there. -/
theorem load_C (c : Dev nD) (h ns nr nw : ℕ) (hh : h < 4) (hr : 6 * h ≤ nr)
    (inb : ∀ a, (![h, 0, 0] : Fin 3 → ℕ) a + S1x1024x128.size a ≤ S4x1024x128.size a)
    {hl : (cM : Memref sig .tc .vmem S4x1024x128 .bf16).view.LoadsAt (Rect.unit (s := S4x1024x128) ![h, 0, 0] S1x1024x128.size inb).toLoadRect}
    {α : Type} {Q : α → sProp 𝕄} {k : ((Rect.unit (s := S4x1024x128) ![h, 0, 0] S1x1024x128.size inb).toLoadRect.shape.Idx → Elt F .bf16) → Prog (TpuEff nD τ sig (Elt F) Λ₀ .tc) α} :
    St m K c ns nr nw
      ⊢ iprop((St m K c ns nr nw -∗ wp frame (wpE (defs₀ (F := F)) 𝒱₀ (c : Thread nD τ) none) Set.univ (k (ownC m (back h c))) Q)
          -∗ wp frame (wpE (defs₀ (F := F)) 𝒱₀ (c : Thread nD τ) none) Set.univ
              (.op (.load cM (Rect.unit (s := S4x1024x128) ![h, 0, 0] S1x1024x128.size inb).toLoadRect hl) k) Q) := by
  have h1 : 6 * h + 0 ∈ Finset.Ico 0 (nr + 6) := Finset.mem_Ico.mpr ⟨Nat.zero_le _, by omega⟩
  have h2 : 6 * h + 0 + 3 ∈ (Finset.Ico 0 (nr + 6)).erase (6 * h + 0) :=
    Finset.mem_erase.mpr ⟨by omega, Finset.mem_Ico.mpr ⟨Nat.zero_le _, by omega⟩⟩
  unfold St
  rw [sep_erase h1, sep_erase h2,
    pc_C m c (6 * h + 0) (by omega), pc_C m c (6 * h + 0 + 3) (by omega)]
  iintro ⟨HC, HO, ⟨Hp1, Hp2, Hl⟩, HZ⟩ Hk
  ihave Hp := (slot_union_C m c h fullShare.left).2 $$ [Hp1 Hp2]
  · isplitl [Hp1] <;> iassumption
  iapply (wp_load 𝒱₀ (c : Thread nD τ) none Set.univ (m := cM) (slot_mem_C h hh inb)) $$ Hp
  iintro Hp
  rw [slot_read_C]
  ihave Hp2 := (slot_union_C m c h fullShare.left).1 $$ Hp
  icases Hp2 with ⟨Hp1, Hp2⟩
  iapply Hk
  isplitl [HC]; · iexact HC
  isplitl [HO]; · iexact HO
  isplitl [Hp1 Hp2 Hl]
  · isplitl [Hp1]; · iexact Hp1
    isplitl [Hp2] <;> iassumption
  iexact HZ

/-- The two pieces of a slot hold no element in common. -/
theorem slot_disj_K (h : ℕ) : Disjoint (setK (6 * h + 1)) (setK (6 * h + 1 + 3)) := by
  rw [Finset.disjoint_left]
  intro e h1 h2
  have h3 := (mem_pcK _ e).mp h1
  have h4 := (mem_pcK _ e).mp h2
  have h5 : (6 * h + 1) / 3 % 2 ≠ (6 * h + 1 + 3) / 3 % 2 := by omega
  exact h5 (h3.2.symm.trans h4.2)

theorem slot_union_K (c : Dev nD) (h : ℕ) (q : PosShare TreeShare) :
    (((c : Thread nD τ).loc cc0_scratch1) ↦[setK (6 * h + 1) ∪ setK (6 * h + 1 + 3)]{q} gK m c : sProp 𝕄)
      ⊣⊢ iprop((((c : Thread nD τ).loc cc0_scratch1) ↦[setK (6 * h + 1)]{q} gK m c) ∗ (((c : Thread nD τ).loc cc0_scratch1) ↦[setK (6 * h + 1 + 3)]{q} gK m c)) :=
  pointsTo_union (ℓ := (c : Thread nD τ).loc cc0_scratch1) (I := setK (6 * h + 1)) (J := setK (6 * h + 1 + 3)) (slot_disj_K h)

/-- Loading slot `h` of the buffer, once it is there. -/
theorem load_K (c : Dev nD) (h ns nr nw : ℕ) (hh : h < 4) (hr : 6 * h ≤ nr)
    (inb : ∀ a, (![h, 0, 0] : Fin 3 → ℕ) a + S1x128x2048.size a ≤ S4x128x2048.size a)
    {hl : (kM : Memref sig .tc .vmem S4x128x2048 .bf16).view.LoadsAt (Rect.unit (s := S4x128x2048) ![h, 0, 0] S1x128x2048.size inb).toLoadRect}
    {α : Type} {Q : α → sProp 𝕄} {k : ((Rect.unit (s := S4x128x2048) ![h, 0, 0] S1x128x2048.size inb).toLoadRect.shape.Idx → Elt F .bf16) → Prog (TpuEff nD τ sig (Elt F) Λ₀ .tc) α} :
    St m K c ns nr nw
      ⊢ iprop((St m K c ns nr nw -∗ wp frame (wpE (defs₀ (F := F)) 𝒱₀ (c : Thread nD τ) none) Set.univ (k (ownK m (back h c))) Q)
          -∗ wp frame (wpE (defs₀ (F := F)) 𝒱₀ (c : Thread nD τ) none) Set.univ
              (.op (.load kM (Rect.unit (s := S4x128x2048) ![h, 0, 0] S1x128x2048.size inb).toLoadRect hl) k) Q) := by
  have h1 : 6 * h + 1 ∈ Finset.Ico 0 (nr + 6) := Finset.mem_Ico.mpr ⟨Nat.zero_le _, by omega⟩
  have h2 : 6 * h + 1 + 3 ∈ (Finset.Ico 0 (nr + 6)).erase (6 * h + 1) :=
    Finset.mem_erase.mpr ⟨by omega, Finset.mem_Ico.mpr ⟨Nat.zero_le _, by omega⟩⟩
  unfold St
  rw [sep_erase h1, sep_erase h2,
    pc_K m c (6 * h + 1) (by omega), pc_K m c (6 * h + 1 + 3) (by omega)]
  iintro ⟨HC, HO, ⟨Hp1, Hp2, Hl⟩, HZ⟩ Hk
  ihave Hp := (slot_union_K m c h fullShare.left).2 $$ [Hp1 Hp2]
  · isplitl [Hp1] <;> iassumption
  iapply (wp_load 𝒱₀ (c : Thread nD τ) none Set.univ (m := kM) (slot_mem_K h hh inb)) $$ Hp
  iintro Hp
  rw [slot_read_K]
  ihave Hp2 := (slot_union_K m c h fullShare.left).1 $$ Hp
  icases Hp2 with ⟨Hp1, Hp2⟩
  iapply Hk
  isplitl [HC]; · iexact HC
  isplitl [HO]; · iexact HO
  isplitl [Hp1 Hp2 Hl]
  · isplitl [Hp1]; · iexact Hp1
    isplitl [Hp2] <;> iassumption
  iexact HZ

/-- The two pieces of a slot hold no element in common. -/
theorem slot_disj_V (h : ℕ) : Disjoint (setV (6 * h + 2)) (setV (6 * h + 2 + 3)) := by
  rw [Finset.disjoint_left]
  intro e h1 h2
  have h3 := (mem_pcV _ e).mp h1
  have h4 := (mem_pcV _ e).mp h2
  have h5 : (6 * h + 2) / 3 % 2 ≠ (6 * h + 2 + 3) / 3 % 2 := by omega
  exact h5 (h3.2.symm.trans h4.2)

theorem slot_union_V (c : Dev nD) (h : ℕ) (q : PosShare TreeShare) :
    (((c : Thread nD τ).loc cc0_scratch2) ↦[setV (6 * h + 2) ∪ setV (6 * h + 2 + 3)]{q} gV m c : sProp 𝕄)
      ⊣⊢ iprop((((c : Thread nD τ).loc cc0_scratch2) ↦[setV (6 * h + 2)]{q} gV m c) ∗ (((c : Thread nD τ).loc cc0_scratch2) ↦[setV (6 * h + 2 + 3)]{q} gV m c)) :=
  pointsTo_union (ℓ := (c : Thread nD τ).loc cc0_scratch2) (I := setV (6 * h + 2)) (J := setV (6 * h + 2 + 3)) (slot_disj_V h)

/-- Loading slot `h` of the buffer, once it is there. -/
theorem load_V (c : Dev nD) (h ns nr nw : ℕ) (hh : h < 4) (hr : 6 * h ≤ nr)
    (inb : ∀ a, (![h, 0, 0] : Fin 3 → ℕ) a + S1x128x2048.size a ≤ S4x128x2048.size a)
    {hl : (vM : Memref sig .tc .vmem S4x128x2048 .bf16).view.LoadsAt (Rect.unit (s := S4x128x2048) ![h, 0, 0] S1x128x2048.size inb).toLoadRect}
    {α : Type} {Q : α → sProp 𝕄} {k : ((Rect.unit (s := S4x128x2048) ![h, 0, 0] S1x128x2048.size inb).toLoadRect.shape.Idx → Elt F .bf16) → Prog (TpuEff nD τ sig (Elt F) Λ₀ .tc) α} :
    St m K c ns nr nw
      ⊢ iprop((St m K c ns nr nw -∗ wp frame (wpE (defs₀ (F := F)) 𝒱₀ (c : Thread nD τ) none) Set.univ (k (ownV m (back h c))) Q)
          -∗ wp frame (wpE (defs₀ (F := F)) 𝒱₀ (c : Thread nD τ) none) Set.univ
              (.op (.load vM (Rect.unit (s := S4x128x2048) ![h, 0, 0] S1x128x2048.size inb).toLoadRect hl) k) Q) := by
  have h1 : 6 * h + 2 ∈ Finset.Ico 0 (nr + 6) := Finset.mem_Ico.mpr ⟨Nat.zero_le _, by omega⟩
  have h2 : 6 * h + 2 + 3 ∈ (Finset.Ico 0 (nr + 6)).erase (6 * h + 2) :=
    Finset.mem_erase.mpr ⟨by omega, Finset.mem_Ico.mpr ⟨Nat.zero_le _, by omega⟩⟩
  unfold St
  rw [sep_erase h1, sep_erase h2,
    pc_V m c (6 * h + 2) (by omega), pc_V m c (6 * h + 2 + 3) (by omega)]
  iintro ⟨HC, HO, ⟨Hp1, Hp2, Hl⟩, HZ⟩ Hk
  ihave Hp := (slot_union_V m c h fullShare.left).2 $$ [Hp1 Hp2]
  · isplitl [Hp1] <;> iassumption
  iapply (wp_load 𝒱₀ (c : Thread nD τ) none Set.univ (m := vM) (slot_mem_V h hh inb)) $$ Hp
  iintro Hp
  rw [slot_read_V]
  ihave Hp2 := (slot_union_V m c h fullShare.left).1 $$ Hp
  icases Hp2 with ⟨Hp1, Hp2⟩
  iapply Hk
  isplitl [HC]; · iexact HC
  isplitl [HO]; · iexact HO
  isplitl [Hp1 Hp2 Hl]
  · isplitl [Hp1]; · iexact Hp1
    isplitl [Hp2] <;> iassumption
  iexact HZ

/-! ## The three buffers, whole and in pieces -/

/-- Piece `p` at given contents of the three buffers. -/
def pcAt (c : Dev nD) (fC : Buf (Elt F) ((c : Thread nD τ).loc cc0_scratch0)) (fK : Buf (Elt F) ((c : Thread nD τ).loc cc0_scratch1))
    (fV : Buf (Elt F) ((c : Thread nD τ).loc cc0_scratch2)) (p : ℕ) : sProp 𝕄 :=
  if p % 3 = 0 then iprop(((c : Thread nD τ).loc cc0_scratch0) ↦[setC p]{fullShare} fC)
  else if p % 3 = 1 then iprop(((c : Thread nD τ).loc cc0_scratch1) ↦[setK p]{fullShare} fK)
  else iprop(((c : Thread nD τ).loc cc0_scratch2) ↦[setV p]{fullShare} fV)

theorem six_out (a b c A B C : sProp 𝕄) : iprop(a ∗ b ∗ c ∗ A ∗ B ∗ C) ⊢ iprop((c ∗ A) ∗ (b ∗ B) ∗ (a ∗ C)) := by
  iintro ⟨H2, H1, H0, HA, HB, HC⟩
  isplitl [H0 HA]; · isplitl [H0] <;> iassumption
  isplitl [H1 HB]; · isplitl [H1] <;> iassumption
  isplitl [H2] <;> iassumption
theorem six_in (a b c A B C : sProp 𝕄) : iprop((c ∗ A) ∗ (b ∗ B) ∗ (a ∗ C)) ⊢ iprop(a ∗ b ∗ c ∗ A ∗ B ∗ C) := by
  iintro ⟨⟨H0, HA⟩, ⟨H1, HB⟩, ⟨H2, HC⟩⟩
  isplitl [H2]; · iexact H2
  isplitl [H1]; · iexact H1
  isplitl [H0]; · iexact H0
  isplitl [HA]; · iexact HA
  isplitl [HB] <;> iassumption

/-- Pieces `0 .. 3 n - 1` are those of each residue. -/
theorem by_three (Φ : ℕ → sProp 𝕄) (n : ℕ) :
    bigSep (Finset.Ico 0 (3 * n)) Φ = iprop(bigSep (Finset.Ico 0 n) (fun j => Φ (3 * j)) ∗ bigSep (Finset.Ico 0 n) (fun j => Φ (3 * j + 1))
      ∗ bigSep (Finset.Ico 0 n) (fun j => Φ (3 * j + 2))) := by
  induction n with
  | zero =>
    simp only [Nat.mul_zero, Finset.Ico_self, bigSep_empty]
    refine equiv_iff.mp ⟨?_, ?_⟩
    · exact (emp_sep (PROP := sProp 𝕄)).2.trans (sep_mono_right (emp_sep (PROP := sProp 𝕄)).2)
    · exact (emp_sep (PROP := sProp 𝕄)).1.trans (emp_sep (PROP := sProp 𝕄)).1
  | succ n ih =>
    rw [show 3 * (n + 1) = 3 * n + 2 + 1 by omega, sep_last (Nat.zero_le (3 * n + 2)), sep_last (Nat.zero_le (3 * n + 1)), sep_last (Nat.zero_le (3 * n)), ih,
      sep_last (Nat.zero_le n), sep_last (Nat.zero_le n), sep_last (Nat.zero_le n)]
    refine equiv_iff.mp ⟨?_, ?_⟩
    · exact six_out _ _ _ _ _ _
    · exact six_in _ _ _ _ _ _

theorem whole_C (c : Dev nD) (f : Buf (Elt F) ((c : Thread nD τ).loc cc0_scratch0)) :
    (((c : Thread nD τ).loc cc0_scratch0) ↦{fullShare} f : sProp 𝕄)
      = bigSep (Finset.Ico 0 8) fun j => iprop(((c : Thread nD τ).loc cc0_scratch0) ↦[setC (3 * j + 0)]{fullShare} f) := by
  have hU : (Finset.univ : Finset S4x1024x128.Idx) = (Finset.Ico 0 8).biUnion fun j => setC (3 * j + 0) := by
    refine (Finset.eq_univ_of_forall fun e => ?_).symm
    have h0 : (e 0).val < 4 := (e 0).isLt
    have h1 : (e 1).val < 1024 := (e 1).isLt
    refine Finset.mem_biUnion.mpr ⟨2 * (e 0).val + (e 1).val / 512, Finset.mem_Ico.mpr ⟨Nat.zero_le _, by omega⟩, (mem_pcC _ e).mpr ⟨by omega, by omega⟩⟩
  refine (congrArg (fun I : Finset S4x1024x128.Idx => (((c : Thread nD τ).loc cc0_scratch0) ↦[I]{fullShare} f : sProp 𝕄)) hU).trans ?_
  refine pointsTo_biUnion (ℓ := (c : Thread nD τ).loc cc0_scratch0) (Finset.Ico 0 8) (fun j => setC (3 * j + 0)) fun j hj j' hj' hne => ?_
  rw [Finset.mem_Ico] at hj hj'
  rw [Finset.disjoint_left]
  intro e h1 h2
  have h3 := (mem_pcC _ e).mp h1
  have h4 := (mem_pcC _ e).mp h2
  have h5 := h3.1.symm.trans h4.1
  have h6 := h3.2.symm.trans h4.2
  omega

theorem whole_K (c : Dev nD) (f : Buf (Elt F) ((c : Thread nD τ).loc cc0_scratch1)) :
    (((c : Thread nD τ).loc cc0_scratch1) ↦{fullShare} f : sProp 𝕄)
      = bigSep (Finset.Ico 0 8) fun j => iprop(((c : Thread nD τ).loc cc0_scratch1) ↦[setK (3 * j + 1)]{fullShare} f) := by
  have hU : (Finset.univ : Finset S4x128x2048.Idx) = (Finset.Ico 0 8).biUnion fun j => setK (3 * j + 1) := by
    refine (Finset.eq_univ_of_forall fun e => ?_).symm
    have h0 : (e 0).val < 4 := (e 0).isLt
    have h1 : (e 1).val < 128 := (e 1).isLt
    refine Finset.mem_biUnion.mpr ⟨2 * (e 0).val + (e 1).val / 64, Finset.mem_Ico.mpr ⟨Nat.zero_le _, by omega⟩, (mem_pcK _ e).mpr ⟨by omega, by omega⟩⟩
  refine (congrArg (fun I : Finset S4x128x2048.Idx => (((c : Thread nD τ).loc cc0_scratch1) ↦[I]{fullShare} f : sProp 𝕄)) hU).trans ?_
  refine pointsTo_biUnion (ℓ := (c : Thread nD τ).loc cc0_scratch1) (Finset.Ico 0 8) (fun j => setK (3 * j + 1)) fun j hj j' hj' hne => ?_
  rw [Finset.mem_Ico] at hj hj'
  rw [Finset.disjoint_left]
  intro e h1 h2
  have h3 := (mem_pcK _ e).mp h1
  have h4 := (mem_pcK _ e).mp h2
  have h5 := h3.1.symm.trans h4.1
  have h6 := h3.2.symm.trans h4.2
  omega

theorem whole_V (c : Dev nD) (f : Buf (Elt F) ((c : Thread nD τ).loc cc0_scratch2)) :
    (((c : Thread nD τ).loc cc0_scratch2) ↦{fullShare} f : sProp 𝕄)
      = bigSep (Finset.Ico 0 8) fun j => iprop(((c : Thread nD τ).loc cc0_scratch2) ↦[setV (3 * j + 2)]{fullShare} f) := by
  have hU : (Finset.univ : Finset S4x128x2048.Idx) = (Finset.Ico 0 8).biUnion fun j => setV (3 * j + 2) := by
    refine (Finset.eq_univ_of_forall fun e => ?_).symm
    have h0 : (e 0).val < 4 := (e 0).isLt
    have h1 : (e 1).val < 128 := (e 1).isLt
    refine Finset.mem_biUnion.mpr ⟨2 * (e 0).val + (e 1).val / 64, Finset.mem_Ico.mpr ⟨Nat.zero_le _, by omega⟩, (mem_pcV _ e).mpr ⟨by omega, by omega⟩⟩
  refine (congrArg (fun I : Finset S4x128x2048.Idx => (((c : Thread nD τ).loc cc0_scratch2) ↦[I]{fullShare} f : sProp 𝕄)) hU).trans ?_
  refine pointsTo_biUnion (ℓ := (c : Thread nD τ).loc cc0_scratch2) (Finset.Ico 0 8) (fun j => setV (3 * j + 2)) fun j hj j' hj' hne => ?_
  rw [Finset.mem_Ico] at hj hj'
  rw [Finset.disjoint_left]
  intro e h1 h2
  have h3 := (mem_pcV _ e).mp h1
  have h4 := (mem_pcV _ e).mp h2
  have h5 := h3.1.symm.trans h4.1
  have h6 := h3.2.symm.trans h4.2
  omega

/-- The three whole buffers are their twenty-four pieces. -/
theorem whole_pieces (c : Dev nD) (fC : Buf (Elt F) ((c : Thread nD τ).loc cc0_scratch0)) (fK : Buf (Elt F) ((c : Thread nD τ).loc cc0_scratch1))
    (fV : Buf (Elt F) ((c : Thread nD τ).loc cc0_scratch2)) :
    iprop((((c : Thread nD τ).loc cc0_scratch0) ↦{fullShare} fC) ∗ (((c : Thread nD τ).loc cc0_scratch1) ↦{fullShare} fK) ∗ (((c : Thread nD τ).loc cc0_scratch2) ↦{fullShare} fV))
      = (bigSep (Finset.Ico 0 24) (pcAt c fC fK fV) : sProp 𝕄) := by
  rw [show (24 : ℕ) = 3 * 8 from rfl, by_three, whole_C, whole_K, whole_V]
  have h0 : ∀ j, pcAt c fC fK fV (3 * j) = iprop(((c : Thread nD τ).loc cc0_scratch0) ↦[setC (3 * j + 0)]{fullShare} fC) := fun j => by
    unfold pcAt; rw [if_pos (by omega)]; rfl
  have h1 : ∀ j, pcAt c fC fK fV (3 * j + 1) = iprop(((c : Thread nD τ).loc cc0_scratch1) ↦[setK (3 * j + 1)]{fullShare} fK) := fun j => by
    unfold pcAt; rw [if_neg (by omega), if_pos (by omega)]
  have h2 : ∀ j, pcAt c fC fK fV (3 * j + 2) = iprop(((c : Thread nD τ).loc cc0_scratch2) ↦[setV (3 * j + 2)]{fullShare} fV) := fun j => by
    unfold pcAt; rw [if_neg (by omega), if_neg (by omega)]
  simp only [h0, h1, h2]

theorem pcAt_any (c : Dev nD) (fC fK fV) (p : ℕ) : pcAt c fC fK fV p ⊢ (pcAny c p : sProp 𝕄) := by
  unfold pcAt pcAny
  split
  · iintro H; iexists fC; iexact H
  · split
    · iintro H; iexists fK; iexact H
    · iintro H; iexists fV; iexact H

theorem pcAt_final (c : Dev nD) (p : ℕ) : (pcAt c (gC m c) (gK m c) (gV m c) p : sProp 𝕄) = pc m c p fullShare := by
  unfold pcAt pc; rfl

/-- Once a device's own slot is written, a piece of it is at its final contents. -/
theorem pcAt_slot (c : Dev nD) (fC fK fV) (p : ℕ) (hp : p < 6)
    (hC : ∀ e : S4x1024x128.Idx, (e 0).val = 0 → fC e = gC m c e) (hK : ∀ e : S4x128x2048.Idx, (e 0).val = 0 → fK e = gK m c e)
    (hV : ∀ e : S4x128x2048.Idx, (e 0).val = 0 → fV e = gV m c e) : (pcAt c fC fK fV p : sProp 𝕄) = pc m c p fullShare := by
  have h0 : p / 6 % 4 = 0 := by omega
  rw [← pcAt_final]
  unfold pcAt
  split
  · exact pointsTo_congr (ℓ := (c : Thread nD τ).loc cc0_scratch0) (I := setC p) fun e he => hC e (((mem_pcC p e).mp he).1.trans h0)
  · split
    · exact pointsTo_congr (ℓ := (c : Thread nD τ).loc cc0_scratch1) (I := setK p) fun e he => hK e (((mem_pcK p e).mp he).1.trans h0)
    · exact pointsTo_congr (ℓ := (c : Thread nD τ).loc cc0_scratch2) (I := setV p) fun e he => hV e (((mem_pcV p e).mp he).1.trans h0)

/-- What the state needs at the start, from the three buffers after the first stores: the device's own pieces in halves, and the rest to be handed
to the device before it. -/
theorem split_start (c : Dev nD) (fC fK fV)
    (hC : ∀ e : S4x1024x128.Idx, (e 0).val = 0 → fC e = gC m c e) (hK : ∀ e : S4x128x2048.Idx, (e 0).val = 0 → fK e = gK m c e)
    (hV : ∀ e : S4x128x2048.Idx, (e 0).val = 0 → fV e = gV m c e) :
    iprop((((c : Thread nD τ).loc cc0_scratch0) ↦{fullShare} fC) ∗ (((c : Thread nD τ).loc cc0_scratch1) ↦{fullShare} fK) ∗ (((c : Thread nD τ).loc cc0_scratch2) ↦{fullShare} fV))
      ⊢ (iprop(bigSep (Finset.Ico 0 6) (fun p => pc m c p fullShare.left) ∗ bigSep (Finset.Ico 0 6) (fun p => pc m c p fullShare.right)
          ∗ bigSep (Finset.Ico 6 24) (fun p => pcAny c p)) : sProp 𝕄) := by
  rw [whole_pieces, sep_cut]
  iintro ⟨H1, H2⟩
  ihave H3 := (sep_each (Φ := pcAt c fC fK fV) (Ψ := fun p => iprop(pc m c p fullShare.left ∗ pc m c p fullShare.right)) fun p hp =>
    (Entails.of_eq (pcAt_slot m c fC fK fV p (Finset.mem_Ico.mp hp).2 hC hK hV)).trans (pc_halves m c p).1) $$ H1
  ihave H4 := (Entails.of_eq (sep_both _ _ _)) $$ H3
  ihave H5 := (sep_each (Φ := pcAt c fC fK fV) (Ψ := fun p => pcAny c p) fun p _ => pcAt_any c fC fK fV p) $$ H2
  icases H4 with ⟨HA, HB⟩
  isplitl [HA]; · iexact HA
  isplitl [HB] <;> iassumption

/-- At the end: the halves make the three buffers whole again. -/
theorem join_end (c : Dev nD) :
    iprop(bigSep (Finset.Ico 0 24) (fun p => pc m c p fullShare.left) ∗ bigSep (Finset.Ico 0 24) (fun p => pc m c p fullShare.right))
      ⊢ (iprop((((c : Thread nD τ).loc cc0_scratch0) ↦{fullShare} gC m c) ∗ (((c : Thread nD τ).loc cc0_scratch1) ↦{fullShare} gK m c)
          ∗ (((c : Thread nD τ).loc cc0_scratch2) ↦{fullShare} gV m c)) : sProp 𝕄) := by
  rw [whole_pieces]
  iintro H
  ihave H1 := (Entails.of_eq (sep_both _ _ _).symm) $$ H
  iapply (sep_each (Φ := fun p => iprop(pc m c p fullShare.left ∗ pc m c p fullShare.right)) (Ψ := pcAt c (gC m c) (gK m c) (gV m c)) fun p _ =>
    (pc_halves m c p).2.trans (Entails.of_eq (pcAt_final m c p).symm)) $$ H1

end Cert.MlaProof

end
-- ==== Proof.Vals.lean ====
/-
# `Vals`: what each local buffer of a device comes to hold, and the stores that fill one slice by slice
-/
module

public import proofs.«01_k».proof.Proof.Slots

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The values -/

/-- Slot `h` of the three travelling buffers. -/
def cS (c : Dev nD) (h : ℕ) : FVec F S1x1024x128 .bf16 := ownC m (back h c)
def kS (c : Dev nD) (h : ℕ) : FVec F S1x128x2048 .bf16 := ownK m (back h c)
def vS (c : Dev nD) (h : ℕ) : FVec F S1x128x2048 .bf16 := ownV m (back h c)

/-- The key buffer after each slot's contribution. -/
def kb0 (c : Dev nD) : FVec F S1024x2048 .bf16 := k0_pay8 (k0_pay7 (cS m c 0) (kS m c 0))
def kb1 (c : Dev nD) : FVec F S1024x2048 .bf16 := k0_pay12 (cS m c 1) (kS m c 1) (kb0 m c)
def kb2 (c : Dev nD) : FVec F S1024x2048 .bf16 := k0_pay18 (k0_pay17 (cS m c 2) (kS m c 2) (kb1 m c))
def kb3 (c : Dev nD) : FVec F S1024x2048 .bf16 := k0_pay62 (k0_pay61 (cS m c 3) (kS m c 3) (kb2 m c))
/-- The value buffer after each slot's contribution. -/
def vb0 (c : Dev nD) : FVec F S1024x2048 .bf16 := k0_pay9 (cS m c 0) (vS m c 0)
def vb1 (c : Dev nD) : FVec F S1024x2048 .bf16 := k0_pay13 (cS m c 1) (vS m c 1) (vb0 m c)
def vb2 (c : Dev nD) : FVec F S1024x2048 .bf16 := k0_pay19 (k0_pay16 (cS m c 2) (vS m c 2)) (vb1 m c)
def vb3 (c : Dev nD) : FVec F S1024x2048 .bf16 := k0_pay63 (k0_pay60 (cS m c 3) (vS m c 3)) (vb2 m c)

/-- Columns `512 j ..` of a query weight matrix. -/
def wqSl (w : Vec F S2048x2048 .bf16) (j : ℕ) : Vec F S2048x512 .bf16 := fun i => w (ix2 (i 0) ⟨(512 * j + (i 1).val) % 2048, Nat.mod_lt _ (by decide)⟩)
/-- The query buffer. -/
def gQ (c : Dev nD) : FVec F S1024x2048 .bf16 := fun e =>
  k0_pay10 (xF m c) (wqSl (wqB m c) ((e 1).val / 512)) (ix2 (e 0) ⟨(e 1).val % 512, Nat.mod_lt _ (by decide)⟩)

/-- The query's rotary part by head, and the key's by batch. -/
def qrOf (w : FVec F S1024x512 .bf16) : FVec F S32x512x32 .bf16 := fun e =>
  w (ix2 ⟨(512 * ((e 0).val / 16) + (e 1).val) % 1024, Nat.mod_lt _ (by decide)⟩ ⟨(32 * ((e 0).val % 16) + (e 2).val) % 512, Nat.mod_lt _ (by decide)⟩)
def krOf (w : FVec F S1024x32 .bf16) : FVec F S2x512x32 .bf16 := fun e =>
  w (ix2 ⟨(512 * (e 0).val + (e 1).val) % 1024, Nat.mod_lt _ (by decide)⟩ (e 2))
def qrW (c : Dev nD) : FVec F S1024x512 .bf16 := k0_pay20 (xF m c) (wqrB m c)
def krW (c : Dev nD) : FVec F S1024x32 .bf16 := k0_pay21 (xF m c) (wkrB m c)

/-- One head of one batch: the block of a row-by-column buffer, and of the rotary buffers. -/
def hd (t : ℕ) (f : FVec F S1024x2048 .bf16) : FVec F S512x128 .bf16 := fun i =>
  f (ix2 ⟨(512 * (t / 16) + (i 0).val) % 1024, Nat.mod_lt _ (by decide)⟩ ⟨(128 * (t % 16) + (i 1).val) % 2048, Nat.mod_lt _ (by decide)⟩)
def hdQ (t : ℕ) (f : FVec F S32x512x32 .bf16) : FVec F S1x512x32 .bf16 := fun i => f (ix3 ⟨t % 32, Nat.mod_lt _ (by decide)⟩ (i 1) (i 2))
def hdK (t : ℕ) (f : FVec F S2x512x32 .bf16) : FVec F S1x512x32 .bf16 := fun i => f (ix3 ⟨t / 16 % 2, Nat.mod_lt _ (by decide)⟩ (i 1) (i 2))

/-- The attention of head `t % 16` in batch `t / 16`. -/
def attn (c : Dev nD) (t : ℕ) : FVec F S512x128 .bf16 :=
  k0_pay1 (hd t (gQ m c)) (hd t (kb3 m c)) (hd t (vb3 m c)) (hdQ t (qrOf (qrW m c))) (hdK t (krOf (krW m c)))
/-- The attention buffer. -/
def gO (c : Dev nD) : FVec F S1024x2048 .bf16 := fun e =>
  attn m c (16 * ((e 0).val / 512) + (e 1).val / 128) (ix2 ⟨(e 0).val % 512, Nat.mod_lt _ (by decide)⟩ ⟨(e 1).val % 128, Nat.mod_lt _ (by decide)⟩)
/-- The result. -/
def outF (c : Dev nD) : FVec F S2x512x2048 .bf16 := k0_pay2 (gO m c) (woB m c)

/-! ## Filling a buffer slice by slice -/

/-- `g` where `P` holds, `f` elsewhere. -/
def part {α : Type} {I : Type} (P : I → Prop) [DecidablePred P] (g f : I → α) : I → α := fun e => if P e then g e else f e

theorem part_none {α I : Type} (P : I → Prop) [DecidablePred P] (g f : I → α) (h : ∀ e, ¬ P e) : part P g f = f := funext fun e => if_neg (h e)
theorem part_all {α I : Type} (P : I → Prop) [DecidablePred P] (g f : I → α) (h : ∀ e, P e) : part P g f = g := funext fun e => if_pos (h e)

theorem write_part (b : Ref sig .tc) (r : Rect b.ty.shape) (P P' : b.ty.shape.Idx → Prop) [DecidablePred P] [DecidablePred P']
    (g f : b.ty.Contents (Elt F)) (v : r.shape.Idx → Elt F b.ty.elt) (hv : ∀ j, v j = g (r.emb j)) (hP : ∀ e, P' e ↔ P e ∨ e ∈ r.set) :
    ((Memref.whole b).access r).write (Elt F) (part P g f) v Finset.univ = part P' g f := by
  funext e
  by_cases he : e ∈ ((Memref.whole b).access r).set
  · obtain ⟨j, rfl⟩ := exists_emb _ e he
    rw [View.write_emb_of_mem _ _ (Finset.mem_univ _)]
    have h1 : ((Memref.whole b).access r).emb j ∈ r.set := (ValueKit.mem_set_slice_whole_iff b r _ Iff.rfl).mp he
    exact (hv j).trans (if_pos ((hP _).mpr (.inr h1))).symm
  · rw [View.write_of_not_mem _ _ _ he]
    have h1 : e ∉ r.set := fun h => he ((ValueKit.mem_set_slice_whole_iff b r _ Iff.rfl).mpr h)
    unfold part
    by_cases hp : P e
    · rw [if_pos hp, if_pos ((hP e).mpr (.inl hp))]
    · rw [if_neg hp, if_neg (fun h => ((hP e).mp h).elim hp h1)]

end Cert.MlaProof

end
-- ==== Proof.Stores.lean ====
/-
# `Stores`: the loads and stores of the buffers a device keeps to itself, as steps of a run
-/
module

public import proofs.«01_k».proof.Proof.Vals

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem zero2 : (![0, 0] : Fin 2 → ℕ) = fun _ => 0 := by decide
theorem zero3 : (![0, 0, 0] : Fin 3 → ℕ) = fun _ => 0 := by decide

/-- Loading the whole of `cc0_stg0_0` yields its contents. -/
theorem ld_x (c : Dev nD) (f : FVec F S2x512x2048 .bf16) (inb : ∀ a, (![0, 0, 0] : Fin 3 → ℕ) a + S2x512x2048.size a ≤ S2x512x2048.size a)
    {hl : (Memref.whole cc0_stg0_0 : Memref sig .tc .vmem S2x512x2048 .bf16).view.LoadsAt (Rect.unit (s := S2x512x2048) ![0, 0, 0] S2x512x2048.size inb).toLoadRect} {α : Type} {Q : α → sProp 𝕄}
    {k : ((Rect.unit (s := S2x512x2048) ![0, 0, 0] S2x512x2048.size inb).toLoadRect.shape.Idx → Elt F .bf16) → Prog (TpuEff nD τ sig (Elt F) Λ₀ .tc) α} :
    ((c : Thread nD τ).loc cc0_stg0_0 ↦{fullShare} f : sProp 𝕄)
      ⊢ iprop((((c : Thread nD τ).loc cc0_stg0_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg0_0 : Memref sig .tc .vmem S2x512x2048 .bf16) (Rect.unit (s := S2x512x2048) ![0, 0, 0] S2x512x2048.size inb).toLoadRect hl) k) Q) := by
  have h := wp_load (defs := defs₀ (F := F)) (α := α) (Q := Q) 𝒱₀ (c : Thread nD τ) none (Γ := .empty) Set.univ (m := (Memref.whole cc0_stg0_0 : Memref sig .tc .vmem S2x512x2048 .bf16)) (r := (Rect.unit (s := S2x512x2048) ![0, 0, 0] S2x512x2048.size inb).toLoadRect) (hl := hl) (S := Finset.univ) (q := fullShare) (f := f) (k := k) (Finset.subset_univ _)
  have e : (Memref.whole cc0_stg0_0 : Memref sig .tc .vmem S2x512x2048 .bf16).view.readAt (Elt F) (Rect.unit (s := S2x512x2048) ![0, 0, 0] S2x512x2048.size inb).toLoadRect f = f := Memref.readAt_unit_zero (Elt F) cc0_stg0_0 zero3 inb f
  rw [e] at h
  exact h

/-- Loading the whole of `cc0_stg1_0` yields its contents. -/
theorem ld_dkv (c : Dev nD) (f : FVec F S2048x128 .bf16) (inb : ∀ a, (![0, 0] : Fin 2 → ℕ) a + S2048x128.size a ≤ S2048x128.size a)
    {hl : (Memref.whole cc0_stg1_0 : Memref sig .tc .vmem S2048x128 .bf16).view.LoadsAt (Rect.unit (s := S2048x128) ![0, 0] S2048x128.size inb).toLoadRect} {α : Type} {Q : α → sProp 𝕄}
    {k : ((Rect.unit (s := S2048x128) ![0, 0] S2048x128.size inb).toLoadRect.shape.Idx → Elt F .bf16) → Prog (TpuEff nD τ sig (Elt F) Λ₀ .tc) α} :
    ((c : Thread nD τ).loc cc0_stg1_0 ↦{fullShare} f : sProp 𝕄)
      ⊢ iprop((((c : Thread nD τ).loc cc0_stg1_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg1_0 : Memref sig .tc .vmem S2048x128 .bf16) (Rect.unit (s := S2048x128) ![0, 0] S2048x128.size inb).toLoadRect hl) k) Q) := by
  have h := wp_load (defs := defs₀ (F := F)) (α := α) (Q := Q) 𝒱₀ (c : Thread nD τ) none (Γ := .empty) Set.univ (m := (Memref.whole cc0_stg1_0 : Memref sig .tc .vmem S2048x128 .bf16)) (r := (Rect.unit (s := S2048x128) ![0, 0] S2048x128.size inb).toLoadRect) (hl := hl) (S := Finset.univ) (q := fullShare) (f := f) (k := k) (Finset.subset_univ _)
  have e : (Memref.whole cc0_stg1_0 : Memref sig .tc .vmem S2048x128 .bf16).view.readAt (Elt F) (Rect.unit (s := S2048x128) ![0, 0] S2048x128.size inb).toLoadRect f = f := Memref.readAt_unit_zero (Elt F) cc0_stg1_0 zero2 inb f
  rw [e] at h
  exact h

/-- Loading the whole of `cc0_stg2_0` yields its contents. -/
theorem ld_uk (c : Dev nD) (f : FVec F S128x2048 .bf16) (inb : ∀ a, (![0, 0] : Fin 2 → ℕ) a + S128x2048.size a ≤ S128x2048.size a)
    {hl : (Memref.whole cc0_stg2_0 : Memref sig .tc .vmem S128x2048 .bf16).view.LoadsAt (Rect.unit (s := S128x2048) ![0, 0] S128x2048.size inb).toLoadRect} {α : Type} {Q : α → sProp 𝕄}
    {k : ((Rect.unit (s := S128x2048) ![0, 0] S128x2048.size inb).toLoadRect.shape.Idx → Elt F .bf16) → Prog (TpuEff nD τ sig (Elt F) Λ₀ .tc) α} :
    ((c : Thread nD τ).loc cc0_stg2_0 ↦{fullShare} f : sProp 𝕄)
      ⊢ iprop((((c : Thread nD τ).loc cc0_stg2_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg2_0 : Memref sig .tc .vmem S128x2048 .bf16) (Rect.unit (s := S128x2048) ![0, 0] S128x2048.size inb).toLoadRect hl) k) Q) := by
  have h := wp_load (defs := defs₀ (F := F)) (α := α) (Q := Q) 𝒱₀ (c : Thread nD τ) none (Γ := .empty) Set.univ (m := (Memref.whole cc0_stg2_0 : Memref sig .tc .vmem S128x2048 .bf16)) (r := (Rect.unit (s := S128x2048) ![0, 0] S128x2048.size inb).toLoadRect) (hl := hl) (S := Finset.univ) (q := fullShare) (f := f) (k := k) (Finset.subset_univ _)
  have e : (Memref.whole cc0_stg2_0 : Memref sig .tc .vmem S128x2048 .bf16).view.readAt (Elt F) (Rect.unit (s := S128x2048) ![0, 0] S128x2048.size inb).toLoadRect f = f := Memref.readAt_unit_zero (Elt F) cc0_stg2_0 zero2 inb f
  rw [e] at h
  exact h

/-- Loading the whole of `cc0_stg3_0` yields its contents. -/
theorem ld_uv (c : Dev nD) (f : FVec F S128x2048 .bf16) (inb : ∀ a, (![0, 0] : Fin 2 → ℕ) a + S128x2048.size a ≤ S128x2048.size a)
    {hl : (Memref.whole cc0_stg3_0 : Memref sig .tc .vmem S128x2048 .bf16).view.LoadsAt (Rect.unit (s := S128x2048) ![0, 0] S128x2048.size inb).toLoadRect} {α : Type} {Q : α → sProp 𝕄}
    {k : ((Rect.unit (s := S128x2048) ![0, 0] S128x2048.size inb).toLoadRect.shape.Idx → Elt F .bf16) → Prog (TpuEff nD τ sig (Elt F) Λ₀ .tc) α} :
    ((c : Thread nD τ).loc cc0_stg3_0 ↦{fullShare} f : sProp 𝕄)
      ⊢ iprop((((c : Thread nD τ).loc cc0_stg3_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg3_0 : Memref sig .tc .vmem S128x2048 .bf16) (Rect.unit (s := S128x2048) ![0, 0] S128x2048.size inb).toLoadRect hl) k) Q) := by
  have h := wp_load (defs := defs₀ (F := F)) (α := α) (Q := Q) 𝒱₀ (c : Thread nD τ) none (Γ := .empty) Set.univ (m := (Memref.whole cc0_stg3_0 : Memref sig .tc .vmem S128x2048 .bf16)) (r := (Rect.unit (s := S128x2048) ![0, 0] S128x2048.size inb).toLoadRect) (hl := hl) (S := Finset.univ) (q := fullShare) (f := f) (k := k) (Finset.subset_univ _)
  have e : (Memref.whole cc0_stg3_0 : Memref sig .tc .vmem S128x2048 .bf16).view.readAt (Elt F) (Rect.unit (s := S128x2048) ![0, 0] S128x2048.size inb).toLoadRect f = f := Memref.readAt_unit_zero (Elt F) cc0_stg3_0 zero2 inb f
  rw [e] at h
  exact h

/-- Loading the whole of `cc0_stg5_0` yields its contents. -/
theorem ld_wqr (c : Dev nD) (f : FVec F S2048x512 .bf16) (inb : ∀ a, (![0, 0] : Fin 2 → ℕ) a + S2048x512.size a ≤ S2048x512.size a)
    {hl : (Memref.whole cc0_stg5_0 : Memref sig .tc .vmem S2048x512 .bf16).view.LoadsAt (Rect.unit (s := S2048x512) ![0, 0] S2048x512.size inb).toLoadRect} {α : Type} {Q : α → sProp 𝕄}
    {k : ((Rect.unit (s := S2048x512) ![0, 0] S2048x512.size inb).toLoadRect.shape.Idx → Elt F .bf16) → Prog (TpuEff nD τ sig (Elt F) Λ₀ .tc) α} :
    ((c : Thread nD τ).loc cc0_stg5_0 ↦{fullShare} f : sProp 𝕄)
      ⊢ iprop((((c : Thread nD τ).loc cc0_stg5_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg5_0 : Memref sig .tc .vmem S2048x512 .bf16) (Rect.unit (s := S2048x512) ![0, 0] S2048x512.size inb).toLoadRect hl) k) Q) := by
  have h := wp_load (defs := defs₀ (F := F)) (α := α) (Q := Q) 𝒱₀ (c : Thread nD τ) none (Γ := .empty) Set.univ (m := (Memref.whole cc0_stg5_0 : Memref sig .tc .vmem S2048x512 .bf16)) (r := (Rect.unit (s := S2048x512) ![0, 0] S2048x512.size inb).toLoadRect) (hl := hl) (S := Finset.univ) (q := fullShare) (f := f) (k := k) (Finset.subset_univ _)
  have e : (Memref.whole cc0_stg5_0 : Memref sig .tc .vmem S2048x512 .bf16).view.readAt (Elt F) (Rect.unit (s := S2048x512) ![0, 0] S2048x512.size inb).toLoadRect f = f := Memref.readAt_unit_zero (Elt F) cc0_stg5_0 zero2 inb f
  rw [e] at h
  exact h

/-- Loading the whole of `cc0_stg6_0` yields its contents. -/
theorem ld_wkr (c : Dev nD) (f : FVec F S2048x32 .bf16) (inb : ∀ a, (![0, 0] : Fin 2 → ℕ) a + S2048x32.size a ≤ S2048x32.size a)
    {hl : (Memref.whole cc0_stg6_0 : Memref sig .tc .vmem S2048x32 .bf16).view.LoadsAt (Rect.unit (s := S2048x32) ![0, 0] S2048x32.size inb).toLoadRect} {α : Type} {Q : α → sProp 𝕄}
    {k : ((Rect.unit (s := S2048x32) ![0, 0] S2048x32.size inb).toLoadRect.shape.Idx → Elt F .bf16) → Prog (TpuEff nD τ sig (Elt F) Λ₀ .tc) α} :
    ((c : Thread nD τ).loc cc0_stg6_0 ↦{fullShare} f : sProp 𝕄)
      ⊢ iprop((((c : Thread nD τ).loc cc0_stg6_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg6_0 : Memref sig .tc .vmem S2048x32 .bf16) (Rect.unit (s := S2048x32) ![0, 0] S2048x32.size inb).toLoadRect hl) k) Q) := by
  have h := wp_load (defs := defs₀ (F := F)) (α := α) (Q := Q) 𝒱₀ (c : Thread nD τ) none (Γ := .empty) Set.univ (m := (Memref.whole cc0_stg6_0 : Memref sig .tc .vmem S2048x32 .bf16)) (r := (Rect.unit (s := S2048x32) ![0, 0] S2048x32.size inb).toLoadRect) (hl := hl) (S := Finset.univ) (q := fullShare) (f := f) (k := k) (Finset.subset_univ _)
  have e : (Memref.whole cc0_stg6_0 : Memref sig .tc .vmem S2048x32 .bf16).view.readAt (Elt F) (Rect.unit (s := S2048x32) ![0, 0] S2048x32.size inb).toLoadRect f = f := Memref.readAt_unit_zero (Elt F) cc0_stg6_0 zero2 inb f
  rw [e] at h
  exact h

/-- Loading the whole of `cc0_stg7_0` yields its contents. -/
theorem ld_wo (c : Dev nD) (f : FVec F S2048x2048 .bf16) (inb : ∀ a, (![0, 0] : Fin 2 → ℕ) a + S2048x2048.size a ≤ S2048x2048.size a)
    {hl : (Memref.whole cc0_stg7_0 : Memref sig .tc .vmem S2048x2048 .bf16).view.LoadsAt (Rect.unit (s := S2048x2048) ![0, 0] S2048x2048.size inb).toLoadRect} {α : Type} {Q : α → sProp 𝕄}
    {k : ((Rect.unit (s := S2048x2048) ![0, 0] S2048x2048.size inb).toLoadRect.shape.Idx → Elt F .bf16) → Prog (TpuEff nD τ sig (Elt F) Λ₀ .tc) α} :
    ((c : Thread nD τ).loc cc0_stg7_0 ↦{fullShare} f : sProp 𝕄)
      ⊢ iprop((((c : Thread nD τ).loc cc0_stg7_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg7_0 : Memref sig .tc .vmem S2048x2048 .bf16) (Rect.unit (s := S2048x2048) ![0, 0] S2048x2048.size inb).toLoadRect hl) k) Q) := by
  have h := wp_load (defs := defs₀ (F := F)) (α := α) (Q := Q) 𝒱₀ (c : Thread nD τ) none (Γ := .empty) Set.univ (m := (Memref.whole cc0_stg7_0 : Memref sig .tc .vmem S2048x2048 .bf16)) (r := (Rect.unit (s := S2048x2048) ![0, 0] S2048x2048.size inb).toLoadRect) (hl := hl) (S := Finset.univ) (q := fullShare) (f := f) (k := k) (Finset.subset_univ _)
  have e : (Memref.whole cc0_stg7_0 : Memref sig .tc .vmem S2048x2048 .bf16).view.readAt (Elt F) (Rect.unit (s := S2048x2048) ![0, 0] S2048x2048.size inb).toLoadRect f = f := Memref.readAt_unit_zero (Elt F) cc0_stg7_0 zero2 inb f
  rw [e] at h
  exact h

/-- Loading the whole of `cc0_stg8_0` yields its contents. -/
theorem ld_out (c : Dev nD) (f : FVec F S2x512x2048 .bf16) (inb : ∀ a, (![0, 0, 0] : Fin 3 → ℕ) a + S2x512x2048.size a ≤ S2x512x2048.size a)
    {hl : (Memref.whole cc0_stg8_0 : Memref sig .tc .vmem S2x512x2048 .bf16).view.LoadsAt (Rect.unit (s := S2x512x2048) ![0, 0, 0] S2x512x2048.size inb).toLoadRect} {α : Type} {Q : α → sProp 𝕄}
    {k : ((Rect.unit (s := S2x512x2048) ![0, 0, 0] S2x512x2048.size inb).toLoadRect.shape.Idx → Elt F .bf16) → Prog (TpuEff nD τ sig (Elt F) Λ₀ .tc) α} :
    ((c : Thread nD τ).loc cc0_stg8_0 ↦{fullShare} f : sProp 𝕄)
      ⊢ iprop((((c : Thread nD τ).loc cc0_stg8_0 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg8_0 : Memref sig .tc .vmem S2x512x2048 .bf16) (Rect.unit (s := S2x512x2048) ![0, 0, 0] S2x512x2048.size inb).toLoadRect hl) k) Q) := by
  have h := wp_load (defs := defs₀ (F := F)) (α := α) (Q := Q) 𝒱₀ (c : Thread nD τ) none (Γ := .empty) Set.univ (m := (Memref.whole cc0_stg8_0 : Memref sig .tc .vmem S2x512x2048 .bf16)) (r := (Rect.unit (s := S2x512x2048) ![0, 0, 0] S2x512x2048.size inb).toLoadRect) (hl := hl) (S := Finset.univ) (q := fullShare) (f := f) (k := k) (Finset.subset_univ _)
  have e : (Memref.whole cc0_stg8_0 : Memref sig .tc .vmem S2x512x2048 .bf16).view.readAt (Elt F) (Rect.unit (s := S2x512x2048) ![0, 0, 0] S2x512x2048.size inb).toLoadRect f = f := Memref.readAt_unit_zero (Elt F) cc0_stg8_0 zero3 inb f
  rw [e] at h
  exact h

/-- Storing over the whole of `cc0_stg8_0` leaves what was stored. -/
theorem st_out (c : Dev nD) (f v : FVec F S2x512x2048 .bf16) (inb : ∀ a, (![0, 0, 0] : Fin 3 → ℕ) a + S2x512x2048.size a ≤ S2x512x2048.size a)
    {hx hm} {α : Type} {Q : α → sProp 𝕄} {k : Unit → Prog (TpuEff nD τ sig (Elt F) Λ₀ .tc) α} :
    ((c : Thread nD τ).loc cc0_stg8_0 ↦{fullShare} f : sProp 𝕄)
      ⊢ iprop((((c : Thread nD τ).loc cc0_stg8_0 ↦{fullShare} v) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_stg8_0 : Memref sig .tc .vmem S2x512x2048 .bf16) (Rect.unit (s := S2x512x2048) ![0, 0, 0] S2x512x2048.size inb) v Finset.univ hx hm) k) Q) := by
  have h := wp_store (defs := defs₀ (F := F)) (α := α) (Q := Q) 𝒱₀ (c : Thread nD τ) none (Γ := .empty) Set.univ (m := (Memref.whole cc0_stg8_0 : Memref sig .tc .vmem S2x512x2048 .bf16)) (r := (Rect.unit (s := S2x512x2048) ![0, 0, 0] S2x512x2048.size inb)) (w := v) (Mk := Finset.univ) (hx := hx) (hm := hm) (S := Finset.univ) (f := f) (k := k) (Finset.subset_univ _)
  have e : ((Memref.whole cc0_stg8_0 : Memref sig .tc .vmem S2x512x2048 .bf16).access (Rect.unit (s := S2x512x2048) ![0, 0, 0] S2x512x2048.size inb)).write (Elt F) f v Finset.univ = v := Memref.write_access_unit_zero_univ (Elt F) cc0_stg8_0 zero3 inb f v
  rw [e] at h
  exact h

/-- Loading the whole of `cc0_scratch3` yields its contents. -/
theorem ld_Ob (c : Dev nD) (f : FVec F S1024x2048 .bf16) (inb : ∀ a, (![0, 0] : Fin 2 → ℕ) a + S1024x2048.size a ≤ S1024x2048.size a)
    {hl : (Memref.whole cc0_scratch3 : Memref sig .tc .vmem S1024x2048 .bf16).view.LoadsAt (Rect.unit (s := S1024x2048) ![0, 0] S1024x2048.size inb).toLoadRect} {α : Type} {Q : α → sProp 𝕄}
    {k : ((Rect.unit (s := S1024x2048) ![0, 0] S1024x2048.size inb).toLoadRect.shape.Idx → Elt F .bf16) → Prog (TpuEff nD τ sig (Elt F) Λ₀ .tc) α} :
    ((c : Thread nD τ).loc cc0_scratch3 ↦{fullShare} f : sProp 𝕄)
      ⊢ iprop((((c : Thread nD τ).loc cc0_scratch3 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_scratch3 : Memref sig .tc .vmem S1024x2048 .bf16) (Rect.unit (s := S1024x2048) ![0, 0] S1024x2048.size inb).toLoadRect hl) k) Q) := by
  have h := wp_load (defs := defs₀ (F := F)) (α := α) (Q := Q) 𝒱₀ (c : Thread nD τ) none (Γ := .empty) Set.univ (m := (Memref.whole cc0_scratch3 : Memref sig .tc .vmem S1024x2048 .bf16)) (r := (Rect.unit (s := S1024x2048) ![0, 0] S1024x2048.size inb).toLoadRect) (hl := hl) (S := Finset.univ) (q := fullShare) (f := f) (k := k) (Finset.subset_univ _)
  have e : (Memref.whole cc0_scratch3 : Memref sig .tc .vmem S1024x2048 .bf16).view.readAt (Elt F) (Rect.unit (s := S1024x2048) ![0, 0] S1024x2048.size inb).toLoadRect f = f := Memref.readAt_unit_zero (Elt F) cc0_scratch3 zero2 inb f
  rw [e] at h
  exact h

/-- Storing over the whole of `cc0_scratch3` leaves what was stored. -/
theorem st_Ob (c : Dev nD) (f v : FVec F S1024x2048 .bf16) (inb : ∀ a, (![0, 0] : Fin 2 → ℕ) a + S1024x2048.size a ≤ S1024x2048.size a)
    {hx hm} {α : Type} {Q : α → sProp 𝕄} {k : Unit → Prog (TpuEff nD τ sig (Elt F) Λ₀ .tc) α} :
    ((c : Thread nD τ).loc cc0_scratch3 ↦{fullShare} f : sProp 𝕄)
      ⊢ iprop((((c : Thread nD τ).loc cc0_scratch3 ↦{fullShare} v) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch3 : Memref sig .tc .vmem S1024x2048 .bf16) (Rect.unit (s := S1024x2048) ![0, 0] S1024x2048.size inb) v Finset.univ hx hm) k) Q) := by
  have h := wp_store (defs := defs₀ (F := F)) (α := α) (Q := Q) 𝒱₀ (c : Thread nD τ) none (Γ := .empty) Set.univ (m := (Memref.whole cc0_scratch3 : Memref sig .tc .vmem S1024x2048 .bf16)) (r := (Rect.unit (s := S1024x2048) ![0, 0] S1024x2048.size inb)) (w := v) (Mk := Finset.univ) (hx := hx) (hm := hm) (S := Finset.univ) (f := f) (k := k) (Finset.subset_univ _)
  have e : ((Memref.whole cc0_scratch3 : Memref sig .tc .vmem S1024x2048 .bf16).access (Rect.unit (s := S1024x2048) ![0, 0] S1024x2048.size inb)).write (Elt F) f v Finset.univ = v := Memref.write_access_unit_zero_univ (Elt F) cc0_scratch3 zero2 inb f v
  rw [e] at h
  exact h

/-- Loading the whole of `cc0_scratch5` yields its contents. -/
theorem ld_Kb (c : Dev nD) (f : FVec F S1024x2048 .bf16) (inb : ∀ a, (![0, 0] : Fin 2 → ℕ) a + S1024x2048.size a ≤ S1024x2048.size a)
    {hl : (Memref.whole cc0_scratch5 : Memref sig .tc .vmem S1024x2048 .bf16).view.LoadsAt (Rect.unit (s := S1024x2048) ![0, 0] S1024x2048.size inb).toLoadRect} {α : Type} {Q : α → sProp 𝕄}
    {k : ((Rect.unit (s := S1024x2048) ![0, 0] S1024x2048.size inb).toLoadRect.shape.Idx → Elt F .bf16) → Prog (TpuEff nD τ sig (Elt F) Λ₀ .tc) α} :
    ((c : Thread nD τ).loc cc0_scratch5 ↦{fullShare} f : sProp 𝕄)
      ⊢ iprop((((c : Thread nD τ).loc cc0_scratch5 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_scratch5 : Memref sig .tc .vmem S1024x2048 .bf16) (Rect.unit (s := S1024x2048) ![0, 0] S1024x2048.size inb).toLoadRect hl) k) Q) := by
  have h := wp_load (defs := defs₀ (F := F)) (α := α) (Q := Q) 𝒱₀ (c : Thread nD τ) none (Γ := .empty) Set.univ (m := (Memref.whole cc0_scratch5 : Memref sig .tc .vmem S1024x2048 .bf16)) (r := (Rect.unit (s := S1024x2048) ![0, 0] S1024x2048.size inb).toLoadRect) (hl := hl) (S := Finset.univ) (q := fullShare) (f := f) (k := k) (Finset.subset_univ _)
  have e : (Memref.whole cc0_scratch5 : Memref sig .tc .vmem S1024x2048 .bf16).view.readAt (Elt F) (Rect.unit (s := S1024x2048) ![0, 0] S1024x2048.size inb).toLoadRect f = f := Memref.readAt_unit_zero (Elt F) cc0_scratch5 zero2 inb f
  rw [e] at h
  exact h

/-- Storing over the whole of `cc0_scratch5` leaves what was stored. -/
theorem st_Kb (c : Dev nD) (f v : FVec F S1024x2048 .bf16) (inb : ∀ a, (![0, 0] : Fin 2 → ℕ) a + S1024x2048.size a ≤ S1024x2048.size a)
    {hx hm} {α : Type} {Q : α → sProp 𝕄} {k : Unit → Prog (TpuEff nD τ sig (Elt F) Λ₀ .tc) α} :
    ((c : Thread nD τ).loc cc0_scratch5 ↦{fullShare} f : sProp 𝕄)
      ⊢ iprop((((c : Thread nD τ).loc cc0_scratch5 ↦{fullShare} v) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch5 : Memref sig .tc .vmem S1024x2048 .bf16) (Rect.unit (s := S1024x2048) ![0, 0] S1024x2048.size inb) v Finset.univ hx hm) k) Q) := by
  have h := wp_store (defs := defs₀ (F := F)) (α := α) (Q := Q) 𝒱₀ (c : Thread nD τ) none (Γ := .empty) Set.univ (m := (Memref.whole cc0_scratch5 : Memref sig .tc .vmem S1024x2048 .bf16)) (r := (Rect.unit (s := S1024x2048) ![0, 0] S1024x2048.size inb)) (w := v) (Mk := Finset.univ) (hx := hx) (hm := hm) (S := Finset.univ) (f := f) (k := k) (Finset.subset_univ _)
  have e : ((Memref.whole cc0_scratch5 : Memref sig .tc .vmem S1024x2048 .bf16).access (Rect.unit (s := S1024x2048) ![0, 0] S1024x2048.size inb)).write (Elt F) f v Finset.univ = v := Memref.write_access_unit_zero_univ (Elt F) cc0_scratch5 zero2 inb f v
  rw [e] at h
  exact h

/-- Loading the whole of `cc0_scratch6` yields its contents. -/
theorem ld_Vb (c : Dev nD) (f : FVec F S1024x2048 .bf16) (inb : ∀ a, (![0, 0] : Fin 2 → ℕ) a + S1024x2048.size a ≤ S1024x2048.size a)
    {hl : (Memref.whole cc0_scratch6 : Memref sig .tc .vmem S1024x2048 .bf16).view.LoadsAt (Rect.unit (s := S1024x2048) ![0, 0] S1024x2048.size inb).toLoadRect} {α : Type} {Q : α → sProp 𝕄}
    {k : ((Rect.unit (s := S1024x2048) ![0, 0] S1024x2048.size inb).toLoadRect.shape.Idx → Elt F .bf16) → Prog (TpuEff nD τ sig (Elt F) Λ₀ .tc) α} :
    ((c : Thread nD τ).loc cc0_scratch6 ↦{fullShare} f : sProp 𝕄)
      ⊢ iprop((((c : Thread nD τ).loc cc0_scratch6 ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_scratch6 : Memref sig .tc .vmem S1024x2048 .bf16) (Rect.unit (s := S1024x2048) ![0, 0] S1024x2048.size inb).toLoadRect hl) k) Q) := by
  have h := wp_load (defs := defs₀ (F := F)) (α := α) (Q := Q) 𝒱₀ (c : Thread nD τ) none (Γ := .empty) Set.univ (m := (Memref.whole cc0_scratch6 : Memref sig .tc .vmem S1024x2048 .bf16)) (r := (Rect.unit (s := S1024x2048) ![0, 0] S1024x2048.size inb).toLoadRect) (hl := hl) (S := Finset.univ) (q := fullShare) (f := f) (k := k) (Finset.subset_univ _)
  have e : (Memref.whole cc0_scratch6 : Memref sig .tc .vmem S1024x2048 .bf16).view.readAt (Elt F) (Rect.unit (s := S1024x2048) ![0, 0] S1024x2048.size inb).toLoadRect f = f := Memref.readAt_unit_zero (Elt F) cc0_scratch6 zero2 inb f
  rw [e] at h
  exact h

/-- Storing over the whole of `cc0_scratch6` leaves what was stored. -/
theorem st_Vb (c : Dev nD) (f v : FVec F S1024x2048 .bf16) (inb : ∀ a, (![0, 0] : Fin 2 → ℕ) a + S1024x2048.size a ≤ S1024x2048.size a)
    {hx hm} {α : Type} {Q : α → sProp 𝕄} {k : Unit → Prog (TpuEff nD τ sig (Elt F) Λ₀ .tc) α} :
    ((c : Thread nD τ).loc cc0_scratch6 ↦{fullShare} f : sProp 𝕄)
      ⊢ iprop((((c : Thread nD τ).loc cc0_scratch6 ↦{fullShare} v) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch6 : Memref sig .tc .vmem S1024x2048 .bf16) (Rect.unit (s := S1024x2048) ![0, 0] S1024x2048.size inb) v Finset.univ hx hm) k) Q) := by
  have h := wp_store (defs := defs₀ (F := F)) (α := α) (Q := Q) 𝒱₀ (c : Thread nD τ) none (Γ := .empty) Set.univ (m := (Memref.whole cc0_scratch6 : Memref sig .tc .vmem S1024x2048 .bf16)) (r := (Rect.unit (s := S1024x2048) ![0, 0] S1024x2048.size inb)) (w := v) (Mk := Finset.univ) (hx := hx) (hm := hm) (S := Finset.univ) (f := f) (k := k) (Finset.subset_univ _)
  have e : ((Memref.whole cc0_scratch6 : Memref sig .tc .vmem S1024x2048 .bf16).access (Rect.unit (s := S1024x2048) ![0, 0] S1024x2048.size inb)).write (Elt F) f v Finset.univ = v := Memref.write_access_unit_zero_univ (Elt F) cc0_scratch6 zero2 inb f v
  rw [e] at h
  exact h

/-- Storing the target's own slice enlarges the part of `cc0_scratch7` that agrees with the target. -/
theorem put_qr (c : Dev nD) (g f : FVec F S32x512x32 .bf16) (P P' : S32x512x32.Idx → Prop) [DecidablePred P] [DecidablePred P'] (off : Fin 3 → ℕ) (inb : ∀ a, off a + S1x512x32.size a ≤ S32x512x32.size a)
    (v : FVec F S1x512x32 .bf16) (hv : ∀ j : S1x512x32.Idx, v j = g ((Rect.unit (s := S32x512x32) off S1x512x32.size inb).emb j)) (hP : ∀ e, P' e ↔ P e ∨ e ∈ (Rect.unit (s := S32x512x32) off S1x512x32.size inb).set)
    {hx hm} {α : Type} {Q : α → sProp 𝕄} {k : Unit → Prog (TpuEff nD τ sig (Elt F) Λ₀ .tc) α} :
    ((c : Thread nD τ).loc cc0_scratch7 ↦{fullShare} (part P g f : FVec F S32x512x32 .bf16) : sProp 𝕄)
      ⊢ iprop((((c : Thread nD τ).loc cc0_scratch7 ↦{fullShare} (part P' g f : FVec F S32x512x32 .bf16)) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch7 : Memref sig .tc .vmem S32x512x32 .bf16) (Rect.unit (s := S32x512x32) off S1x512x32.size inb) v Finset.univ hx hm) k) Q) := by
  have h := wp_store (defs := defs₀ (F := F)) (α := α) (Q := Q) 𝒱₀ (c : Thread nD τ) none (Γ := .empty) Set.univ (m := (Memref.whole cc0_scratch7 : Memref sig .tc .vmem S32x512x32 .bf16)) (r := (Rect.unit (s := S32x512x32) off S1x512x32.size inb)) (w := v) (Mk := Finset.univ) (hx := hx) (hm := hm) (S := Finset.univ) (f := (part P g f : FVec F S32x512x32 .bf16)) (k := k) (Finset.subset_univ _)
  have e : ((Memref.whole cc0_scratch7 : Memref sig .tc .vmem S32x512x32 .bf16).access (Rect.unit (s := S32x512x32) off S1x512x32.size inb)).write (Elt F) (part P g f : FVec F S32x512x32 .bf16) v Finset.univ = part P' g f := write_part cc0_scratch7 (Rect.unit (s := S32x512x32) off S1x512x32.size inb) P P' g f v hv hP
  rw [e] at h
  exact h

/-- Storing the target's own slice enlarges the part of `cc0_scratch8` that agrees with the target. -/
theorem put_kr (c : Dev nD) (g f : FVec F S2x512x32 .bf16) (P P' : S2x512x32.Idx → Prop) [DecidablePred P] [DecidablePred P'] (off : Fin 3 → ℕ) (inb : ∀ a, off a + S1x512x32.size a ≤ S2x512x32.size a)
    (v : FVec F S1x512x32 .bf16) (hv : ∀ j : S1x512x32.Idx, v j = g ((Rect.unit (s := S2x512x32) off S1x512x32.size inb).emb j)) (hP : ∀ e, P' e ↔ P e ∨ e ∈ (Rect.unit (s := S2x512x32) off S1x512x32.size inb).set)
    {hx hm} {α : Type} {Q : α → sProp 𝕄} {k : Unit → Prog (TpuEff nD τ sig (Elt F) Λ₀ .tc) α} :
    ((c : Thread nD τ).loc cc0_scratch8 ↦{fullShare} (part P g f : FVec F S2x512x32 .bf16) : sProp 𝕄)
      ⊢ iprop((((c : Thread nD τ).loc cc0_scratch8 ↦{fullShare} (part P' g f : FVec F S2x512x32 .bf16)) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch8 : Memref sig .tc .vmem S2x512x32 .bf16) (Rect.unit (s := S2x512x32) off S1x512x32.size inb) v Finset.univ hx hm) k) Q) := by
  have h := wp_store (defs := defs₀ (F := F)) (α := α) (Q := Q) 𝒱₀ (c : Thread nD τ) none (Γ := .empty) Set.univ (m := (Memref.whole cc0_scratch8 : Memref sig .tc .vmem S2x512x32 .bf16)) (r := (Rect.unit (s := S2x512x32) off S1x512x32.size inb)) (w := v) (Mk := Finset.univ) (hx := hx) (hm := hm) (S := Finset.univ) (f := (part P g f : FVec F S2x512x32 .bf16)) (k := k) (Finset.subset_univ _)
  have e : ((Memref.whole cc0_scratch8 : Memref sig .tc .vmem S2x512x32 .bf16).access (Rect.unit (s := S2x512x32) off S1x512x32.size inb)).write (Elt F) (part P g f : FVec F S2x512x32 .bf16) v Finset.univ = part P' g f := write_part cc0_scratch8 (Rect.unit (s := S2x512x32) off S1x512x32.size inb) P P' g f v hv hP
  rw [e] at h
  exact h

/-- Storing the target's own slice enlarges the part of `cc0_scratch4` that agrees with the target. -/
theorem put_q (c : Dev nD) (g f : FVec F S1024x2048 .bf16) (P P' : S1024x2048.Idx → Prop) [DecidablePred P] [DecidablePred P'] (off : Fin 2 → ℕ) (inb : ∀ a, off a + S1024x512.size a ≤ S1024x2048.size a)
    (v : FVec F S1024x512 .bf16) (hv : ∀ j : S1024x512.Idx, v j = g ((Rect.unit (s := S1024x2048) off S1024x512.size inb).emb j)) (hP : ∀ e, P' e ↔ P e ∨ e ∈ (Rect.unit (s := S1024x2048) off S1024x512.size inb).set)
    {hx hm} {α : Type} {Q : α → sProp 𝕄} {k : Unit → Prog (TpuEff nD τ sig (Elt F) Λ₀ .tc) α} :
    ((c : Thread nD τ).loc cc0_scratch4 ↦{fullShare} (part P g f : FVec F S1024x2048 .bf16) : sProp 𝕄)
      ⊢ iprop((((c : Thread nD τ).loc cc0_scratch4 ↦{fullShare} (part P' g f : FVec F S1024x2048 .bf16)) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch4 : Memref sig .tc .vmem S1024x2048 .bf16) (Rect.unit (s := S1024x2048) off S1024x512.size inb) v Finset.univ hx hm) k) Q) := by
  have h := wp_store (defs := defs₀ (F := F)) (α := α) (Q := Q) 𝒱₀ (c : Thread nD τ) none (Γ := .empty) Set.univ (m := (Memref.whole cc0_scratch4 : Memref sig .tc .vmem S1024x2048 .bf16)) (r := (Rect.unit (s := S1024x2048) off S1024x512.size inb)) (w := v) (Mk := Finset.univ) (hx := hx) (hm := hm) (S := Finset.univ) (f := (part P g f : FVec F S1024x2048 .bf16)) (k := k) (Finset.subset_univ _)
  have e : ((Memref.whole cc0_scratch4 : Memref sig .tc .vmem S1024x2048 .bf16).access (Rect.unit (s := S1024x2048) off S1024x512.size inb)).write (Elt F) (part P g f : FVec F S1024x2048 .bf16) v Finset.univ = part P' g f := write_part cc0_scratch4 (Rect.unit (s := S1024x2048) off S1024x512.size inb) P P' g f v hv hP
  rw [e] at h
  exact h

/-- Storing the target's own slice enlarges the part of `cc0_scratch3` that agrees with the target. -/
theorem put_o (c : Dev nD) (g f : FVec F S1024x2048 .bf16) (P P' : S1024x2048.Idx → Prop) [DecidablePred P] [DecidablePred P'] (off : Fin 2 → ℕ) (inb : ∀ a, off a + S512x128.size a ≤ S1024x2048.size a)
    (v : FVec F S512x128 .bf16) (hv : ∀ j : S512x128.Idx, v j = g ((Rect.unit (s := S1024x2048) off S512x128.size inb).emb j)) (hP : ∀ e, P' e ↔ P e ∨ e ∈ (Rect.unit (s := S1024x2048) off S512x128.size inb).set)
    {hx hm} {α : Type} {Q : α → sProp 𝕄} {k : Unit → Prog (TpuEff nD τ sig (Elt F) Λ₀ .tc) α} :
    ((c : Thread nD τ).loc cc0_scratch3 ↦{fullShare} (part P g f : FVec F S1024x2048 .bf16) : sProp 𝕄)
      ⊢ iprop((((c : Thread nD τ).loc cc0_scratch3 ↦{fullShare} (part P' g f : FVec F S1024x2048 .bf16)) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch3 : Memref sig .tc .vmem S1024x2048 .bf16) (Rect.unit (s := S1024x2048) off S512x128.size inb) v Finset.univ hx hm) k) Q) := by
  have h := wp_store (defs := defs₀ (F := F)) (α := α) (Q := Q) 𝒱₀ (c : Thread nD τ) none (Γ := .empty) Set.univ (m := (Memref.whole cc0_scratch3 : Memref sig .tc .vmem S1024x2048 .bf16)) (r := (Rect.unit (s := S1024x2048) off S512x128.size inb)) (w := v) (Mk := Finset.univ) (hx := hx) (hm := hm) (S := Finset.univ) (f := (part P g f : FVec F S1024x2048 .bf16)) (k := k) (Finset.subset_univ _)
  have e : ((Memref.whole cc0_scratch3 : Memref sig .tc .vmem S1024x2048 .bf16).access (Rect.unit (s := S1024x2048) off S512x128.size inb)).write (Elt F) (part P g f : FVec F S1024x2048 .bf16) v Finset.univ = part P' g f := write_part cc0_scratch3 (Rect.unit (s := S1024x2048) off S512x128.size inb) P P' g f v hv hP
  rw [e] at h
  exact h

/-- Loading a slice of `cc0_scratch7` yields its contents there. -/
theorem ld_qrS (c : Dev nD) (f : FVec F S32x512x32 .bf16) (off : Fin 3 → ℕ) (inb : ∀ a, off a + S1x512x32.size a ≤ S32x512x32.size a)
    {hl : (Memref.whole cc0_scratch7 : Memref sig .tc .vmem S32x512x32 .bf16).view.LoadsAt (Rect.unit (s := S32x512x32) off S1x512x32.size inb).toLoadRect} {α : Type} {Q : α → sProp 𝕄}
    {k : ((Rect.unit (s := S32x512x32) off S1x512x32.size inb).toLoadRect.shape.Idx → Elt F .bf16) → Prog (TpuEff nD τ sig (Elt F) Λ₀ .tc) α} :
    ((c : Thread nD τ).loc cc0_scratch7 ↦{fullShare} f : sProp 𝕄)
      ⊢ iprop((((c : Thread nD τ).loc cc0_scratch7 ↦{fullShare} f) -∗ wp frame (wpE (defs₀ (F := F)) 𝒱₀ (c : Thread nD τ) none) Set.univ (k fun j => f ((Rect.unit (s := S32x512x32) off S1x512x32.size inb).emb j)) Q)
          -∗ wp frame (wpE (defs₀ (F := F)) 𝒱₀ (c : Thread nD τ) none) Set.univ (.op (.load (Memref.whole cc0_scratch7 : Memref sig .tc .vmem S32x512x32 .bf16) (Rect.unit (s := S32x512x32) off S1x512x32.size inb).toLoadRect hl) k) Q) :=
  wp_load (defs := defs₀ (F := F)) (α := α) (Q := Q) 𝒱₀ (c : Thread nD τ) none (Γ := .empty) Set.univ (m := (Memref.whole cc0_scratch7 : Memref sig .tc .vmem S32x512x32 .bf16)) (r := (Rect.unit (s := S32x512x32) off S1x512x32.size inb).toLoadRect) (hl := hl) (S := Finset.univ) (q := fullShare) (f := f) (k := k) (Finset.subset_univ _)

/-- Loading a slice of `cc0_scratch8` yields its contents there. -/
theorem ld_krS (c : Dev nD) (f : FVec F S2x512x32 .bf16) (off : Fin 3 → ℕ) (inb : ∀ a, off a + S1x512x32.size a ≤ S2x512x32.size a)
    {hl : (Memref.whole cc0_scratch8 : Memref sig .tc .vmem S2x512x32 .bf16).view.LoadsAt (Rect.unit (s := S2x512x32) off S1x512x32.size inb).toLoadRect} {α : Type} {Q : α → sProp 𝕄}
    {k : ((Rect.unit (s := S2x512x32) off S1x512x32.size inb).toLoadRect.shape.Idx → Elt F .bf16) → Prog (TpuEff nD τ sig (Elt F) Λ₀ .tc) α} :
    ((c : Thread nD τ).loc cc0_scratch8 ↦{fullShare} f : sProp 𝕄)
      ⊢ iprop((((c : Thread nD τ).loc cc0_scratch8 ↦{fullShare} f) -∗ wp frame (wpE (defs₀ (F := F)) 𝒱₀ (c : Thread nD τ) none) Set.univ (k fun j => f ((Rect.unit (s := S2x512x32) off S1x512x32.size inb).emb j)) Q)
          -∗ wp frame (wpE (defs₀ (F := F)) 𝒱₀ (c : Thread nD τ) none) Set.univ (.op (.load (Memref.whole cc0_scratch8 : Memref sig .tc .vmem S2x512x32 .bf16) (Rect.unit (s := S2x512x32) off S1x512x32.size inb).toLoadRect hl) k) Q) :=
  wp_load (defs := defs₀ (F := F)) (α := α) (Q := Q) 𝒱₀ (c : Thread nD τ) none (Γ := .empty) Set.univ (m := (Memref.whole cc0_scratch8 : Memref sig .tc .vmem S2x512x32 .bf16)) (r := (Rect.unit (s := S2x512x32) off S1x512x32.size inb).toLoadRect) (hl := hl) (S := Finset.univ) (q := fullShare) (f := f) (k := k) (Finset.subset_univ _)

/-- Loading a slice of `cc0_scratch4` yields its contents there. -/
theorem ld_qS (c : Dev nD) (f : FVec F S1024x2048 .bf16) (off : Fin 2 → ℕ) (inb : ∀ a, off a + S1024x512.size a ≤ S1024x2048.size a)
    {hl : (Memref.whole cc0_scratch4 : Memref sig .tc .vmem S1024x2048 .bf16).view.LoadsAt (Rect.unit (s := S1024x2048) off S1024x512.size inb).toLoadRect} {α : Type} {Q : α → sProp 𝕄}
    {k : ((Rect.unit (s := S1024x2048) off S1024x512.size inb).toLoadRect.shape.Idx → Elt F .bf16) → Prog (TpuEff nD τ sig (Elt F) Λ₀ .tc) α} :
    ((c : Thread nD τ).loc cc0_scratch4 ↦{fullShare} f : sProp 𝕄)
      ⊢ iprop((((c : Thread nD τ).loc cc0_scratch4 ↦{fullShare} f) -∗ wp frame (wpE (defs₀ (F := F)) 𝒱₀ (c : Thread nD τ) none) Set.univ (k fun j => f ((Rect.unit (s := S1024x2048) off S1024x512.size inb).emb j)) Q)
          -∗ wp frame (wpE (defs₀ (F := F)) 𝒱₀ (c : Thread nD τ) none) Set.univ (.op (.load (Memref.whole cc0_scratch4 : Memref sig .tc .vmem S1024x2048 .bf16) (Rect.unit (s := S1024x2048) off S1024x512.size inb).toLoadRect hl) k) Q) :=
  wp_load (defs := defs₀ (F := F)) (α := α) (Q := Q) 𝒱₀ (c : Thread nD τ) none (Γ := .empty) Set.univ (m := (Memref.whole cc0_scratch4 : Memref sig .tc .vmem S1024x2048 .bf16)) (r := (Rect.unit (s := S1024x2048) off S1024x512.size inb).toLoadRect) (hl := hl) (S := Finset.univ) (q := fullShare) (f := f) (k := k) (Finset.subset_univ _)

/-- Loading a slice of `cc0_stg4_0` yields its contents there. -/
theorem ld_wqS (c : Dev nD) (f : FVec F S2048x2048 .bf16) (off : Fin 2 → ℕ) (inb : ∀ a, off a + S2048x512.size a ≤ S2048x2048.size a)
    {hl : (Memref.whole cc0_stg4_0 : Memref sig .tc .vmem S2048x2048 .bf16).view.LoadsAt (Rect.unit (s := S2048x2048) off S2048x512.size inb).toLoadRect} {α : Type} {Q : α → sProp 𝕄}
    {k : ((Rect.unit (s := S2048x2048) off S2048x512.size inb).toLoadRect.shape.Idx → Elt F .bf16) → Prog (TpuEff nD τ sig (Elt F) Λ₀ .tc) α} :
    ((c : Thread nD τ).loc cc0_stg4_0 ↦{fullShare} f : sProp 𝕄)
      ⊢ iprop((((c : Thread nD τ).loc cc0_stg4_0 ↦{fullShare} f) -∗ wp frame (wpE (defs₀ (F := F)) 𝒱₀ (c : Thread nD τ) none) Set.univ (k fun j => f ((Rect.unit (s := S2048x2048) off S2048x512.size inb).emb j)) Q)
          -∗ wp frame (wpE (defs₀ (F := F)) 𝒱₀ (c : Thread nD τ) none) Set.univ (.op (.load (Memref.whole cc0_stg4_0 : Memref sig .tc .vmem S2048x2048 .bf16) (Rect.unit (s := S2048x2048) off S2048x512.size inb).toLoadRect hl) k) Q) :=
  wp_load (defs := defs₀ (F := F)) (α := α) (Q := Q) 𝒱₀ (c : Thread nD τ) none (Γ := .empty) Set.univ (m := (Memref.whole cc0_stg4_0 : Memref sig .tc .vmem S2048x2048 .bf16)) (r := (Rect.unit (s := S2048x2048) off S2048x512.size inb).toLoadRect) (hl := hl) (S := Finset.univ) (q := fullShare) (f := f) (k := k) (Finset.subset_univ _)

/-- Loading a slice of `cc0_scratch3` yields its contents there. -/
theorem ld_oH (c : Dev nD) (f : FVec F S1024x2048 .bf16) (off : Fin 2 → ℕ) (inb : ∀ a, off a + S512x128.size a ≤ S1024x2048.size a)
    {hl : (Memref.whole cc0_scratch3 : Memref sig .tc .vmem S1024x2048 .bf16).view.LoadsAt (Rect.unit (s := S1024x2048) off S512x128.size inb).toLoadRect} {α : Type} {Q : α → sProp 𝕄}
    {k : ((Rect.unit (s := S1024x2048) off S512x128.size inb).toLoadRect.shape.Idx → Elt F .bf16) → Prog (TpuEff nD τ sig (Elt F) Λ₀ .tc) α} :
    ((c : Thread nD τ).loc cc0_scratch3 ↦{fullShare} f : sProp 𝕄)
      ⊢ iprop((((c : Thread nD τ).loc cc0_scratch3 ↦{fullShare} f) -∗ wp frame (wpE (defs₀ (F := F)) 𝒱₀ (c : Thread nD τ) none) Set.univ (k fun j => f ((Rect.unit (s := S1024x2048) off S512x128.size inb).emb j)) Q)
          -∗ wp frame (wpE (defs₀ (F := F)) 𝒱₀ (c : Thread nD τ) none) Set.univ (.op (.load (Memref.whole cc0_scratch3 : Memref sig .tc .vmem S1024x2048 .bf16) (Rect.unit (s := S1024x2048) off S512x128.size inb).toLoadRect hl) k) Q) :=
  wp_load (defs := defs₀ (F := F)) (α := α) (Q := Q) 𝒱₀ (c : Thread nD τ) none (Γ := .empty) Set.univ (m := (Memref.whole cc0_scratch3 : Memref sig .tc .vmem S1024x2048 .bf16)) (r := (Rect.unit (s := S1024x2048) off S512x128.size inb).toLoadRect) (hl := hl) (S := Finset.univ) (q := fullShare) (f := f) (k := k) (Finset.subset_univ _)

/-- Loading a slice of `cc0_scratch4` yields its contents there. -/
theorem ld_qH (c : Dev nD) (f : FVec F S1024x2048 .bf16) (off : Fin 2 → ℕ) (inb : ∀ a, off a + S512x128.size a ≤ S1024x2048.size a)
    {hl : (Memref.whole cc0_scratch4 : Memref sig .tc .vmem S1024x2048 .bf16).view.LoadsAt (Rect.unit (s := S1024x2048) off S512x128.size inb).toLoadRect} {α : Type} {Q : α → sProp 𝕄}
    {k : ((Rect.unit (s := S1024x2048) off S512x128.size inb).toLoadRect.shape.Idx → Elt F .bf16) → Prog (TpuEff nD τ sig (Elt F) Λ₀ .tc) α} :
    ((c : Thread nD τ).loc cc0_scratch4 ↦{fullShare} f : sProp 𝕄)
      ⊢ iprop((((c : Thread nD τ).loc cc0_scratch4 ↦{fullShare} f) -∗ wp frame (wpE (defs₀ (F := F)) 𝒱₀ (c : Thread nD τ) none) Set.univ (k fun j => f ((Rect.unit (s := S1024x2048) off S512x128.size inb).emb j)) Q)
          -∗ wp frame (wpE (defs₀ (F := F)) 𝒱₀ (c : Thread nD τ) none) Set.univ (.op (.load (Memref.whole cc0_scratch4 : Memref sig .tc .vmem S1024x2048 .bf16) (Rect.unit (s := S1024x2048) off S512x128.size inb).toLoadRect hl) k) Q) :=
  wp_load (defs := defs₀ (F := F)) (α := α) (Q := Q) 𝒱₀ (c : Thread nD τ) none (Γ := .empty) Set.univ (m := (Memref.whole cc0_scratch4 : Memref sig .tc .vmem S1024x2048 .bf16)) (r := (Rect.unit (s := S1024x2048) off S512x128.size inb).toLoadRect) (hl := hl) (S := Finset.univ) (q := fullShare) (f := f) (k := k) (Finset.subset_univ _)

/-- Loading a slice of `cc0_scratch5` yields its contents there. -/
theorem ld_kH (c : Dev nD) (f : FVec F S1024x2048 .bf16) (off : Fin 2 → ℕ) (inb : ∀ a, off a + S512x128.size a ≤ S1024x2048.size a)
    {hl : (Memref.whole cc0_scratch5 : Memref sig .tc .vmem S1024x2048 .bf16).view.LoadsAt (Rect.unit (s := S1024x2048) off S512x128.size inb).toLoadRect} {α : Type} {Q : α → sProp 𝕄}
    {k : ((Rect.unit (s := S1024x2048) off S512x128.size inb).toLoadRect.shape.Idx → Elt F .bf16) → Prog (TpuEff nD τ sig (Elt F) Λ₀ .tc) α} :
    ((c : Thread nD τ).loc cc0_scratch5 ↦{fullShare} f : sProp 𝕄)
      ⊢ iprop((((c : Thread nD τ).loc cc0_scratch5 ↦{fullShare} f) -∗ wp frame (wpE (defs₀ (F := F)) 𝒱₀ (c : Thread nD τ) none) Set.univ (k fun j => f ((Rect.unit (s := S1024x2048) off S512x128.size inb).emb j)) Q)
          -∗ wp frame (wpE (defs₀ (F := F)) 𝒱₀ (c : Thread nD τ) none) Set.univ (.op (.load (Memref.whole cc0_scratch5 : Memref sig .tc .vmem S1024x2048 .bf16) (Rect.unit (s := S1024x2048) off S512x128.size inb).toLoadRect hl) k) Q) :=
  wp_load (defs := defs₀ (F := F)) (α := α) (Q := Q) 𝒱₀ (c : Thread nD τ) none (Γ := .empty) Set.univ (m := (Memref.whole cc0_scratch5 : Memref sig .tc .vmem S1024x2048 .bf16)) (r := (Rect.unit (s := S1024x2048) off S512x128.size inb).toLoadRect) (hl := hl) (S := Finset.univ) (q := fullShare) (f := f) (k := k) (Finset.subset_univ _)

/-- Loading a slice of `cc0_scratch6` yields its contents there. -/
theorem ld_vH (c : Dev nD) (f : FVec F S1024x2048 .bf16) (off : Fin 2 → ℕ) (inb : ∀ a, off a + S512x128.size a ≤ S1024x2048.size a)
    {hl : (Memref.whole cc0_scratch6 : Memref sig .tc .vmem S1024x2048 .bf16).view.LoadsAt (Rect.unit (s := S1024x2048) off S512x128.size inb).toLoadRect} {α : Type} {Q : α → sProp 𝕄}
    {k : ((Rect.unit (s := S1024x2048) off S512x128.size inb).toLoadRect.shape.Idx → Elt F .bf16) → Prog (TpuEff nD τ sig (Elt F) Λ₀ .tc) α} :
    ((c : Thread nD τ).loc cc0_scratch6 ↦{fullShare} f : sProp 𝕄)
      ⊢ iprop((((c : Thread nD τ).loc cc0_scratch6 ↦{fullShare} f) -∗ wp frame (wpE (defs₀ (F := F)) 𝒱₀ (c : Thread nD τ) none) Set.univ (k fun j => f ((Rect.unit (s := S1024x2048) off S512x128.size inb).emb j)) Q)
          -∗ wp frame (wpE (defs₀ (F := F)) 𝒱₀ (c : Thread nD τ) none) Set.univ (.op (.load (Memref.whole cc0_scratch6 : Memref sig .tc .vmem S1024x2048 .bf16) (Rect.unit (s := S1024x2048) off S512x128.size inb).toLoadRect hl) k) Q) :=
  wp_load (defs := defs₀ (F := F)) (α := α) (Q := Q) 𝒱₀ (c : Thread nD τ) none (Γ := .empty) Set.univ (m := (Memref.whole cc0_scratch6 : Memref sig .tc .vmem S1024x2048 .bf16)) (r := (Rect.unit (s := S1024x2048) off S512x128.size inb).toLoadRect) (hl := hl) (S := Finset.univ) (q := fullShare) (f := f) (k := k) (Finset.subset_univ _)

end Cert.MlaProof

end
-- ==== Proof.Puts.lean ====
/-
# `Puts`: the slices a device stores into its query, rotary and attention buffers, and one trip of its loop
-/
module

public import proofs.«01_k».proof.Proof.Stores

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- The rotary query buffer with its first `n` heads filled. -/
def qrAt (c : Dev nD) (w : FVec F S1024x512 .bf16) (f : FVec F S32x512x32 .bf16) (n : ℕ) : sProp 𝕄 :=
  iprop((c : Thread nD τ).loc cc0_scratch7 ↦{fullShare} (part (fun e : S32x512x32.Idx => (e 0).val < n) (qrOf w) f : FVec F S32x512x32 .bf16))
/-- The rotary key buffer with its first `n` batches filled. -/
def krAt (c : Dev nD) (w : FVec F S1024x32 .bf16) (f : FVec F S2x512x32 .bf16) (n : ℕ) : sProp 𝕄 :=
  iprop((c : Thread nD τ).loc cc0_scratch8 ↦{fullShare} (part (fun e : S2x512x32.Idx => (e 0).val < n) (krOf w) f : FVec F S2x512x32 .bf16))
/-- The query buffer with its first `n` quarters of columns filled. -/
def qAt (c : Dev nD) (f : FVec F S1024x2048 .bf16) (n : ℕ) : sProp 𝕄 :=
  iprop((c : Thread nD τ).loc cc0_scratch4 ↦{fullShare} (part (fun e : S1024x2048.Idx => (e 1).val < 512 * n) (gQ m c) f : FVec F S1024x2048 .bf16))
/-- The attention buffer with its first `n` heads filled. -/
def oAt (c : Dev nD) (f : FVec F S1024x2048 .bf16) (n : ℕ) : sProp 𝕄 :=
  iprop((c : Thread nD τ).loc cc0_scratch3 ↦{fullShare} (part (fun e : S1024x2048.Idx => 16 * ((e 0).val / 512) + (e 1).val / 128 < n) (gO m c) f : FVec F S1024x2048 .bf16))

theorem qr_slice (w : FVec F S1024x512 .bf16) (n : ℕ) (hn : n < 32) (a b : ℕ) (ha : a = 512 * (n / 16)) (hb : b = 32 * (n % 16))
    (hs : S1024x512.Slices ![a, b] S512x32) (hc : S512x32.ShapeCasts S1x512x32)
    {inb : ∀ d, (![n, 0, 0] : Fin 3 → ℕ) d + S1x512x32.size d ≤ S32x512x32.size d} (j : S1x512x32.Idx) :
    shapeCast S1x512x32 (extractStridedSlice S512x32 ![a, b] w hs) hc j = qrOf w ((Rect.unit (s := S32x512x32) ![n, 0, 0] S1x512x32.size inb).emb j) := by
  have h0 : (j 0).val < 1 := (j 0).isLt
  have h1 : (j 1).val < 512 := (j 1).isLt
  have h2 : (j 2).val < 32 := (j 2).isLt
  refine (shapeCast_addUnit_apply ![512, 32] _ hc j).trans ?_
  have e0 : ((Rect.unit (s := S32x512x32) ![n, 0, 0] S1x512x32.size inb).emb j 0).val = n + (j 0).val := ValueKit.rect_emb_unit_val (s := S32x512x32) _ _ inb j 0
  have e1 : ((Rect.unit (s := S32x512x32) ![n, 0, 0] S1x512x32.size inb).emb j 1).val = 0 + (j 1).val := ValueKit.rect_emb_unit_val (s := S32x512x32) _ _ inb j 1
  have e2 : ((Rect.unit (s := S32x512x32) ![n, 0, 0] S1x512x32.size inb).emb j 2).val = 0 + (j 2).val := ValueKit.rect_emb_unit_val (s := S32x512x32) _ _ inb j 2
  refine extractStridedSlice_apply _ w hs _ _ fun d => ?_
  fin_cases d
  · show (512 * ((_ : ℕ) / 16) + (_ : ℕ)) % 1024 = a + (j 1).val
    rw [e0, e1]; omega
  · show (32 * ((_ : ℕ) % 16) + (_ : ℕ)) % 512 = b + (j 2).val
    rw [e0, e2]; omega

theorem kr_slice (w : FVec F S1024x32 .bf16) (n : ℕ) (hn : n < 2) (a : ℕ) (ha : a = 512 * n)
    (hs : S1024x32.Slices ![a, 0] S512x32) (hc : S512x32.ShapeCasts S1x512x32)
    {inb : ∀ d, (![n, 0, 0] : Fin 3 → ℕ) d + S1x512x32.size d ≤ S2x512x32.size d} (j : S1x512x32.Idx) :
    shapeCast S1x512x32 (extractStridedSlice S512x32 ![a, 0] w hs) hc j = krOf w ((Rect.unit (s := S2x512x32) ![n, 0, 0] S1x512x32.size inb).emb j) := by
  have h0 : (j 0).val < 1 := (j 0).isLt
  have h1 : (j 1).val < 512 := (j 1).isLt
  refine (shapeCast_addUnit_apply ![512, 32] _ hc j).trans ?_
  have e0 : ((Rect.unit (s := S2x512x32) ![n, 0, 0] S1x512x32.size inb).emb j 0).val = n + (j 0).val := ValueKit.rect_emb_unit_val (s := S2x512x32) _ _ inb j 0
  have e1 : ((Rect.unit (s := S2x512x32) ![n, 0, 0] S1x512x32.size inb).emb j 1).val = 0 + (j 1).val := ValueKit.rect_emb_unit_val (s := S2x512x32) _ _ inb j 1
  have e2 : ((Rect.unit (s := S2x512x32) ![n, 0, 0] S1x512x32.size inb).emb j 2).val = 0 + (j 2).val := ValueKit.rect_emb_unit_val (s := S2x512x32) _ _ inb j 2
  refine extractStridedSlice_apply _ w hs _ _ fun d => ?_
  fin_cases d
  · show (512 * (_ : ℕ) + (_ : ℕ)) % 1024 = a + (j 1).val
    rw [e0, e1]; omega
  · show (_ : ℕ) = 0 + (j 2).val
    exact e2

/-- Storing slice `n` of the rotary query buffer. -/
theorem step_qr (c : Dev nD) (w : FVec F S1024x512 .bf16) (f : FVec F S32x512x32 .bf16) (n : ℕ) (hn : n < 32) (a b : ℕ) (ha : a = 512 * (n / 16)) (hb : b = 32 * (n % 16)) (hs : S1024x512.Slices ![a, b] S512x32) (hc : S512x32.ShapeCasts S1x512x32)
    (v : FVec F S1x512x32 .bf16) (hv : v = shapeCast S1x512x32 (extractStridedSlice S512x32 ![a, b] w hs) hc)
    (inb : ∀ d, (![n, 0, 0] : Fin 3 → ℕ) d + S1x512x32.size d ≤ S32x512x32.size d)
    {hx hm} {α : Type} {Q : α → sProp 𝕄} {k : Unit → Prog (TpuEff nD τ sig (Elt F) Λ₀ .tc) α} :
    qrAt c w f n
      ⊢ iprop((qrAt c w f (n + 1) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch7 : Memref sig .tc .vmem S32x512x32 .bf16) (Rect.unit (s := S32x512x32) ![n, 0, 0] S1x512x32.size inb) v Finset.univ hx hm) k) Q) := by
  subst hv
  unfold qrAt
  refine put_qr c (qrOf w) f _ _ ![n, 0, 0] (inb := inb) _ (fun j => qr_slice w n hn a b ha hb hs hc j) fun e => ?_
  rw [Rect.mem_set_unit]
  have h1 : (e 1).val < 512 := (e 1).isLt
  have h2 : (e 2).val < 32 := (e 2).isLt
  constructor
  · intro h
    by_cases h' : (e 0).val < n
    · exact .inl h'
    · refine .inr fun d => ?_
      fin_cases d
      · show n ≤ (e 0).val ∧ (e 0).val < n + 1
        omega
      · show 0 ≤ (e 1).val ∧ (e 1).val < 0 + 512
        omega
      · show 0 ≤ (e 2).val ∧ (e 2).val < 0 + 32
        omega
  · rintro (h | h)
    · exact Nat.lt_succ_of_lt h
    · exact (h 0).2

/-- Storing slice `n` of the rotary key buffer. -/
theorem step_kr (c : Dev nD) (w : FVec F S1024x32 .bf16) (f : FVec F S2x512x32 .bf16) (n : ℕ) (hn : n < 2) (a : ℕ) (ha : a = 512 * n) (hs : S1024x32.Slices ![a, 0] S512x32) (hc : S512x32.ShapeCasts S1x512x32)
    (v : FVec F S1x512x32 .bf16) (hv : v = shapeCast S1x512x32 (extractStridedSlice S512x32 ![a, 0] w hs) hc)
    (inb : ∀ d, (![n, 0, 0] : Fin 3 → ℕ) d + S1x512x32.size d ≤ S2x512x32.size d)
    {hx hm} {α : Type} {Q : α → sProp 𝕄} {k : Unit → Prog (TpuEff nD τ sig (Elt F) Λ₀ .tc) α} :
    krAt c w f n
      ⊢ iprop((krAt c w f (n + 1) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch8 : Memref sig .tc .vmem S2x512x32 .bf16) (Rect.unit (s := S2x512x32) ![n, 0, 0] S1x512x32.size inb) v Finset.univ hx hm) k) Q) := by
  subst hv
  unfold krAt
  refine put_kr c (krOf w) f _ _ ![n, 0, 0] (inb := inb) _ (fun j => kr_slice w n hn a ha hs hc j) fun e => ?_
  rw [Rect.mem_set_unit]
  have h1 : (e 1).val < 512 := (e 1).isLt
  have h2 : (e 2).val < 32 := (e 2).isLt
  constructor
  · intro h
    by_cases h' : (e 0).val < n
    · exact .inl h'
    · refine .inr fun d => ?_
      fin_cases d
      · show n ≤ (e 0).val ∧ (e 0).val < n + 1
        omega
      · show 0 ≤ (e 1).val ∧ (e 1).val < 0 + 512
        omega
      · show 0 ≤ (e 2).val ∧ (e 2).val < 0 + 32
        omega
  · rintro (h | h)
    · exact Nat.lt_succ_of_lt h
    · exact (h 0).2

/-- A quarter of the query weights, as loaded. -/
theorem wq_slice (w : FVec F S2048x2048 .bf16) (j o : ℕ) (hj : j < 4) (ho : o = 512 * j)
    (inb : ∀ d, (![0, o] : Fin 2 → ℕ) d + S2048x512.size d ≤ S2048x2048.size d) :
    (fun i : S2048x512.Idx => w ((Rect.unit (s := S2048x2048) ![0, o] S2048x512.size inb).emb i)) = wqSl w j := by
  funext i
  have h1 : (i 1).val < 512 := (i 1).isLt
  have e0 : ((Rect.unit (s := S2048x2048) ![0, o] S2048x512.size inb).emb i 0).val = 0 + (i 0).val := ValueKit.rect_emb_unit_val (s := S2048x2048) _ _ inb i 0
  have e1 : ((Rect.unit (s := S2048x2048) ![0, o] S2048x512.size inb).emb i 1).val = o + (i 1).val := ValueKit.rect_emb_unit_val (s := S2048x2048) _ _ inb i 1
  unfold wqSl
  refine congrArg w (funext fun d => Fin.ext ?_)
  fin_cases d
  · exact e0.trans (show 0 + (i 0).val = (i 0).val by omega)
  · exact e1.trans (show o + (i 1).val = (512 * j + (i 1).val) % 2048 by omega)

/-- Loading a quarter of the query weights. -/
theorem ld_wq (c : Dev nD) (w : FVec F S2048x2048 .bf16) (j o : ℕ) (hj : j < 4) (ho : o = 512 * j)
    (inb : ∀ d, (![0, o] : Fin 2 → ℕ) d + S2048x512.size d ≤ S2048x2048.size d)
    {hl : (Memref.whole cc0_stg4_0 : Memref sig .tc .vmem S2048x2048 .bf16).view.LoadsAt (Rect.unit (s := S2048x2048) ![0, o] S2048x512.size inb).toLoadRect} {α : Type} {Q : α → sProp 𝕄}
    {k : ((Rect.unit (s := S2048x2048) ![0, o] S2048x512.size inb).toLoadRect.shape.Idx → Elt F .bf16) → Prog (TpuEff nD τ sig (Elt F) Λ₀ .tc) α} :
    ((c : Thread nD τ).loc cc0_stg4_0 ↦{fullShare} w : sProp 𝕄)
      ⊢ iprop((((c : Thread nD τ).loc cc0_stg4_0 ↦{fullShare} w) -∗ wp frame (wpE (defs₀ (F := F)) 𝒱₀ (c : Thread nD τ) none) Set.univ (k (wqSl w j)) Q)
          -∗ wp frame (wpE (defs₀ (F := F)) 𝒱₀ (c : Thread nD τ) none) Set.univ (.op (.load (Memref.whole cc0_stg4_0 : Memref sig .tc .vmem S2048x2048 .bf16) (Rect.unit (s := S2048x2048) ![0, o] S2048x512.size inb).toLoadRect hl) k) Q) := by
  have h := ld_wqS (α := α) (Q := Q) c w ![0, o] (inb := inb) (hl := hl) (k := k)
  have e : (fun i : (Rect.unit (s := S2048x2048) ![0, o] S2048x512.size inb).toLoadRect.shape.Idx => w ((Rect.unit (s := S2048x2048) ![0, o] S2048x512.size inb).emb i)) = wqSl w j := wq_slice w j o hj ho inb
  rw [e] at h
  exact h

/-- Storing quarter `j` of the query buffer. -/
theorem step_q (c : Dev nD) (f : FVec F S1024x2048 .bf16) (j o : ℕ) (hj : j < 4) (ho : o = 512 * j)
    (v : FVec F S1024x512 .bf16) (hv : v = k0_pay10 (xF m c) (wqSl (wqB m c) j))
    (inb : ∀ d, (![0, o] : Fin 2 → ℕ) d + S1024x512.size d ≤ S1024x2048.size d)
    {hx hm} {α : Type} {Q : α → sProp 𝕄} {k : Unit → Prog (TpuEff nD τ sig (Elt F) Λ₀ .tc) α} :
    qAt m c f j
      ⊢ iprop((qAt m c f (j + 1) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch4 : Memref sig .tc .vmem S1024x2048 .bf16) (Rect.unit (s := S1024x2048) ![0, o] S1024x512.size inb) v Finset.univ hx hm) k) Q) := by
  subst hv
  unfold qAt
  refine put_q c (gQ m c) f _ _ ![0, o] (inb := inb) _ (fun i => ?_) fun e => ?_
  · have h1 : (i 1).val < 512 := (i 1).isLt
    have e0 : ((Rect.unit (s := S1024x2048) ![0, o] S1024x512.size inb).emb i 0).val = 0 + (i 0).val := ValueKit.rect_emb_unit_val (s := S1024x2048) _ _ inb i 0
    have e1 : ((Rect.unit (s := S1024x2048) ![0, o] S1024x512.size inb).emb i 1).val = o + (i 1).val := ValueKit.rect_emb_unit_val (s := S1024x2048) _ _ inb i 1
    unfold gQ
    rw [show ((Rect.unit (s := S1024x2048) ![0, o] S1024x512.size inb).emb i 1).val / 512 = j by omega]
    refine congrArg (k0_pay10 (xF m c) (wqSl (wqB m c) j)) (funext fun d => Fin.ext ?_)
    fin_cases d
    · exact (show (i 0).val = 0 + (i 0).val by omega).trans e0.symm
    · exact (show (i 1).val = (o + (i 1).val) % 512 by omega).trans (congrArg (· % 512) e1.symm)
  · rw [Rect.mem_set_unit]
    have h1 : (e 0).val < 1024 := (e 0).isLt
    constructor
    · intro h
      by_cases h' : (e 1).val < 512 * j
      · exact .inl h'
      · refine .inr fun d => ?_
        fin_cases d
        · show 0 ≤ (e 0).val ∧ (e 0).val < 0 + 1024
          omega
        · show o ≤ (e 1).val ∧ (e 1).val < o + 512
          omega
    · rintro (h | h)
      · omega
      · have h2 : (e 1).val < o + 512 := (h 1).2
        omega

/-! ## One trip of the loop -/

theorem trips_eq : k0_t1_loop.trips = 32 := by decide
set_option maxHeartbeats 1000000 in
theorem off1_eq : ∀ t : Fin k0_t1_loop.trips, k0_off1 t = ![512 * (t.val / 16), 128 * (t.val % 16)] := by decide
theorem off2_eq : ∀ t : Fin k0_t1_loop.trips, k0_off2 t = ![t.val, 0, 0] := by decide
theorem off3_eq : ∀ t : Fin k0_t1_loop.trips, k0_off3 t = ![t.val / 16, 0, 0] := by decide

/-- Reading one head's block of a row-by-column buffer. -/
theorem hd_read (t : Fin k0_t1_loop.trips) (f : FVec F S1024x2048 .bf16) (inb : ∀ d, k0_off1 t d + S512x128.size d ≤ S1024x2048.size d) :
    (fun j : S512x128.Idx => f ((Rect.unit (s := S1024x2048) (k0_off1 t) S512x128.size inb).emb j)) = hd t.val f := by
  have ht : t.val < 32 := lt_of_lt_of_eq t.isLt trips_eq
  funext j
  have h0 : (j 0).val < 512 := (j 0).isLt
  have h1 : (j 1).val < 128 := (j 1).isLt
  have e0 : ((Rect.unit (s := S1024x2048) (k0_off1 t) S512x128.size inb).emb j 0).val = k0_off1 t 0 + (j 0).val := ValueKit.rect_emb_unit_val (s := S1024x2048) _ _ inb j 0
  have e1 : ((Rect.unit (s := S1024x2048) (k0_off1 t) S512x128.size inb).emb j 1).val = k0_off1 t 1 + (j 1).val := ValueKit.rect_emb_unit_val (s := S1024x2048) _ _ inb j 1
  have o0 : k0_off1 t 0 = 512 * (t.val / 16) := congrFun (off1_eq t) 0
  have o1 : k0_off1 t 1 = 128 * (t.val % 16) := congrFun (off1_eq t) 1
  unfold hd
  refine congrArg f (funext fun d => Fin.ext ?_)
  fin_cases d
  · exact e0.trans (show k0_off1 t 0 + (j 0).val = (512 * (t.val / 16) + (j 0).val) % 1024 by omega)
  · exact e1.trans (show k0_off1 t 1 + (j 1).val = (128 * (t.val % 16) + (j 1).val) % 2048 by omega)

theorem hdQ_read (t : Fin k0_t1_loop.trips) (f : FVec F S32x512x32 .bf16) (inb : ∀ d, k0_off2 t d + S1x512x32.size d ≤ S32x512x32.size d) :
    (fun j : S1x512x32.Idx => f ((Rect.unit (s := S32x512x32) (k0_off2 t) S1x512x32.size inb).emb j)) = hdQ t.val f := by
  have ht : t.val < 32 := lt_of_lt_of_eq t.isLt trips_eq
  funext j
  have h0 : (j 0).val < 1 := (j 0).isLt
  have e := fun d => ValueKit.rect_emb_unit_val (s := S32x512x32) _ _ inb j d
  have o := fun d => congrFun (off2_eq t) d
  unfold hdQ
  refine congrArg f (funext fun d => Fin.ext ?_)
  refine (e d).trans ?_
  rw [o d]
  fin_cases d
  · show t.val + (j 0).val = t.val % 32
    omega
  · show 0 + (j 1).val = (j 1).val
    omega
  · show 0 + (j 2).val = (j 2).val
    omega

theorem hdK_read (t : Fin k0_t1_loop.trips) (f : FVec F S2x512x32 .bf16) (inb : ∀ d, k0_off3 t d + S1x512x32.size d ≤ S2x512x32.size d) :
    (fun j : S1x512x32.Idx => f ((Rect.unit (s := S2x512x32) (k0_off3 t) S1x512x32.size inb).emb j)) = hdK t.val f := by
  have ht : t.val < 32 := lt_of_lt_of_eq t.isLt trips_eq
  funext j
  have h0 : (j 0).val < 1 := (j 0).isLt
  have e := fun d => ValueKit.rect_emb_unit_val (s := S2x512x32) _ _ inb j d
  have o := fun d => congrFun (off3_eq t) d
  unfold hdK
  refine congrArg f (funext fun d => Fin.ext ?_)
  refine (e d).trans ?_
  rw [o d]
  fin_cases d
  · show t.val / 16 + (j 0).val = t.val / 16 % 2
    omega
  · show 0 + (j 1).val = (j 1).val
    omega
  · show 0 + (j 2).val = (j 2).val
    omega

/-- The loop's invariant before trip `t`: the attention buffer filled up to head `t`, its operands whole. -/
def loopI (c : Dev nD) (f : FVec F S1024x2048 .bf16) (t : ℕ) : sProp 𝕄 :=
  iprop(oAt m c f t ∗ ((c : Thread nD τ).loc cc0_scratch4 ↦{fullShare} gQ m c) ∗ ((c : Thread nD τ).loc cc0_scratch5 ↦{fullShare} kb3 m c)
    ∗ ((c : Thread nD τ).loc cc0_scratch6 ↦{fullShare} vb3 m c) ∗ ((c : Thread nD τ).loc cc0_scratch7 ↦{fullShare} qrOf (qrW m c))
    ∗ ((c : Thread nD τ).loc cc0_scratch8 ↦{fullShare} krOf (krW m c)))

/-- The head's result, as a slice of the attention buffer. -/
theorem o_slice (c : Dev nD) (t : Fin k0_t1_loop.trips) (inb : ∀ d, k0_off1 t d + S512x128.size d ≤ S1024x2048.size d) (j : S512x128.Idx) :
    attn m c t.val j = gO m c ((Rect.unit (s := S1024x2048) (k0_off1 t) S512x128.size inb).emb j) := by
  have ht : t.val < 32 := lt_of_lt_of_eq t.isLt trips_eq
  have h0 : (j 0).val < 512 := (j 0).isLt
  have h1 : (j 1).val < 128 := (j 1).isLt
  have e0 : ((Rect.unit (s := S1024x2048) (k0_off1 t) S512x128.size inb).emb j 0).val = k0_off1 t 0 + (j 0).val := ValueKit.rect_emb_unit_val (s := S1024x2048) _ _ inb j 0
  have e1 : ((Rect.unit (s := S1024x2048) (k0_off1 t) S512x128.size inb).emb j 1).val = k0_off1 t 1 + (j 1).val := ValueKit.rect_emb_unit_val (s := S1024x2048) _ _ inb j 1
  have o0 : k0_off1 t 0 = 512 * (t.val / 16) := congrFun (off1_eq t) 0
  have o1 : k0_off1 t 1 = 128 * (t.val % 16) := congrFun (off1_eq t) 1
  unfold gO
  rw [show 16 * (((Rect.unit (s := S1024x2048) (k0_off1 t) S512x128.size inb).emb j 0).val / 512) + ((Rect.unit (s := S1024x2048) (k0_off1 t) S512x128.size inb).emb j 1).val / 128 = t.val by omega]
  refine congrArg (attn m c t.val) (funext fun d => Fin.ext ?_)
  fin_cases d
  · exact (show (j 0).val = (k0_off1 t 0 + (j 0).val) % 512 by omega).trans (congrArg (· % 512) e0.symm)
  · exact (show (j 1).val = (k0_off1 t 1 + (j 1).val) % 128 by omega).trans (congrArg (· % 128) e1.symm)

theorem o_grow (t : Fin k0_t1_loop.trips) (inb : ∀ d, k0_off1 t d + S512x128.size d ≤ S1024x2048.size d) (e : S1024x2048.Idx) :
    16 * ((e 0).val / 512) + (e 1).val / 128 < t.val + 1 ↔ 16 * ((e 0).val / 512) + (e 1).val / 128 < t.val ∨ e ∈ (Rect.unit (s := S1024x2048) (k0_off1 t) S512x128.size inb).set := by
  have ht : t.val < 32 := lt_of_lt_of_eq t.isLt trips_eq
  have h0 : (e 0).val < 1024 := (e 0).isLt
  have h1 : (e 1).val < 2048 := (e 1).isLt
  have o0 : k0_off1 t 0 = 512 * (t.val / 16) := congrFun (off1_eq t) 0
  have o1 : k0_off1 t 1 = 128 * (t.val % 16) := congrFun (off1_eq t) 1
  rw [Rect.mem_set_unit]
  constructor
  · intro h
    by_cases h' : 16 * ((e 0).val / 512) + (e 1).val / 128 < t.val
    · exact .inl h'
    · refine .inr fun d => ?_
      fin_cases d
      · show k0_off1 t 0 ≤ (e 0).val ∧ (e 0).val < k0_off1 t 0 + 512
        omega
      · show k0_off1 t 1 ≤ (e 1).val ∧ (e 1).val < k0_off1 t 1 + 128
        omega
  · rintro (h | h)
    · omega
    · have h2 : k0_off1 t 0 ≤ (e 0).val ∧ (e 0).val < k0_off1 t 0 + 512 := h 0
      have h3 : k0_off1 t 1 ≤ (e 1).val ∧ (e 1).val < k0_off1 t 1 + 128 := h 1
      omega

/-- Loading trip `t`'s block of `cc0_scratch4`. -/
theorem ld_qhd (c : Dev nD) (f : FVec F S1024x2048 .bf16) (t : Fin k0_t1_loop.trips) {inb : ∀ a, k0_off1 t a + S512x128.size a ≤ S1024x2048.size a}
    {hl : (Memref.whole cc0_scratch4 : Memref sig .tc .vmem S1024x2048 .bf16).view.LoadsAt (Rect.unit (s := S1024x2048) (k0_off1 t) S512x128.size inb).toLoadRect} {α : Type} {Q : α → sProp 𝕄}
    {k : ((Rect.unit (s := S1024x2048) (k0_off1 t) S512x128.size inb).toLoadRect.shape.Idx → Elt F .bf16) → Prog (TpuEff nD τ sig (Elt F) Λ₀ .tc) α} :
    ((c : Thread nD τ).loc cc0_scratch4 ↦{fullShare} f : sProp 𝕄)
      ⊢ iprop((((c : Thread nD τ).loc cc0_scratch4 ↦{fullShare} f) -∗ wp frame (wpE (defs₀ (F := F)) 𝒱₀ (c : Thread nD τ) none) Set.univ (k (hd t.val f)) Q)
          -∗ wp frame (wpE (defs₀ (F := F)) 𝒱₀ (c : Thread nD τ) none) Set.univ (.op (.load (Memref.whole cc0_scratch4 : Memref sig .tc .vmem S1024x2048 .bf16) (Rect.unit (s := S1024x2048) (k0_off1 t) S512x128.size inb).toLoadRect hl) k) Q) := by
  have h := ld_qH (α := α) (Q := Q) c f (k0_off1 t) (inb := inb) (hl := hl) (k := k)
  have e : (fun i : (Rect.unit (s := S1024x2048) (k0_off1 t) S512x128.size inb).toLoadRect.shape.Idx => f ((Rect.unit (s := S1024x2048) (k0_off1 t) S512x128.size inb).emb i)) = hd t.val f := hd_read t f inb
  rw [e] at h
  exact h

/-- Loading trip `t`'s block of `cc0_scratch5`. -/
theorem ld_khd (c : Dev nD) (f : FVec F S1024x2048 .bf16) (t : Fin k0_t1_loop.trips) {inb : ∀ a, k0_off1 t a + S512x128.size a ≤ S1024x2048.size a}
    {hl : (Memref.whole cc0_scratch5 : Memref sig .tc .vmem S1024x2048 .bf16).view.LoadsAt (Rect.unit (s := S1024x2048) (k0_off1 t) S512x128.size inb).toLoadRect} {α : Type} {Q : α → sProp 𝕄}
    {k : ((Rect.unit (s := S1024x2048) (k0_off1 t) S512x128.size inb).toLoadRect.shape.Idx → Elt F .bf16) → Prog (TpuEff nD τ sig (Elt F) Λ₀ .tc) α} :
    ((c : Thread nD τ).loc cc0_scratch5 ↦{fullShare} f : sProp 𝕄)
      ⊢ iprop((((c : Thread nD τ).loc cc0_scratch5 ↦{fullShare} f) -∗ wp frame (wpE (defs₀ (F := F)) 𝒱₀ (c : Thread nD τ) none) Set.univ (k (hd t.val f)) Q)
          -∗ wp frame (wpE (defs₀ (F := F)) 𝒱₀ (c : Thread nD τ) none) Set.univ (.op (.load (Memref.whole cc0_scratch5 : Memref sig .tc .vmem S1024x2048 .bf16) (Rect.unit (s := S1024x2048) (k0_off1 t) S512x128.size inb).toLoadRect hl) k) Q) := by
  have h := ld_kH (α := α) (Q := Q) c f (k0_off1 t) (inb := inb) (hl := hl) (k := k)
  have e : (fun i : (Rect.unit (s := S1024x2048) (k0_off1 t) S512x128.size inb).toLoadRect.shape.Idx => f ((Rect.unit (s := S1024x2048) (k0_off1 t) S512x128.size inb).emb i)) = hd t.val f := hd_read t f inb
  rw [e] at h
  exact h

/-- Loading trip `t`'s block of `cc0_scratch6`. -/
theorem ld_vhd (c : Dev nD) (f : FVec F S1024x2048 .bf16) (t : Fin k0_t1_loop.trips) {inb : ∀ a, k0_off1 t a + S512x128.size a ≤ S1024x2048.size a}
    {hl : (Memref.whole cc0_scratch6 : Memref sig .tc .vmem S1024x2048 .bf16).view.LoadsAt (Rect.unit (s := S1024x2048) (k0_off1 t) S512x128.size inb).toLoadRect} {α : Type} {Q : α → sProp 𝕄}
    {k : ((Rect.unit (s := S1024x2048) (k0_off1 t) S512x128.size inb).toLoadRect.shape.Idx → Elt F .bf16) → Prog (TpuEff nD τ sig (Elt F) Λ₀ .tc) α} :
    ((c : Thread nD τ).loc cc0_scratch6 ↦{fullShare} f : sProp 𝕄)
      ⊢ iprop((((c : Thread nD τ).loc cc0_scratch6 ↦{fullShare} f) -∗ wp frame (wpE (defs₀ (F := F)) 𝒱₀ (c : Thread nD τ) none) Set.univ (k (hd t.val f)) Q)
          -∗ wp frame (wpE (defs₀ (F := F)) 𝒱₀ (c : Thread nD τ) none) Set.univ (.op (.load (Memref.whole cc0_scratch6 : Memref sig .tc .vmem S1024x2048 .bf16) (Rect.unit (s := S1024x2048) (k0_off1 t) S512x128.size inb).toLoadRect hl) k) Q) := by
  have h := ld_vH (α := α) (Q := Q) c f (k0_off1 t) (inb := inb) (hl := hl) (k := k)
  have e : (fun i : (Rect.unit (s := S1024x2048) (k0_off1 t) S512x128.size inb).toLoadRect.shape.Idx => f ((Rect.unit (s := S1024x2048) (k0_off1 t) S512x128.size inb).emb i)) = hd t.val f := hd_read t f inb
  rw [e] at h
  exact h

/-- Loading trip `t`'s block of `cc0_scratch7`. -/
theorem ld_rhd (c : Dev nD) (f : FVec F S32x512x32 .bf16) (t : Fin k0_t1_loop.trips) {inb : ∀ a, k0_off2 t a + S1x512x32.size a ≤ S32x512x32.size a}
    {hl : (Memref.whole cc0_scratch7 : Memref sig .tc .vmem S32x512x32 .bf16).view.LoadsAt (Rect.unit (s := S32x512x32) (k0_off2 t) S1x512x32.size inb).toLoadRect} {α : Type} {Q : α → sProp 𝕄}
    {k : ((Rect.unit (s := S32x512x32) (k0_off2 t) S1x512x32.size inb).toLoadRect.shape.Idx → Elt F .bf16) → Prog (TpuEff nD τ sig (Elt F) Λ₀ .tc) α} :
    ((c : Thread nD τ).loc cc0_scratch7 ↦{fullShare} f : sProp 𝕄)
      ⊢ iprop((((c : Thread nD τ).loc cc0_scratch7 ↦{fullShare} f) -∗ wp frame (wpE (defs₀ (F := F)) 𝒱₀ (c : Thread nD τ) none) Set.univ (k (hdQ t.val f)) Q)
          -∗ wp frame (wpE (defs₀ (F := F)) 𝒱₀ (c : Thread nD τ) none) Set.univ (.op (.load (Memref.whole cc0_scratch7 : Memref sig .tc .vmem S32x512x32 .bf16) (Rect.unit (s := S32x512x32) (k0_off2 t) S1x512x32.size inb).toLoadRect hl) k) Q) := by
  have h := ld_qrS (α := α) (Q := Q) c f (k0_off2 t) (inb := inb) (hl := hl) (k := k)
  have e : (fun i : (Rect.unit (s := S32x512x32) (k0_off2 t) S1x512x32.size inb).toLoadRect.shape.Idx => f ((Rect.unit (s := S32x512x32) (k0_off2 t) S1x512x32.size inb).emb i)) = hdQ t.val f := hdQ_read t f inb
  rw [e] at h
  exact h

/-- Loading trip `t`'s block of `cc0_scratch8`. -/
theorem ld_shd (c : Dev nD) (f : FVec F S2x512x32 .bf16) (t : Fin k0_t1_loop.trips) {inb : ∀ a, k0_off3 t a + S1x512x32.size a ≤ S2x512x32.size a}
    {hl : (Memref.whole cc0_scratch8 : Memref sig .tc .vmem S2x512x32 .bf16).view.LoadsAt (Rect.unit (s := S2x512x32) (k0_off3 t) S1x512x32.size inb).toLoadRect} {α : Type} {Q : α → sProp 𝕄}
    {k : ((Rect.unit (s := S2x512x32) (k0_off3 t) S1x512x32.size inb).toLoadRect.shape.Idx → Elt F .bf16) → Prog (TpuEff nD τ sig (Elt F) Λ₀ .tc) α} :
    ((c : Thread nD τ).loc cc0_scratch8 ↦{fullShare} f : sProp 𝕄)
      ⊢ iprop((((c : Thread nD τ).loc cc0_scratch8 ↦{fullShare} f) -∗ wp frame (wpE (defs₀ (F := F)) 𝒱₀ (c : Thread nD τ) none) Set.univ (k (hdK t.val f)) Q)
          -∗ wp frame (wpE (defs₀ (F := F)) 𝒱₀ (c : Thread nD τ) none) Set.univ (.op (.load (Memref.whole cc0_scratch8 : Memref sig .tc .vmem S2x512x32 .bf16) (Rect.unit (s := S2x512x32) (k0_off3 t) S1x512x32.size inb).toLoadRect hl) k) Q) := by
  have h := ld_krS (α := α) (Q := Q) c f (k0_off3 t) (inb := inb) (hl := hl) (k := k)
  have e : (fun i : (Rect.unit (s := S2x512x32) (k0_off3 t) S1x512x32.size inb).toLoadRect.shape.Idx => f ((Rect.unit (s := S2x512x32) (k0_off3 t) S1x512x32.size inb).emb i)) = hdK t.val f := hdK_read t f inb
  rw [e] at h
  exact h

theorem oAt_fold (c : Dev nD) (f : FVec F S1024x2048 .bf16) (n : ℕ) :
    iprop((c : Thread nD τ).loc cc0_scratch3 ↦{fullShare} (part (fun e : S1024x2048.Idx => 16 * ((e 0).val / 512) + (e 1).val / 128 < n) (gO m c) f : FVec F S1024x2048 .bf16)) = (oAt m c f n : sProp 𝕄) := rfl

/-- Storing the head of trip `t`. -/
theorem step_o (c : Dev nD) (f : FVec F S1024x2048 .bf16) (t : Fin k0_t1_loop.trips) (v : FVec F S512x128 .bf16) (hv : v = attn m c t.val)
    (inb : ∀ a, k0_off1 t a + S512x128.size a ≤ S1024x2048.size a)
    {hx hm} {α : Type} {Q : α → sProp 𝕄} {k : Unit → Prog (TpuEff nD τ sig (Elt F) Λ₀ .tc) α} :
    oAt m c f t.val
      ⊢ iprop((oAt m c f (t.val + 1) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch3 : Memref sig .tc .vmem S1024x2048 .bf16) (Rect.unit (s := S1024x2048) (k0_off1 t) S512x128.size inb) v Finset.univ hx hm) k) Q) := by
  subst hv
  unfold oAt
  exact put_o c (gO m c) f _ _ (k0_off1 t) inb (attn m c t.val) (o_slice m c t inb) (o_grow t inb)

/-- One trip of the loop. -/
theorem trip (c : Dev nD) (f : FVec F S1024x2048 .bf16) (t : Fin k0_t1_loop.trips) (acc : Unit) :
    loopI m c f t.val
      ⊢ wp frame (wpE (defs₀ (F := F)) 𝒱₀ (c : Thread nD τ) none) Set.univ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 t acc) (fun _ => loopI m c f (t.val + 1)) := by
  unfold k0_t1_body
  simp only [k0_part1_eq_skeleton]; unfold k0_part1_skel
  simp only [Prog.lift, Prog.bind_op, Prog.bind_ret, Prog.pure_eq_ret]
  unfold loopI
  iintro ⟨HO, HQ, HK, HV, HR, HS⟩
  iapply (ld_qhd c _ t) $$ HQ; iintro HQ
  iapply (ld_khd c _ t) $$ HK; iintro HK
  iapply (ld_vhd c _ t) $$ HV; iintro HV
  iapply (ld_rhd c _ t) $$ HR; iintro HR
  iapply (ld_shd c _ t) $$ HS; iintro HS
  unfold oAt
  iapply (ld_oH c _ (k0_off1 t)) $$ HO; iintro HO
  ihave HO := (Entails.of_eq (oAt_fold m c f t.val)) $$ HO
  iapply (step_o m c f t _ rfl _) $$ HO
  iintro HO
  rw [wp_ret]; imodintro
  isplitl [HO]; · iapply (Entails.of_eq (oAt_fold m c f (t.val + 1)).symm); iexact HO
  isplitl [HQ]; · iexact HQ
  isplitl [HK]; · iexact HK
  isplitl [HV]; · iexact HV
  isplitl [HR]; · iexact HR
  iexact HS

end Cert.MlaProof

end
-- ==== Proof.Puts2.lean ====
/-
# `Puts2`: whole stores, and reading a buffer that is being filled
-/
module

public import proofs.«01_k».proof.Proof.Puts

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Storing over the whole of `cc0_scratch5`. -/
theorem st_K (c : Dev nD) (f v g : FVec F S1024x2048 .bf16) (hv : v = g) {inb : ∀ a, (![0, 0] : Fin 2 → ℕ) a + S1024x2048.size a ≤ S1024x2048.size a}
    {hx hm} {α : Type} {Q : α → sProp 𝕄} {k : Unit → Prog (TpuEff nD τ sig (Elt F) Λ₀ .tc) α} :
    ((c : Thread nD τ).loc cc0_scratch5 ↦{fullShare} f : sProp 𝕄)
      ⊢ iprop((((c : Thread nD τ).loc cc0_scratch5 ↦{fullShare} g) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch5 : Memref sig .tc .vmem S1024x2048 .bf16) (Rect.unit (s := S1024x2048) ![0, 0] S1024x2048.size inb) v Finset.univ hx hm) k) Q) := by
  subst hv
  exact st_Kb c f v inb

/-- Storing over the whole of `cc0_scratch6`. -/
theorem st_V (c : Dev nD) (f v g : FVec F S1024x2048 .bf16) (hv : v = g) {inb : ∀ a, (![0, 0] : Fin 2 → ℕ) a + S1024x2048.size a ≤ S1024x2048.size a}
    {hx hm} {α : Type} {Q : α → sProp 𝕄} {k : Unit → Prog (TpuEff nD τ sig (Elt F) Λ₀ .tc) α} :
    ((c : Thread nD τ).loc cc0_scratch6 ↦{fullShare} f : sProp 𝕄)
      ⊢ iprop((((c : Thread nD τ).loc cc0_scratch6 ↦{fullShare} g) -∗ wp frame (wpE (defs₀ (F := F)) 𝒱₀ (c : Thread nD τ) none) Set.univ (k ()) Q)
          -∗ wp frame (wpE (defs₀ (F := F)) 𝒱₀ (c : Thread nD τ) none) Set.univ (.op (.store (Memref.whole cc0_scratch6 : Memref sig .tc .vmem S1024x2048 .bf16) (Rect.unit (s := S1024x2048) ![0, 0] S1024x2048.size inb) v Finset.univ hx hm) k) Q) := by
  subst hv
  exact st_Vb c f v inb

/-- Loading a slice of the partly filled `cc0_scratch4`. -/
theorem ld_qAt (c : Dev nD) (f : FVec F S1024x2048 .bf16) (n : ℕ) (off : Fin 2 → ℕ) {inb : ∀ a, off a + S1024x512.size a ≤ S1024x2048.size a}
    {hl : (Memref.whole cc0_scratch4 : Memref sig .tc .vmem S1024x2048 .bf16).view.LoadsAt (Rect.unit (s := S1024x2048) off S1024x512.size inb).toLoadRect} {α : Type} {Q : α → sProp 𝕄}
    {k : ((Rect.unit (s := S1024x2048) off S1024x512.size inb).toLoadRect.shape.Idx → Elt F .bf16) → Prog (TpuEff nD τ sig (Elt F) Λ₀ .tc) α} :
    qAt m c f n
      ⊢ iprop((qAt m c f n -∗ wp frame (wpE (defs₀ (F := F)) 𝒱₀ (c : Thread nD τ) none) Set.univ (k fun j => (part (fun e : S1024x2048.Idx => (e 1).val < 512 * n) (gQ m c) f : FVec F S1024x2048 .bf16) ((Rect.unit (s := S1024x2048) off S1024x512.size inb).emb j)) Q)
          -∗ wp frame (wpE (defs₀ (F := F)) 𝒱₀ (c : Thread nD τ) none) Set.univ (.op (.load (Memref.whole cc0_scratch4 : Memref sig .tc .vmem S1024x2048 .bf16) (Rect.unit (s := S1024x2048) off S1024x512.size inb).toLoadRect hl) k) Q) := by
  unfold qAt
  exact ld_qS (F := F) c _ off inb

/-- Loading a slice of the partly filled `cc0_scratch7`. -/
theorem ld_qrAt (c : Dev nD) (w : FVec F S1024x512 .bf16) (f : FVec F S32x512x32 .bf16) (n : ℕ) (off : Fin 3 → ℕ) {inb : ∀ a, off a + S1x512x32.size a ≤ S32x512x32.size a}
    {hl : (Memref.whole cc0_scratch7 : Memref sig .tc .vmem S32x512x32 .bf16).view.LoadsAt (Rect.unit (s := S32x512x32) off S1x512x32.size inb).toLoadRect} {α : Type} {Q : α → sProp 𝕄}
    {k : ((Rect.unit (s := S32x512x32) off S1x512x32.size inb).toLoadRect.shape.Idx → Elt F .bf16) → Prog (TpuEff nD τ sig (Elt F) Λ₀ .tc) α} :
    qrAt c w f n
      ⊢ iprop((qrAt c w f n -∗ wp frame (wpE (defs₀ (F := F)) 𝒱₀ (c : Thread nD τ) none) Set.univ (k fun j => (part (fun e : S32x512x32.Idx => (e 0).val < n) (qrOf w) f : FVec F S32x512x32 .bf16) ((Rect.unit (s := S32x512x32) off S1x512x32.size inb).emb j)) Q)
          -∗ wp frame (wpE (defs₀ (F := F)) 𝒱₀ (c : Thread nD τ) none) Set.univ (.op (.load (Memref.whole cc0_scratch7 : Memref sig .tc .vmem S32x512x32 .bf16) (Rect.unit (s := S32x512x32) off S1x512x32.size inb).toLoadRect hl) k) Q) := by
  unfold qrAt
  exact ld_qrS (F := F) c _ off inb

/-- Loading a slice of the partly filled `cc0_scratch8`. -/
theorem ld_krAt (c : Dev nD) (w : FVec F S1024x32 .bf16) (f : FVec F S2x512x32 .bf16) (n : ℕ) (off : Fin 3 → ℕ) {inb : ∀ a, off a + S1x512x32.size a ≤ S2x512x32.size a}
    {hl : (Memref.whole cc0_scratch8 : Memref sig .tc .vmem S2x512x32 .bf16).view.LoadsAt (Rect.unit (s := S2x512x32) off S1x512x32.size inb).toLoadRect} {α : Type} {Q : α → sProp 𝕄}
    {k : ((Rect.unit (s := S2x512x32) off S1x512x32.size inb).toLoadRect.shape.Idx → Elt F .bf16) → Prog (TpuEff nD τ sig (Elt F) Λ₀ .tc) α} :
    krAt c w f n
      ⊢ iprop((krAt c w f n -∗ wp frame (wpE (defs₀ (F := F)) 𝒱₀ (c : Thread nD τ) none) Set.univ (k fun j => (part (fun e : S2x512x32.Idx => (e 0).val < n) (krOf w) f : FVec F S2x512x32 .bf16) ((Rect.unit (s := S2x512x32) off S1x512x32.size inb).emb j)) Q)
          -∗ wp frame (wpE (defs₀ (F := F)) 𝒱₀ (c : Thread nD τ) none) Set.univ (.op (.load (Memref.whole cc0_scratch8 : Memref sig .tc .vmem S2x512x32 .bf16) (Rect.unit (s := S2x512x32) off S1x512x32.size inb).toLoadRect hl) k) Q) := by
  unfold krAt
  exact ld_krS (F := F) c _ off inb

end Cert.MlaProof

end
-- ==== Proof.Start.lean ====
/-
# `Start`: the ring before the first copy and after the last wait

The device's own blocks go into the first slots, the barrier is passed, and the first two copies are out; at the end the
semaphores are at zero and the buffers whole.
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

omit [FloatOps F] in
/-- A stretch of twenty-four, cut after the first eighteen. -/
theorem sep_halves (Φ : ℕ → sProp 𝕄) : bigSep (Finset.Ico 0 24) Φ = iprop(bigSep (Finset.Ico 0 18) Φ ∗ bigSep (Finset.Ico 18 24) Φ) := by
  rw [show Finset.Ico 0 24 = Finset.Ico 0 18 ∪ Finset.Ico 18 24 from (Finset.Ico_union_Ico_eq_Ico (by decide) (by decide)).symm,
    bigSep_union (Finset.Ico_disjoint_Ico_consecutive 0 18 24)]
  rfl

/-- Reading the first slot of `cc0_scratch0`, whatever it holds. -/
theorem ld_first_C (c : Dev nD) (f : FVec F S4x1024x128 .bf16) (inb : ∀ a, (![0, 0, 0] : Fin 3 → ℕ) a + S1x1024x128.size a ≤ S4x1024x128.size a)
    {hl : (cM : Memref sig .tc .vmem S4x1024x128 .bf16).view.LoadsAt (Rect.unit (s := S4x1024x128) ![0, 0, 0] S1x1024x128.size inb).toLoadRect} {α : Type} {Q : α → sProp 𝕄}
    {k : ((Rect.unit (s := S4x1024x128) ![0, 0, 0] S1x1024x128.size inb).toLoadRect.shape.Idx → Elt F .bf16) → Prog (TpuEff nD τ sig (Elt F) Λ₀ .tc) α} :
    ((c : Thread nD τ).loc cc0_scratch0 ↦{fullShare} f : sProp 𝕄)
      ⊢ iprop((((c : Thread nD τ).loc cc0_scratch0 ↦{fullShare} f) -∗ wp frame (wpE (defs₀ (F := F)) 𝒱₀ (c : Thread nD τ) none) Set.univ (k fun j => f ((Rect.unit (s := S4x1024x128) ![0, 0, 0] S1x1024x128.size inb).emb j)) Q)
          -∗ wp frame (wpE (defs₀ (F := F)) 𝒱₀ (c : Thread nD τ) none) Set.univ (.op (.load (cM : Memref sig .tc .vmem S4x1024x128 .bf16) (Rect.unit (s := S4x1024x128) ![0, 0, 0] S1x1024x128.size inb).toLoadRect hl) k) Q) :=
  wp_load (defs := defs₀ (F := F)) (α := α) (Q := Q) 𝒱₀ (c : Thread nD τ) none (Γ := .empty) Set.univ (m := (cM : Memref sig .tc .vmem S4x1024x128 .bf16)) (r := (Rect.unit (s := S4x1024x128) ![0, 0, 0] S1x1024x128.size inb).toLoadRect) (hl := hl) (S := Finset.univ) (q := fullShare) (f := f) (k := k) (Finset.subset_univ _)

/-- Storing the device's own block over the first slot of `cc0_scratch0`. -/
theorem st_first_C (c : Dev nD) (f : FVec F S4x1024x128 .bf16) (v : FVec F S1x1024x128 .bf16) (hv : v = ownC m c) (inb : ∀ a, (![0, 0, 0] : Fin 3 → ℕ) a + S1x1024x128.size a ≤ S4x1024x128.size a)
    {hx hm} {α : Type} {Q : α → sProp 𝕄} {k : Unit → Prog (TpuEff nD τ sig (Elt F) Λ₀ .tc) α} :
    ((c : Thread nD τ).loc cc0_scratch0 ↦{fullShare} f : sProp 𝕄)
      ⊢ iprop(((∃ g' : FVec F S4x1024x128 .bf16, ⌜∀ e : S4x1024x128.Idx, (e 0).val = 0 → g' e = gC m c e⌝ ∗ ((c : Thread nD τ).loc cc0_scratch0 ↦{fullShare} g')) -∗ wp frame (wpE (defs₀ (F := F)) 𝒱₀ (c : Thread nD τ) none) Set.univ (k ()) Q)
          -∗ wp frame (wpE (defs₀ (F := F)) 𝒱₀ (c : Thread nD τ) none) Set.univ (.op (.store (cM : Memref sig .tc .vmem S4x1024x128 .bf16) (Rect.unit (s := S4x1024x128) ![0, 0, 0] S1x1024x128.size inb) v Finset.univ hx hm) k) Q) := by
  subst hv
  have h := wp_store (defs := defs₀ (F := F)) (α := α) (Q := Q) 𝒱₀ (c : Thread nD τ) none (Γ := .empty) Set.univ (m := (cM : Memref sig .tc .vmem S4x1024x128 .bf16)) (r := (Rect.unit (s := S4x1024x128) ![0, 0, 0] S1x1024x128.size inb)) (w := ownC m c) (Mk := Finset.univ) (hx := hx) (hm := hm) (S := Finset.univ) (f := f) (k := k) (Finset.subset_univ _)
  refine h.trans ?_
  iintro H Hk
  iapply H
  iintro H
  iapply Hk
  iexists _
  isplitr
  · ipureintro
    exact fun e he => slot_write_C m c f inb e he
  · iexact H

/-- Reading the first slot of `cc0_scratch1`, whatever it holds. -/
theorem ld_first_K (c : Dev nD) (f : FVec F S4x128x2048 .bf16) (inb : ∀ a, (![0, 0, 0] : Fin 3 → ℕ) a + S1x128x2048.size a ≤ S4x128x2048.size a)
    {hl : (kM : Memref sig .tc .vmem S4x128x2048 .bf16).view.LoadsAt (Rect.unit (s := S4x128x2048) ![0, 0, 0] S1x128x2048.size inb).toLoadRect} {α : Type} {Q : α → sProp 𝕄}
    {k : ((Rect.unit (s := S4x128x2048) ![0, 0, 0] S1x128x2048.size inb).toLoadRect.shape.Idx → Elt F .bf16) → Prog (TpuEff nD τ sig (Elt F) Λ₀ .tc) α} :
    ((c : Thread nD τ).loc cc0_scratch1 ↦{fullShare} f : sProp 𝕄)
      ⊢ iprop((((c : Thread nD τ).loc cc0_scratch1 ↦{fullShare} f) -∗ wp frame (wpE (defs₀ (F := F)) 𝒱₀ (c : Thread nD τ) none) Set.univ (k fun j => f ((Rect.unit (s := S4x128x2048) ![0, 0, 0] S1x128x2048.size inb).emb j)) Q)
          -∗ wp frame (wpE (defs₀ (F := F)) 𝒱₀ (c : Thread nD τ) none) Set.univ (.op (.load (kM : Memref sig .tc .vmem S4x128x2048 .bf16) (Rect.unit (s := S4x128x2048) ![0, 0, 0] S1x128x2048.size inb).toLoadRect hl) k) Q) :=
  wp_load (defs := defs₀ (F := F)) (α := α) (Q := Q) 𝒱₀ (c : Thread nD τ) none (Γ := .empty) Set.univ (m := (kM : Memref sig .tc .vmem S4x128x2048 .bf16)) (r := (Rect.unit (s := S4x128x2048) ![0, 0, 0] S1x128x2048.size inb).toLoadRect) (hl := hl) (S := Finset.univ) (q := fullShare) (f := f) (k := k) (Finset.subset_univ _)

/-- Storing the device's own block over the first slot of `cc0_scratch1`. -/
theorem st_first_K (c : Dev nD) (f : FVec F S4x128x2048 .bf16) (v : FVec F S1x128x2048 .bf16) (hv : v = ownK m c) (inb : ∀ a, (![0, 0, 0] : Fin 3 → ℕ) a + S1x128x2048.size a ≤ S4x128x2048.size a)
    {hx hm} {α : Type} {Q : α → sProp 𝕄} {k : Unit → Prog (TpuEff nD τ sig (Elt F) Λ₀ .tc) α} :
    ((c : Thread nD τ).loc cc0_scratch1 ↦{fullShare} f : sProp 𝕄)
      ⊢ iprop(((∃ g' : FVec F S4x128x2048 .bf16, ⌜∀ e : S4x128x2048.Idx, (e 0).val = 0 → g' e = gK m c e⌝ ∗ ((c : Thread nD τ).loc cc0_scratch1 ↦{fullShare} g')) -∗ wp frame (wpE (defs₀ (F := F)) 𝒱₀ (c : Thread nD τ) none) Set.univ (k ()) Q)
          -∗ wp frame (wpE (defs₀ (F := F)) 𝒱₀ (c : Thread nD τ) none) Set.univ (.op (.store (kM : Memref sig .tc .vmem S4x128x2048 .bf16) (Rect.unit (s := S4x128x2048) ![0, 0, 0] S1x128x2048.size inb) v Finset.univ hx hm) k) Q) := by
  subst hv
  have h := wp_store (defs := defs₀ (F := F)) (α := α) (Q := Q) 𝒱₀ (c : Thread nD τ) none (Γ := .empty) Set.univ (m := (kM : Memref sig .tc .vmem S4x128x2048 .bf16)) (r := (Rect.unit (s := S4x128x2048) ![0, 0, 0] S1x128x2048.size inb)) (w := ownK m c) (Mk := Finset.univ) (hx := hx) (hm := hm) (S := Finset.univ) (f := f) (k := k) (Finset.subset_univ _)
  refine h.trans ?_
  iintro H Hk
  iapply H
  iintro H
  iapply Hk
  iexists _
  isplitr
  · ipureintro
    exact fun e he => slot_write_K m c f inb e he
  · iexact H

/-- Reading the first slot of `cc0_scratch2`, whatever it holds. -/
theorem ld_first_V (c : Dev nD) (f : FVec F S4x128x2048 .bf16) (inb : ∀ a, (![0, 0, 0] : Fin 3 → ℕ) a + S1x128x2048.size a ≤ S4x128x2048.size a)
    {hl : (vM : Memref sig .tc .vmem S4x128x2048 .bf16).view.LoadsAt (Rect.unit (s := S4x128x2048) ![0, 0, 0] S1x128x2048.size inb).toLoadRect} {α : Type} {Q : α → sProp 𝕄}
    {k : ((Rect.unit (s := S4x128x2048) ![0, 0, 0] S1x128x2048.size inb).toLoadRect.shape.Idx → Elt F .bf16) → Prog (TpuEff nD τ sig (Elt F) Λ₀ .tc) α} :
    ((c : Thread nD τ).loc cc0_scratch2 ↦{fullShare} f : sProp 𝕄)
      ⊢ iprop((((c : Thread nD τ).loc cc0_scratch2 ↦{fullShare} f) -∗ wp frame (wpE (defs₀ (F := F)) 𝒱₀ (c : Thread nD τ) none) Set.univ (k fun j => f ((Rect.unit (s := S4x128x2048) ![0, 0, 0] S1x128x2048.size inb).emb j)) Q)
          -∗ wp frame (wpE (defs₀ (F := F)) 𝒱₀ (c : Thread nD τ) none) Set.univ (.op (.load (vM : Memref sig .tc .vmem S4x128x2048 .bf16) (Rect.unit (s := S4x128x2048) ![0, 0, 0] S1x128x2048.size inb).toLoadRect hl) k) Q) :=
  wp_load (defs := defs₀ (F := F)) (α := α) (Q := Q) 𝒱₀ (c : Thread nD τ) none (Γ := .empty) Set.univ (m := (vM : Memref sig .tc .vmem S4x128x2048 .bf16)) (r := (Rect.unit (s := S4x128x2048) ![0, 0, 0] S1x128x2048.size inb).toLoadRect) (hl := hl) (S := Finset.univ) (q := fullShare) (f := f) (k := k) (Finset.subset_univ _)

/-- Storing the device's own block over the first slot of `cc0_scratch2`. -/
theorem st_first_V (c : Dev nD) (f : FVec F S4x128x2048 .bf16) (v : FVec F S1x128x2048 .bf16) (hv : v = ownV m c) (inb : ∀ a, (![0, 0, 0] : Fin 3 → ℕ) a + S1x128x2048.size a ≤ S4x128x2048.size a)
    {hx hm} {α : Type} {Q : α → sProp 𝕄} {k : Unit → Prog (TpuEff nD τ sig (Elt F) Λ₀ .tc) α} :
    ((c : Thread nD τ).loc cc0_scratch2 ↦{fullShare} f : sProp 𝕄)
      ⊢ iprop(((∃ g' : FVec F S4x128x2048 .bf16, ⌜∀ e : S4x128x2048.Idx, (e 0).val = 0 → g' e = gV m c e⌝ ∗ ((c : Thread nD τ).loc cc0_scratch2 ↦{fullShare} g')) -∗ wp frame (wpE (defs₀ (F := F)) 𝒱₀ (c : Thread nD τ) none) Set.univ (k ()) Q)
          -∗ wp frame (wpE (defs₀ (F := F)) 𝒱₀ (c : Thread nD τ) none) Set.univ (.op (.store (vM : Memref sig .tc .vmem S4x128x2048 .bf16) (Rect.unit (s := S4x128x2048) ![0, 0, 0] S1x128x2048.size inb) v Finset.univ hx hm) k) Q) := by
  subst hv
  have h := wp_store (defs := defs₀ (F := F)) (α := α) (Q := Q) 𝒱₀ (c : Thread nD τ) none (Γ := .empty) Set.univ (m := (vM : Memref sig .tc .vmem S4x128x2048 .bf16)) (r := (Rect.unit (s := S4x128x2048) ![0, 0, 0] S1x128x2048.size inb)) (w := ownV m c) (Mk := Finset.univ) (hx := hx) (hm := hm) (S := Finset.univ) (f := f) (k := k) (Finset.subset_univ _)
  refine h.trans ?_
  iintro H Hk
  iapply H
  iintro H
  iapply Hk
  iexists _
  isplitr
  · ipureintro
    exact fun e he => slot_write_V m c f inb e he
  · iexact H

/-! ## The ring before the first copy -/

/-- What device `c` is dealt for its copies: the duties they perform, what it waits for them with, and its places on its semaphores. -/
def Lin (c : Dev nD) : sProp 𝕄 :=
  iprop(bigSep (Finset.Ico 0 18) (fun i => dutyTok ER (sendCell c i) 0 false) ∗ bigSep (Finset.Ico 0 18) (fun i => dutyTok ER (recvCell (nxt c) i) 0 false)
    ∗ bigSep (Finset.Ico 0 18) (recvRes c) ∗ bigSep (Finset.Ico 0 18) (fun i => atPos ER (sendCell c i) 0 ∅ 0))

omit [FloatOps F] in
/-- A stretch counted from six, counted from zero. -/
theorem shift_six (Φ : ℕ → sProp 𝕄) : bigSep (Finset.Ico 6 24) Φ = bigSep (Finset.Ico 0 18) (fun i => Φ (i + 6)) := by
  rw [show Finset.Ico 6 24 = (Finset.Ico 0 18).map (addRightEmbedding 6) from by decide, bigSep_map]
  rfl

/-- The state before the first copy. -/
theorem enter (c : Dev nD) :
    (iprop(Ctx m K ∗ (∃ W, owes (c : Thread nD τ) (owe c 0) W)
        ∗ bigSep (Finset.Ico 0 6) (fun p => pc m c p fullShare.left) ∗ bigSep (Finset.Ico 0 6) (fun p => pc m c p fullShare.right)
        ∗ barPay c ∗ Lin c) : sProp 𝕄) ⊢ St m K c 0 0 0 := by
  unfold St barPay Lin
  rw [shift_six]
  iintro ⟨HX, HO, Hl, Hr, Hb, Hs, Hn, Hv, Ha⟩
  isplitl [HX]; · iexact HX
  isplitl [HO]; · iexact HO
  isplitl [Hl]; · iexact Hl
  rw [Finset.Ico_self, bigSep_empty, bigSep_empty, bigSep_empty, bigSep_empty]
  isplitr; · iempintro
  isplitl [Hr]; · iexact Hr
  isplitl [Hb Hs Hn]
  · ihave H1 := (Entails.of_eq (sep_both _ _ _).symm) $$ [Hn Hb]
    · isplitl [Hn] <;> iassumption
    ihave H2 := (Entails.of_eq (sep_both _ _ _).symm) $$ [Hs H1]
    · isplitl [Hs] <;> iassumption
    iapply (sep_each (Ψ := sendRes c) fun i _ => by unfold sendRes; exact BI.Entails.refl _) $$ H2
  isplitl [Hv]; · iexact Hv
  isplitr; · iempintro
  isplitr; · iempintro
  isplitl [Ha]; · iexact Ha
  iempintro

set_option maxHeartbeats 800000 in
/-- Part 3 of the body: the device's own blocks into the first slots, and the signal to the device before it, handing over the other slots. -/
theorem part3 (c : Dev nD) (w1 w2 w3 w4 : BitVec 32) (fC : FVec F S4x1024x128 .bf16) (fK fV : FVec F S4x128x2048 .bf16) {Q : Sems sig S_ → sProp 𝕄} :
    (iprop(Ctx m K ∗ (∃ W, owes (c : Thread nD τ) (O₀ c) W) ∗ dutyTok ER (barCell (prv c)) 0 true
        ∗ ((c : Thread nD τ).loc cc0_stg1_0 ↦{fullShare} dB m c) ∗ ((c : Thread nD τ).loc cc0_stg2_0 ↦{fullShare} ukB m c) ∗ ((c : Thread nD τ).loc cc0_stg3_0 ↦{fullShare} uvB m c)
        ∗ ((c : Thread nD τ).loc cc0_scratch0 ↦{fullShare} fC) ∗ ((c : Thread nD τ).loc cc0_scratch1 ↦{fullShare} fK) ∗ ((c : Thread nD τ).loc cc0_scratch2 ↦{fullShare} fV)) : sProp 𝕄)
      ⊢ iprop((((∃ W, owes (c : Thread nD τ) (O₁ c) W)
            ∗ bigSep (Finset.Ico 0 6) (fun p => pc m c p fullShare.left) ∗ bigSep (Finset.Ico 0 6) (fun p => pc m c p fullShare.right)
            ∗ ((c : Thread nD τ).loc cc0_stg1_0 ↦{fullShare} dB m c) ∗ ((c : Thread nD τ).loc cc0_stg2_0 ↦{fullShare} ukB m c) ∗ ((c : Thread nD τ).loc cc0_stg3_0 ↦{fullShare} uvB m c))
            -∗ Q (SemArray.scalar (sig.barrier 0 rfl)))
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3 w4 (xF m c)) Q) := by
  simp only [k0_part3_eq_skeleton]; unfold k0_part3_skel
  simp only [semSignalWord, Prog.lift, Prog.bind_op, Prog.bind_ret, Prog.pure_eq_ret, wp_deviceId]
  unfold Ctx
  iintro ⟨⟨#HR, #HL⟩, ⟨%W, HO⟩, Htok, H1, H2, H3, HC, HK, HV⟩ Hk
  iapply (ld_dkv c _) $$ H1; iintro H1
  iapply (ld_first_C c _ _) $$ HC; iintro HC
  iapply (st_first_C m c _ _ rfl _) $$ HC; iintro ⟨%gc, %hc, HC⟩
  iapply (ld_uk c _) $$ H2; iintro H2
  iapply (ld_first_K c _ _) $$ HK; iintro HK
  iapply (st_first_K m c _ _ rfl _) $$ HK; iintro ⟨%gk, %hk, HK⟩
  iapply (ld_uv c _) $$ H3; iintro H3
  iapply (ld_first_V c _ _) $$ HV; iintro HV
  iapply (st_first_V m c _ _ rfl _) $$ HV; iintro ⟨%gv, %hv, HV⟩
  ihave HS := (split_start m c gc gk gv hc hk hv) $$ [HC HK HV]
  · isplitl [HC]; · iexact HC
    isplitl [HK] <;> iassumption
  icases HS with ⟨Hl, Hr, Hrest⟩
  simp only [dev1_eq c]
  iapply (Rounds.wp_signal 𝒱₀ ER (ringRd m) (c : Thread nD τ) none (dst := (prv c : Thread nD τ)) (κ := K (prv c) 0)
      (d := true) (by rw [duties_bar]; exact Finset.mem_univ _) ((amount_bar m (prv c) true).trans (by decide)) () (O₁ c) rfl)
    $$ [HO Htok Hrest]
  · isplitr; · iapply (inv_bar m K (prv c)); iexact HR
    isplitl [HO]; · iexact HO
    isplitl [Htok]; · iexact Htok
    isplitl [Hrest]
    · rw [payload_bar_true]; unfold barPay; rw [nxt_prv]
      iexact Hrest
    · iapply (reached_bar m K (prv c)); iexact HR
  iintro HO
  rw [wp_ret]; imodintro
  iapply Hk
  isplitl [HO]; · iexists W; iexact HO
  isplitl [Hl]; · iexact Hl
  isplitl [Hr]; · iexact Hr
  isplitl [H1]; · iexact H1
  isplitl [H2]; · iexact H2
  iexact H3

set_option maxHeartbeats 800000 in
/-- Part 4 of the body: the signal to the device after, the wait for both neighbours, and the first two copies. -/
theorem part4 (c : Dev nD) (w1 w2 w3 : BitVec 32) {Q : PUnit → sProp 𝕄} :
    (iprop(Ctx m K ∗ (∃ W, owes (c : Thread nD τ) (O₁ c) W)
        ∗ bigSep (Finset.Ico 0 6) (fun p => pc m c p fullShare.left) ∗ bigSep (Finset.Ico 0 6) (fun p => pc m c p fullShare.right)
        ∗ dutyTok ER (barCell (nxt c)) 0 false ∗ cred (tallyAt (barCell c) () 2) ∗ atPos ER (barCell c) 0 ∅ 0 ∗ Lin c) : sProp 𝕄)
      ⊢ iprop(((St m K c 2 0 0 ∗ atPos ER (barCell c) 1 ∅ 0) -∗ Q ⟨⟩)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3 (SemArray.scalar (sig.barrier 0 rfl))) Q) := by
  simp only [k0_part4_eq_skeleton]; unfold k0_part4_skel
  simp only [semSignalWord, semWaitWord, Prog.lift, Prog.bind_op, Prog.bind_ret, Prog.pure_eq_ret, wp_deviceId]
  unfold Ctx
  iintro ⟨⟨#HR, #HL⟩, ⟨%W, HO⟩, Hl, Hr, Htok, HcB, HatB, HLin⟩ Hk
  simp only [dev2_eq c]
  unfold O₁
  iapply (Rounds.wp_signal 𝒱₀ ER (ringRd m) (c : Thread nD τ) none (dst := (nxt c : Thread nD τ)) (κ := K (nxt c) 0)
      (d := false) (by rw [duties_bar]; exact Finset.mem_univ _) ((amount_bar m (nxt c) false).trans (by decide)) () (owe c 0) rfl)
    $$ [HO Htok]
  · isplitr; · iapply (inv_bar m K (nxt c)); iexact HR
    isplitl [HO]; · iexact HO
    isplitl [Htok]; · iexact Htok
    isplitr; · rw [payload_bar_false]; iempintro
    iapply (reached_bar m K (nxt c)); iexact HR
  iintro HO
  iapply (Rounds.wp_wait_rest_token 𝒱₀ ER (ringRd m) (c : Thread nD τ) none (κ := K c 0)
      (wpE_semWait_eq 𝒱₀ (c : Thread nD τ) none Set.univ) (Set.mem_univ _) () (O := owe c 0) (W := W) (R := 0) (m := 0) (T := ∅)
      (by rw [expect_bar]; decide)) $$ [HcB HO HatB]
  · isplitr; · iapply (inv_bar m K c); iexact HR
    isplitl [HcB]; · iexact HcB
    isplitl [HO]; · iexact HO
    isplitr; · iapply (mayWait_bar c); iexact HL
    iexact HatB
  iintro ⟨HO, HatB, -, Hpay⟩
  ihave Hp := (Entails.of_eq (rest_bar m c)) $$ Hpay
  icases Hp with ⟨-, Hbar⟩
  ihave HS := (enter m K c) $$ [HO Hl Hr Hbar HLin]
  · isplitr
    · unfold Ctx
      isplitl; · iexact HR
      iexact HL
    isplitl [HO]; · iexists _; iexact HO
    isplitl [Hl]; · iexact Hl
    isplitl [Hr]; · iexact Hr
    isplitl [Hbar] <;> iassumption
  iapply (send_C m K c _ (dev3_eq c) 0 0 0 (by decide) rfl (by decide) (by decide)) $$ HS; iintro HS
  iapply (send_K m K c _ (dev4_eq c) 1 0 0 (by decide) rfl (by decide) (by decide)) $$ HS; iintro HS
  rw [wp_ret]; imodintro
  iapply Hk
  isplitl [HS]; · iexact HS
  iexact HatB

/-! ## The ring after the last wait -/

/-- Semaphores closed one after another. -/
theorem close_all (c : Dev nD) (n : ℕ) (g : ℕ → GSem nD τ sig) (κ : ℕ → ℕ) (hI : ∀ i, i < n → records m K ⊢ cellInv ER (ringRd m) (κ i) (g i)) :
    (iprop(records m K ∗ bigSep (Finset.Ico 0 n) (fun i => atPos ER (g i) 1 ∅ 0)) : sProp 𝕄)
      ⊢ iprop(|={Set.univ}=> bigSep (Finset.Ico 0 n) (fun i => semVal (g i) 0)) := by
  induction n with
  | zero =>
    rw [Finset.Ico_self, bigSep_empty, bigSep_empty]
    iintro -
    imodintro
    iempintro
  | succ n ih =>
    rw [sep_last (Nat.zero_le n), sep_last (Nat.zero_le n)]
    iintro ⟨#HR, Ha, Hs⟩
    imod (ih fun i hi => hI i (by omega)) $$ [Hs] with Hz
    · isplitr; · iexact HR
      iexact Hs
    imod (Rounds.cell_close ER (ringRd m) (Set.mem_univ (κ n)) (fun h => h) (R := 1) (duties_later m (g n))) $$ [Ha] with Hy
    · isplitr; · iapply (hI n (by omega)); iexact HR
      iexact Ha
    imodintro
    isplitl [Hy] <;> iassumption

/-- What is left at the end: nothing owed, the three buffers whole again, and every semaphore of the ring at zero. -/
def Done (c : Dev nD) : sProp 𝕄 :=
  iprop((∃ W, owes (c : Thread nD τ) (0 : CellTallies nD τ sig Unit) W)
    ∗ ((c : Thread nD τ).loc cc0_scratch0 ↦{fullShare} gC m c) ∗ ((c : Thread nD τ).loc cc0_scratch1 ↦{fullShare} gK m c) ∗ ((c : Thread nD τ).loc cc0_scratch2 ↦{fullShare} gV m c)
    ∗ bigSep (Finset.Ico 0 18) (fun i => semVal (sendCell c i) 0) ∗ bigSep (Finset.Ico 0 18) (fun i => semVal (recvCell c i) 0) ∗ semVal (barCell c) 0)

theorem leave (c : Dev nD) : (iprop(St m K c 18 18 18 ∗ atPos ER (barCell c) 1 ∅ 0) : sProp 𝕄) ⊢ iprop(|={Set.univ}=> Done m c) := by
  unfold St Ctx Done
  rw [owe_done]
  iintro ⟨⟨⟨#HR, #HL⟩, HO, Hl, Hrw, Hr, -, -, Hv1, -, -, Ha1⟩, HatB⟩
  imod (close_all m K c 18 (sendCell c) (fun i => K c (1 + i)) fun i hi => inv_send m K c i hi) $$ [Ha1] with HzS
  · isplitr; · iexact HR
    iexact Ha1
  imod (close_all m K c 18 (recvCell c) (fun i => K c (19 + i)) fun i hi => inv_recv m K c i hi) $$ [Hv1] with HzV
  · isplitr; · iexact HR
    iexact Hv1
  imod (Rounds.cell_close ER (ringRd m) (Set.mem_univ (K c 0)) (fun h => h) (R := 1) (duties_later m (barCell c))) $$ [HatB] with HzB
  · isplitr; · iapply (inv_bar m K c); iexact HR
    iexact HatB
  ihave HJ := (join_end m c) $$ [Hl Hrw Hr]
  · isplitl [Hl]; · iexact Hl
    iapply (Entails.of_eq (sep_halves (F := F) (fun p => pc m c p fullShare.right)).symm)
    isplitl [Hrw] <;> iassumption
  icases HJ with ⟨HC, HK, HV⟩
  imodintro
  isplitl [HO]; · iexact HO
  isplitl [HC]; · iexact HC
  isplitl [HK]; · iexact HK
  isplitl [HV]; · iexact HV
  isplitl [HzS]; · iexact HzS
  isplitl [HzV] <;> iassumption

end Cert.MlaProof

end
-- ==== Proof.Parts1.lean ====
/-
# `Parts1`: parts 2, 5, 6, 7, 8 of the body
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Part 2 of the body. -/
theorem part2 (c : Dev nD)  {Q : (Σ' (d0 : Dev nD) (v2 : BitVec 32) (v8 : BitVec 32) (v19 : BitVec 32) (v31 : BitVec 32), FVec F S1024x2048 .bf16) → sProp 𝕄} :
    (iprop(((c : Thread nD τ).loc cc0_stg0_0 ↦{fullShare} xB m c)) : sProp 𝕄)
      ⊢ iprop((∀ v2 : BitVec 32, ∀ v8 : BitVec 32, ∀ v19 : BitVec 32, ∀ v31 : BitVec 32, (((c : Thread nD τ).loc cc0_stg0_0 ↦{fullShare} xB m c)) -∗ Q ⟨c, v2, v8, v19, v31, k0_pay3 (xB m c)⟩)
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 ) Q) := by
  simp only [k0_part2_eq_skeleton]; unfold k0_part2_skel
  simp only [Prog.lift, Prog.bind_op, Prog.bind_ret, Prog.pure_eq_ret, wp_deviceId]
  iintro HX Hk
  iapply (ld_x c _) $$ HX; iintro HX
  rw [wp_ret]; imodintro
  iapply Hk
  iexact HX

/-- Part 5 of the body. -/
theorem part5 (c : Dev nD) (w1 w2 w3 : BitVec 32) {Q : (BitVec 32) → sProp 𝕄} :
    (iprop(St m K c 2 0 0) : sProp 𝕄)
      ⊢ iprop((∀ w : BitVec 32, (St m K c 4 0 0) -∗ Q w)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3) Q) := by
  simp only [k0_part5_eq_skeleton]; unfold k0_part5_skel
  simp only [Prog.lift, Prog.bind_op, Prog.bind_ret, Prog.pure_eq_ret, wp_deviceId]
  iintro HS Hk
  iapply (send_V m K c _ (dev5_eq c) 2 0 0 (by decide) rfl (by decide) (by decide)) $$ HS; iintro HS
  iapply (send_C m K c _ (dev6_eq c) 3 0 0 (by decide) rfl (by decide) (by decide)) $$ HS; iintro HS
  rw [wp_ret]; imodintro
  iapply Hk
  iexact HS

/-- Part 6 of the body. -/
theorem part6 (c : Dev nD) (w1 w2 w3 : BitVec 32) (w : BitVec 32) {Q : (FVec F S1024x2048 .bf16) → sProp 𝕄} :
    (iprop(St m K c 4 0 0) : sProp 𝕄)
      ⊢ iprop(((St m K c 6 0 0) -∗ Q (k0_pay7 (ownC m (back 0 c)) (ownK m (back 0 c))))
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3 w) Q) := by
  simp only [k0_part6_eq_skeleton]; unfold k0_part6_skel
  simp only [Prog.lift, Prog.bind_op, Prog.bind_ret, Prog.pure_eq_ret, wp_deviceId]
  iintro HS Hk
  iapply (send_K m K c _ (dev7_eq c) 4 0 0 (by decide) rfl (by decide) (by decide)) $$ HS; iintro HS
  iapply (send_V m K c _ (dev8_eq c) 5 0 0 (by decide) rfl (by decide) (by decide)) $$ HS; iintro HS
  iapply (load_C m K c 0 6 0 0 (by decide) (by decide) _) $$ HS; iintro HS
  iapply (load_K m K c 0 6 0 0 (by decide) (by decide) _) $$ HS; iintro HS
  rw [wp_ret]; imodintro
  iapply Hk
  iexact HS

/-- Part 7 of the body. -/
theorem part7 (c : Dev nD) (w1 w2 w3 : BitVec 32) (fK fV fQ : FVec F S1024x2048 .bf16) {Q : PUnit → sProp 𝕄} :
    (iprop(St m K c 6 0 0 ∗ ((c : Thread nD τ).loc cc0_scratch5 ↦{fullShare} fK) ∗ ((c : Thread nD τ).loc cc0_scratch6 ↦{fullShare} fV) ∗ ((c : Thread nD τ).loc cc0_stg4_0 ↦{fullShare} wqB m c) ∗ qAt m c fQ 0) : sProp 𝕄)
      ⊢ iprop(((St m K c 6 0 0 ∗ ((c : Thread nD τ).loc cc0_scratch5 ↦{fullShare} kb0 m c) ∗ ((c : Thread nD τ).loc cc0_scratch6 ↦{fullShare} vb0 m c) ∗ ((c : Thread nD τ).loc cc0_stg4_0 ↦{fullShare} wqB m c) ∗ qAt m c fQ 1) -∗ Q ⟨⟩)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3 (xF m c) (k0_pay7 (ownC m (back 0 c)) (ownK m (back 0 c)))) Q) := by
  simp only [k0_part7_eq_skeleton]; unfold k0_part7_skel
  simp only [Prog.lift, Prog.bind_op, Prog.bind_ret, Prog.pure_eq_ret, wp_deviceId]
  iintro ⟨HS, HKB, HVB, HWQ, HQ⟩ Hk
  iapply (load_C m K c 0 6 0 0 (by decide) (by decide) _) $$ HS; iintro HS
  iapply (load_V m K c 0 6 0 0 (by decide) (by decide) _) $$ HS; iintro HS
  iapply (ld_Kb c _) $$ HKB; iintro HKB
  iapply (st_K c _ _ (kb0 m c) rfl) $$ HKB; iintro HKB
  iapply (ld_Vb c _) $$ HVB; iintro HVB
  iapply (st_V c _ _ (vb0 m c) rfl) $$ HVB; iintro HVB
  iapply (ld_wq c _ 0 0 (by decide) rfl _) $$ HWQ; iintro HWQ
  iapply (ld_qAt m c _ 0 ![0, 0]) $$ HQ; iintro HQ
  iapply (step_q m c _ 0 0 (by decide) rfl _ rfl _) $$ HQ; iintro HQ
  rw [wp_ret]; imodintro
  iapply Hk
  isplitl [HS]; · iexact HS
  isplitl [HKB]; · iexact HKB
  isplitl [HVB]; · iexact HVB
  isplitl [HWQ]; · iexact HWQ
  iexact HQ

/-- Part 8 of the body. -/
theorem part8 (c : Dev nD) (w1 w2 w3 : BitVec 32) {Q : (BitVec 32) → sProp 𝕄} :
    (iprop(St m K c 6 0 0) : sProp 𝕄)
      ⊢ iprop((∀ w : BitVec 32, (St m K c 6 3 0) -∗ Q w)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3) Q) := by
  simp only [k0_part8_eq_skeleton]; unfold k0_part8_skel
  simp only [Prog.lift, Prog.bind_op, Prog.bind_ret, Prog.pure_eq_ret, wp_deviceId]
  iintro HS Hk
  iapply (recv_C m K c 0 6 0 (by decide) rfl (by decide) (by decide)) $$ HS; iintro HS
  iapply (recv_K m K c 1 6 0 (by decide) rfl (by decide) (by decide)) $$ HS; iintro HS
  iapply (recv_V m K c 2 6 0 (by decide) rfl (by decide) (by decide)) $$ HS; iintro HS
  rw [wp_ret]; imodintro
  iapply Hk
  iexact HS

end Cert.MlaProof

end
-- ==== Proof.Parts2.lean ====
/-
# `Parts2`: parts 9, 10, 11, 12, 13, 14 of the body
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Part 9 of the body. -/
theorem part9 (c : Dev nD) (w1 w2 w3 : BitVec 32) (w : BitVec 32) {Q : PUnit → sProp 𝕄} :
    (iprop(St m K c 6 3 0) : sProp 𝕄)
      ⊢ iprop(((St m K c 8 3 0) -∗ Q ⟨⟩)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3 w) Q) := by
  simp only [k0_part9_eq_skeleton]; unfold k0_part9_skel
  simp only [Prog.lift, Prog.bind_op, Prog.bind_ret, Prog.pure_eq_ret, wp_deviceId]
  iintro HS Hk
  iapply (send_C m K c _ (dev9_eq c) 6 3 0 (by decide) rfl (by decide) (by decide)) $$ HS; iintro HS
  iapply (send_K m K c _ (dev10_eq c) 7 3 0 (by decide) rfl (by decide) (by decide)) $$ HS; iintro HS
  rw [wp_ret]; imodintro
  iapply Hk
  iexact HS

/-- Part 10 of the body. -/
theorem part10 (c : Dev nD) (w1 w2 w3 : BitVec 32) (fQ : FVec F S1024x2048 .bf16) {Q : (Σ' (v272 : BitVec 32), BitVec 32) → sProp 𝕄} :
    (iprop(St m K c 8 3 0 ∗ ((c : Thread nD τ).loc cc0_stg4_0 ↦{fullShare} wqB m c) ∗ qAt m c fQ 1) : sProp 𝕄)
      ⊢ iprop((∀ w : BitVec 32, ∀ w' : BitVec 32, (St m K c 9 4 0 ∗ ((c : Thread nD τ).loc cc0_stg4_0 ↦{fullShare} wqB m c) ∗ qAt m c fQ 2) -∗ Q ⟨w, w'⟩)
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3 (xF m c)) Q) := by
  simp only [k0_part10_eq_skeleton]; unfold k0_part10_skel
  simp only [Prog.lift, Prog.bind_op, Prog.bind_ret, Prog.pure_eq_ret, wp_deviceId]
  iintro ⟨HS, HWQ, HQ⟩ Hk
  iapply (send_V m K c _ (dev11_eq c) 8 3 0 (by decide) rfl (by decide) (by decide)) $$ HS; iintro HS
  iapply (ld_wq c _ 1 512 (by decide) rfl _) $$ HWQ; iintro HWQ
  iapply (ld_qAt m c _ 1 ![0, 512]) $$ HQ; iintro HQ
  iapply (step_q m c _ 1 512 (by decide) rfl _ rfl _) $$ HQ; iintro HQ
  iapply (recv_C m K c 3 9 0 (by decide) rfl (by decide) (by decide)) $$ HS; iintro HS
  rw [wp_ret]; imodintro
  iapply Hk
  isplitl [HS]; · iexact HS
  isplitl [HWQ]; · iexact HWQ
  iexact HQ

/-- Part 11 of the body. -/
theorem part11 (c : Dev nD) (w1 w2 w3 : BitVec 32) (w w' : BitVec 32) {Q : PUnit → sProp 𝕄} :
    (iprop(St m K c 9 4 0) : sProp 𝕄)
      ⊢ iprop(((St m K c 9 6 0) -∗ Q ⟨⟩)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3 w w') Q) := by
  simp only [k0_part11_eq_skeleton]; unfold k0_part11_skel
  simp only [Prog.lift, Prog.bind_op, Prog.bind_ret, Prog.pure_eq_ret, wp_deviceId]
  iintro HS Hk
  iapply (recv_K m K c 4 9 0 (by decide) rfl (by decide) (by decide)) $$ HS; iintro HS
  iapply (recv_V m K c 5 9 0 (by decide) rfl (by decide) (by decide)) $$ HS; iintro HS
  rw [wp_ret]; imodintro
  iapply Hk
  iexact HS

/-- Part 12 of the body. -/
theorem part12 (c : Dev nD) (w1 w2 w3 : BitVec 32) {Q : PUnit → sProp 𝕄} :
    (iprop(St m K c 9 6 0) : sProp 𝕄)
      ⊢ iprop(((St m K c 11 6 0) -∗ Q ⟨⟩)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3) Q) := by
  simp only [k0_part12_eq_skeleton]; unfold k0_part12_skel
  simp only [Prog.lift, Prog.bind_op, Prog.bind_ret, Prog.pure_eq_ret, wp_deviceId]
  iintro HS Hk
  iapply (send_C m K c _ (dev12_eq c) 9 6 0 (by decide) rfl (by decide) (by decide)) $$ HS; iintro HS
  iapply (send_K m K c _ (dev13_eq c) 10 6 0 (by decide) rfl (by decide) (by decide)) $$ HS; iintro HS
  rw [wp_ret]; imodintro
  iapply Hk
  iexact HS

/-- Part 13 of the body. -/
theorem part13 (c : Dev nD)  (fQ : FVec F S1024x2048 .bf16) {Q : (FVec F S1024x512 .bf16) → sProp 𝕄} :
    (iprop(St m K c 11 6 0 ∗ ((c : Thread nD τ).loc cc0_scratch5 ↦{fullShare} kb0 m c) ∗ ((c : Thread nD τ).loc cc0_scratch6 ↦{fullShare} vb0 m c) ∗ ((c : Thread nD τ).loc cc0_stg4_0 ↦{fullShare} wqB m c) ∗ qAt m c fQ 2) : sProp 𝕄)
      ⊢ iprop(((St m K c 12 6 0 ∗ ((c : Thread nD τ).loc cc0_scratch5 ↦{fullShare} kb1 m c) ∗ ((c : Thread nD τ).loc cc0_scratch6 ↦{fullShare} vb1 m c) ∗ ((c : Thread nD τ).loc cc0_stg4_0 ↦{fullShare} wqB m c) ∗ qAt m c fQ 2) -∗ Q (k0_pay14 (xF m c) (wqSl (wqB m c) 2)))
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c (xF m c)) Q) := by
  simp only [k0_part13_eq_skeleton]; unfold k0_part13_skel
  simp only [Prog.lift, Prog.bind_op, Prog.bind_ret, Prog.pure_eq_ret, wp_deviceId]
  iintro ⟨HS, HKB, HVB, HWQ, HQ⟩ Hk
  iapply (send_V m K c _ (dev14_eq c) 11 6 0 (by decide) rfl (by decide) (by decide)) $$ HS; iintro HS
  iapply (load_C m K c 1 12 6 0 (by decide) (by decide) _) $$ HS; iintro HS
  iapply (load_K m K c 1 12 6 0 (by decide) (by decide) _) $$ HS; iintro HS
  iapply (load_C m K c 1 12 6 0 (by decide) (by decide) _) $$ HS; iintro HS
  iapply (load_V m K c 1 12 6 0 (by decide) (by decide) _) $$ HS; iintro HS
  iapply (ld_Kb c _) $$ HKB; iintro HKB
  iapply (ld_Kb c _) $$ HKB; iintro HKB
  iapply (st_K c _ _ (kb1 m c) rfl) $$ HKB; iintro HKB
  iapply (ld_Vb c _) $$ HVB; iintro HVB
  iapply (ld_Vb c _) $$ HVB; iintro HVB
  iapply (st_V c _ _ (vb1 m c) rfl) $$ HVB; iintro HVB
  iapply (ld_wq c _ 2 1024 (by decide) rfl _) $$ HWQ; iintro HWQ
  iapply (ld_qAt m c _ 2 ![0, 1024]) $$ HQ; iintro HQ
  rw [wp_ret]; imodintro
  iapply Hk
  isplitl [HS]; · iexact HS
  isplitl [HKB]; · iexact HKB
  isplitl [HVB]; · iexact HVB
  isplitl [HWQ]; · iexact HWQ
  iexact HQ

/-- Part 14 of the body. -/
theorem part14 (c : Dev nD) (w1 w2 w3 : BitVec 32) (fQ : FVec F S1024x2048 .bf16) {Q : (Σ' (v391 : BitVec 32), BitVec 32) → sProp 𝕄} :
    (iprop(St m K c 12 6 0 ∗ qAt m c fQ 2) : sProp 𝕄)
      ⊢ iprop((∀ w : BitVec 32, ∀ w' : BitVec 32, (St m K c 12 8 0 ∗ qAt m c fQ 3) -∗ Q ⟨w, w'⟩)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3 (k0_pay14 (xF m c) (wqSl (wqB m c) 2))) Q) := by
  simp only [k0_part14_eq_skeleton]; unfold k0_part14_skel
  simp only [Prog.lift, Prog.bind_op, Prog.bind_ret, Prog.pure_eq_ret, wp_deviceId]
  iintro ⟨HS, HQ⟩ Hk
  iapply (step_q m c _ 2 1024 (by decide) rfl _ rfl _) $$ HQ; iintro HQ
  iapply (recv_C m K c 6 12 0 (by decide) rfl (by decide) (by decide)) $$ HS; iintro HS
  iapply (recv_K m K c 7 12 0 (by decide) rfl (by decide) (by decide)) $$ HS; iintro HS
  rw [wp_ret]; imodintro
  iapply Hk
  isplitl [HS]; · iexact HS
  iexact HQ

end Cert.MlaProof

end
-- ==== Proof.Parts3.lean ====
/-
# `Parts3`: parts 15, 16, 17, 18, 19 of the body
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Part 15 of the body. -/
theorem part15 (c : Dev nD) (w1 w2 w3 : BitVec 32) (w w' : BitVec 32) {Q : PUnit → sProp 𝕄} :
    (iprop(St m K c 12 8 0) : sProp 𝕄)
      ⊢ iprop(((St m K c 13 9 0) -∗ Q ⟨⟩)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3 w w') Q) := by
  simp only [k0_part15_eq_skeleton]; unfold k0_part15_skel
  simp only [Prog.lift, Prog.bind_op, Prog.bind_ret, Prog.pure_eq_ret, wp_deviceId]
  iintro HS Hk
  iapply (recv_V m K c 8 12 0 (by decide) rfl (by decide) (by decide)) $$ HS; iintro HS
  iapply (send_C m K c _ (dev15_eq c) 12 9 0 (by decide) rfl (by decide) (by decide)) $$ HS; iintro HS
  rw [wp_ret]; imodintro
  iapply Hk
  iexact HS

/-- Part 16 of the body. -/
theorem part16 (c : Dev nD) (w1 w2 w3 : BitVec 32) (fQ : FVec F S1024x2048 .bf16) {Q : (Σ' (v452 : BitVec 32), BitVec 32) → sProp 𝕄} :
    (iprop(St m K c 13 9 0 ∗ ((c : Thread nD τ).loc cc0_stg4_0 ↦{fullShare} wqB m c) ∗ qAt m c fQ 3) : sProp 𝕄)
      ⊢ iprop((∀ w : BitVec 32, ∀ w' : BitVec 32, (St m K c 15 9 0 ∗ ((c : Thread nD τ).loc cc0_stg4_0 ↦{fullShare} wqB m c) ∗ qAt m c fQ 4) -∗ Q ⟨w, w'⟩)
          -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3 (xF m c)) Q) := by
  simp only [k0_part16_eq_skeleton]; unfold k0_part16_skel
  simp only [Prog.lift, Prog.bind_op, Prog.bind_ret, Prog.pure_eq_ret, wp_deviceId]
  iintro ⟨HS, HWQ, HQ⟩ Hk
  iapply (send_K m K c _ (dev16_eq c) 13 9 0 (by decide) rfl (by decide) (by decide)) $$ HS; iintro HS
  iapply (send_V m K c _ (dev17_eq c) 14 9 0 (by decide) rfl (by decide) (by decide)) $$ HS; iintro HS
  iapply (ld_wq c _ 3 1536 (by decide) rfl _) $$ HWQ; iintro HWQ
  iapply (ld_qAt m c _ 3 ![0, 1536]) $$ HQ; iintro HQ
  iapply (step_q m c _ 3 1536 (by decide) rfl _ rfl _) $$ HQ; iintro HQ
  rw [wp_ret]; imodintro
  iapply Hk
  isplitl [HS]; · iexact HS
  isplitl [HWQ]; · iexact HWQ
  iexact HQ

/-- Part 17 of the body. -/
theorem part17 (c : Dev nD) (w1 w2 w3 : BitVec 32) (w w' : BitVec 32) {Q : PUnit → sProp 𝕄} :
    (iprop(St m K c 15 9 0) : sProp 𝕄)
      ⊢ iprop(((St m K c 15 11 0) -∗ Q ⟨⟩)
          -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3 w w') Q) := by
  simp only [k0_part17_eq_skeleton]; unfold k0_part17_skel
  simp only [Prog.lift, Prog.bind_op, Prog.bind_ret, Prog.pure_eq_ret, wp_deviceId]
  iintro HS Hk
  iapply (recv_C m K c 9 15 0 (by decide) rfl (by decide) (by decide)) $$ HS; iintro HS
  iapply (recv_K m K c 10 15 0 (by decide) rfl (by decide) (by decide)) $$ HS; iintro HS
  rw [wp_ret]; imodintro
  iapply Hk
  iexact HS

/-- Part 18 of the body. -/
theorem part18 (c : Dev nD) (w1 w2 w3 : BitVec 32) {Q : PUnit → sProp 𝕄} :
    (iprop(St m K c 15 11 0) : sProp 𝕄)
      ⊢ iprop(((St m K c 17 12 0) -∗ Q ⟨⟩)
          -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3) Q) := by
  simp only [k0_part18_eq_skeleton]; unfold k0_part18_skel
  simp only [Prog.lift, Prog.bind_op, Prog.bind_ret, Prog.pure_eq_ret, wp_deviceId]
  iintro HS Hk
  iapply (recv_V m K c 11 15 0 (by decide) rfl (by decide) (by decide)) $$ HS; iintro HS
  iapply (send_C m K c _ (dev18_eq c) 15 12 0 (by decide) rfl (by decide) (by decide)) $$ HS; iintro HS
  iapply (send_K m K c _ (dev19_eq c) 16 12 0 (by decide) rfl (by decide) (by decide)) $$ HS; iintro HS
  rw [wp_ret]; imodintro
  iapply Hk
  iexact HS

/-- Part 19 of the body. -/
theorem part19 (c : Dev nD) (w1 w2 w3 : BitVec 32) {Q : (Σ' (v540 : FVec F S1024x2048 .bf16), FVec F S1024x2048 .bf16) → sProp 𝕄} :
    (iprop(St m K c 17 12 0 ∗ ((c : Thread nD τ).loc cc0_scratch5 ↦{fullShare} kb1 m c)) : sProp 𝕄)
      ⊢ iprop(((St m K c 18 12 0 ∗ ((c : Thread nD τ).loc cc0_scratch5 ↦{fullShare} kb1 m c)) -∗ Q ⟨(k0_pay16 (ownC m (back 2 c)) (ownV m (back 2 c))), (k0_pay17 (ownC m (back 2 c)) (ownK m (back 2 c)) (kb1 m c))⟩)
          -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 c w1 w2 w3) Q) := by
  simp only [k0_part19_eq_skeleton]; unfold k0_part19_skel
  simp only [Prog.lift, Prog.bind_op, Prog.bind_ret, Prog.pure_eq_ret, wp_deviceId]
  iintro ⟨HS, HKB⟩ Hk
  iapply (send_V m K c _ (dev20_eq c) 17 12 0 (by decide) rfl (by decide) (by decide)) $$ HS; iintro HS
  iapply (load_C m K c 2 18 12 0 (by decide) (by decide) _) $$ HS; iintro HS
  iapply (load_K m K c 2 18 12 0 (by decide) (by decide) _) $$ HS; iintro HS
  iapply (load_C m K c 2 18 12 0 (by decide) (by decide) _) $$ HS; iintro HS
  iapply (load_V m K c 2 18 12 0 (by decide) (by decide) _) $$ HS; iintro HS
  iapply (ld_Kb c _) $$ HKB; iintro HKB
  iapply (ld_Kb c _) $$ HKB; iintro HKB
  rw [wp_ret]; imodintro
  iapply Hk
  isplitl [HS]; · iexact HS
  iexact HKB

end Cert.MlaProof

end
-- ==== Proof.Parts4.lean ====
/-
# `Parts4`: parts 20, 21, 22 of the body
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Part 20 of the body. -/
theorem part20 (c : Dev nD)  (fR : FVec F S32x512x32 .bf16) {Q : (Σ' (v554 : FVec F S1024x512 .bf16) (v558 : FVec F S1024x32 .bf16), FVec F S512x32 .bf16) → sProp 𝕄} :
    (iprop(((c : Thread nD τ).loc cc0_scratch5 ↦{fullShare} kb1 m c) ∗ ((c : Thread nD τ).loc cc0_scratch6 ↦{fullShare} vb1 m c) ∗ ((c : Thread nD τ).loc cc0_stg5_0 ↦{fullShare} wqrB m c) ∗ ((c : Thread nD τ).loc cc0_stg6_0 ↦{fullShare} wkrB m c) ∗ qrAt c (qrW m c) fR 0) : sProp 𝕄)
      ⊢ iprop(((((c : Thread nD τ).loc cc0_scratch5 ↦{fullShare} kb2 m c) ∗ ((c : Thread nD τ).loc cc0_scratch6 ↦{fullShare} vb2 m c) ∗ ((c : Thread nD τ).loc cc0_stg5_0 ↦{fullShare} wqrB m c) ∗ ((c : Thread nD τ).loc cc0_stg6_0 ↦{fullShare} wkrB m c) ∗ qrAt c (qrW m c) fR 4) -∗ Q ⟨(k0_pay20 (xF m c) (wqrB m c)), (k0_pay21 (xF m c) (wkrB m c)), k0_pay26 (xF m c) (wqrB m c)⟩)
          -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 (xF m c) (k0_pay16 (ownC m (back 2 c)) (ownV m (back 2 c))) (k0_pay17 (ownC m (back 2 c)) (ownK m (back 2 c)) (kb1 m c))) Q) := by
  simp only [k0_part20_eq_skeleton]; unfold k0_part20_skel
  simp only [Prog.lift, Prog.bind_op, Prog.bind_ret, Prog.pure_eq_ret, wp_deviceId]
  iintro ⟨HKB, HVB, HWR, HWK, HR⟩ Hk
  iapply (st_K c _ _ (kb2 m c) rfl) $$ HKB; iintro HKB
  iapply (ld_Vb c _) $$ HVB; iintro HVB
  iapply (ld_Vb c _) $$ HVB; iintro HVB
  iapply (st_V c _ _ (vb2 m c) rfl) $$ HVB; iintro HVB
  iapply (ld_wqr c _) $$ HWR; iintro HWR
  iapply (ld_wkr c _) $$ HWK; iintro HWK
  iapply (ld_qrAt c _ _ 0 ![0, 0, 0]) $$ HR; iintro HR
  iapply (step_qr c (qrW m c) _ 0 (by decide) 0 0 rfl rfl slices_S1024x512_o0_0_S512x32 shapeCasts_S512x32_S1x512x32 _ rfl _) $$ HR; iintro HR
  iapply (ld_qrAt c _ _ 1 ![1, 0, 0]) $$ HR; iintro HR
  iapply (step_qr c (qrW m c) _ 1 (by decide) 0 32 rfl rfl slices_S1024x512_o0_32_S512x32 shapeCasts_S512x32_S1x512x32 _ rfl _) $$ HR; iintro HR
  iapply (ld_qrAt c _ _ 2 ![2, 0, 0]) $$ HR; iintro HR
  iapply (step_qr c (qrW m c) _ 2 (by decide) 0 64 rfl rfl slices_S1024x512_o0_64_S512x32 shapeCasts_S512x32_S1x512x32 _ rfl _) $$ HR; iintro HR
  iapply (ld_qrAt c _ _ 3 ![3, 0, 0]) $$ HR; iintro HR
  iapply (step_qr c (qrW m c) _ 3 (by decide) 0 96 rfl rfl slices_S1024x512_o0_96_S512x32 shapeCasts_S512x32_S1x512x32 _ rfl _) $$ HR; iintro HR
  rw [wp_ret]; imodintro
  iapply Hk
  isplitl [HKB]; · iexact HKB
  isplitl [HVB]; · iexact HVB
  isplitl [HWR]; · iexact HWR
  isplitl [HWK]; · iexact HWK
  iexact HR

/-- Part 21 of the body. -/
theorem part21 (c : Dev nD)  (fR : FVec F S32x512x32 .bf16) {Q : (FVec F S512x32 .bf16) → sProp 𝕄} :
    (iprop(qrAt c (qrW m c) fR 4) : sProp 𝕄)
      ⊢ iprop(((qrAt c (qrW m c) fR 11) -∗ Q (k0_pay34 (k0_pay20 (xF m c) (wqrB m c))))
          -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 (k0_pay20 (xF m c) (wqrB m c)) (k0_pay26 (xF m c) (wqrB m c))) Q) := by
  simp only [k0_part21_eq_skeleton]; unfold k0_part21_skel
  simp only [Prog.lift, Prog.bind_op, Prog.bind_ret, Prog.pure_eq_ret, wp_deviceId]
  iintro HR Hk
  iapply (ld_qrAt c _ _ 4 ![4, 0, 0]) $$ HR; iintro HR
  iapply (step_qr c (qrW m c) _ 4 (by decide) 0 128 rfl rfl slices_S1024x512_o0_128_S512x32 shapeCasts_S512x32_S1x512x32 _ rfl _) $$ HR; iintro HR
  iapply (ld_qrAt c _ _ 5 ![5, 0, 0]) $$ HR; iintro HR
  iapply (step_qr c (qrW m c) _ 5 (by decide) 0 160 rfl rfl slices_S1024x512_o0_160_S512x32 shapeCasts_S512x32_S1x512x32 _ rfl _) $$ HR; iintro HR
  iapply (ld_qrAt c _ _ 6 ![6, 0, 0]) $$ HR; iintro HR
  iapply (step_qr c (qrW m c) _ 6 (by decide) 0 192 rfl rfl slices_S1024x512_o0_192_S512x32 shapeCasts_S512x32_S1x512x32 _ rfl _) $$ HR; iintro HR
  iapply (ld_qrAt c _ _ 7 ![7, 0, 0]) $$ HR; iintro HR
  iapply (step_qr c (qrW m c) _ 7 (by decide) 0 224 rfl rfl slices_S1024x512_o0_224_S512x32 shapeCasts_S512x32_S1x512x32 _ rfl _) $$ HR; iintro HR
  iapply (ld_qrAt c _ _ 8 ![8, 0, 0]) $$ HR; iintro HR
  iapply (step_qr c (qrW m c) _ 8 (by decide) 0 256 rfl rfl slices_S1024x512_o0_256_S512x32 shapeCasts_S512x32_S1x512x32 _ rfl _) $$ HR; iintro HR
  iapply (ld_qrAt c _ _ 9 ![9, 0, 0]) $$ HR; iintro HR
  iapply (step_qr c (qrW m c) _ 9 (by decide) 0 288 rfl rfl slices_S1024x512_o0_288_S512x32 shapeCasts_S512x32_S1x512x32 _ rfl _) $$ HR; iintro HR
  iapply (ld_qrAt c _ _ 10 ![10, 0, 0]) $$ HR; iintro HR
  iapply (step_qr c (qrW m c) _ 10 (by decide) 0 320 rfl rfl slices_S1024x512_o0_320_S512x32 shapeCasts_S512x32_S1x512x32 _ rfl _) $$ HR; iintro HR
  iapply (ld_qrAt c _ _ 11 ![11, 0, 0]) $$ HR; iintro HR
  rw [wp_ret]; imodintro
  iapply Hk
  iexact HR

/-- Part 22 of the body. -/
theorem part22 (c : Dev nD)  (fR : FVec F S32x512x32 .bf16) (fS : FVec F S2x512x32 .bf16) {Q : (FVec F S512x32 .bf16) → sProp 𝕄} :
    (iprop(qrAt c (qrW m c) fR 11 ∗ krAt c (krW m c) fS 0) : sProp 𝕄)
      ⊢ iprop(((qrAt c (qrW m c) fR 18 ∗ krAt c (krW m c) fS 1) -∗ Q (k0_pay43 (k0_pay20 (xF m c) (wqrB m c))))
          -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 (k0_pay20 (xF m c) (wqrB m c)) (k0_pay21 (xF m c) (wkrB m c)) (k0_pay34 (k0_pay20 (xF m c) (wqrB m c)))) Q) := by
  simp only [k0_part22_eq_skeleton]; unfold k0_part22_skel
  simp only [Prog.lift, Prog.bind_op, Prog.bind_ret, Prog.pure_eq_ret, wp_deviceId]
  iintro ⟨HR, HK⟩ Hk
  iapply (step_qr c (qrW m c) _ 11 (by decide) 0 352 rfl rfl slices_S1024x512_o0_352_S512x32 shapeCasts_S512x32_S1x512x32 _ rfl _) $$ HR; iintro HR
  iapply (ld_qrAt c _ _ 12 ![12, 0, 0]) $$ HR; iintro HR
  iapply (step_qr c (qrW m c) _ 12 (by decide) 0 384 rfl rfl slices_S1024x512_o0_384_S512x32 shapeCasts_S512x32_S1x512x32 _ rfl _) $$ HR; iintro HR
  iapply (ld_qrAt c _ _ 13 ![13, 0, 0]) $$ HR; iintro HR
  iapply (step_qr c (qrW m c) _ 13 (by decide) 0 416 rfl rfl slices_S1024x512_o0_416_S512x32 shapeCasts_S512x32_S1x512x32 _ rfl _) $$ HR; iintro HR
  iapply (ld_qrAt c _ _ 14 ![14, 0, 0]) $$ HR; iintro HR
  iapply (step_qr c (qrW m c) _ 14 (by decide) 0 448 rfl rfl slices_S1024x512_o0_448_S512x32 shapeCasts_S512x32_S1x512x32 _ rfl _) $$ HR; iintro HR
  iapply (ld_qrAt c _ _ 15 ![15, 0, 0]) $$ HR; iintro HR
  iapply (step_qr c (qrW m c) _ 15 (by decide) 0 480 rfl rfl slices_S1024x512_o0_480_S512x32 shapeCasts_S512x32_S1x512x32 _ rfl _) $$ HR; iintro HR
  iapply (ld_krAt c _ _ 0 ![0, 0, 0]) $$ HK; iintro HK
  iapply (step_kr c (krW m c) _ 0 (by decide) 0 rfl slices_S1024x32_o0_0_S512x32 shapeCasts_S512x32_S1x512x32 _ rfl _) $$ HK; iintro HK
  iapply (ld_qrAt c _ _ 16 ![16, 0, 0]) $$ HR; iintro HR
  iapply (step_qr c (qrW m c) _ 16 (by decide) 512 0 rfl rfl slices_S1024x512_o512_0_S512x32 shapeCasts_S512x32_S1x512x32 _ rfl _) $$ HR; iintro HR
  iapply (ld_qrAt c _ _ 17 ![17, 0, 0]) $$ HR; iintro HR
  iapply (step_qr c (qrW m c) _ 17 (by decide) 512 32 rfl rfl slices_S1024x512_o512_32_S512x32 shapeCasts_S512x32_S1x512x32 _ rfl _) $$ HR; iintro HR
  rw [wp_ret]; imodintro
  iapply Hk
  isplitl [HR]; · iexact HR
  iexact HK

end Cert.MlaProof

end
-- ==== Proof.Parts5.lean ====
/-
# `Parts5`: parts 23, 24, 25, 26 of the body
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Part 23 of the body. -/
theorem part23 (c : Dev nD)  (fR : FVec F S32x512x32 .bf16) {Q : (FVec F S512x32 .bf16) → sProp 𝕄} :
    (iprop(qrAt c (qrW m c) fR 18) : sProp 𝕄)
      ⊢ iprop(((qrAt c (qrW m c) fR 25) -∗ Q (k0_pay51 (k0_pay20 (xF m c) (wqrB m c))))
          -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 (k0_pay20 (xF m c) (wqrB m c)) (k0_pay43 (k0_pay20 (xF m c) (wqrB m c)))) Q) := by
  simp only [k0_part23_eq_skeleton]; unfold k0_part23_skel
  simp only [Prog.lift, Prog.bind_op, Prog.bind_ret, Prog.pure_eq_ret, wp_deviceId]
  iintro HR Hk
  iapply (ld_qrAt c _ _ 18 ![18, 0, 0]) $$ HR; iintro HR
  iapply (step_qr c (qrW m c) _ 18 (by decide) 512 64 rfl rfl slices_S1024x512_o512_64_S512x32 shapeCasts_S512x32_S1x512x32 _ rfl _) $$ HR; iintro HR
  iapply (ld_qrAt c _ _ 19 ![19, 0, 0]) $$ HR; iintro HR
  iapply (step_qr c (qrW m c) _ 19 (by decide) 512 96 rfl rfl slices_S1024x512_o512_96_S512x32 shapeCasts_S512x32_S1x512x32 _ rfl _) $$ HR; iintro HR
  iapply (ld_qrAt c _ _ 20 ![20, 0, 0]) $$ HR; iintro HR
  iapply (step_qr c (qrW m c) _ 20 (by decide) 512 128 rfl rfl slices_S1024x512_o512_128_S512x32 shapeCasts_S512x32_S1x512x32 _ rfl _) $$ HR; iintro HR
  iapply (ld_qrAt c _ _ 21 ![21, 0, 0]) $$ HR; iintro HR
  iapply (step_qr c (qrW m c) _ 21 (by decide) 512 160 rfl rfl slices_S1024x512_o512_160_S512x32 shapeCasts_S512x32_S1x512x32 _ rfl _) $$ HR; iintro HR
  iapply (ld_qrAt c _ _ 22 ![22, 0, 0]) $$ HR; iintro HR
  iapply (step_qr c (qrW m c) _ 22 (by decide) 512 192 rfl rfl slices_S1024x512_o512_192_S512x32 shapeCasts_S512x32_S1x512x32 _ rfl _) $$ HR; iintro HR
  iapply (ld_qrAt c _ _ 23 ![23, 0, 0]) $$ HR; iintro HR
  iapply (step_qr c (qrW m c) _ 23 (by decide) 512 224 rfl rfl slices_S1024x512_o512_224_S512x32 shapeCasts_S512x32_S1x512x32 _ rfl _) $$ HR; iintro HR
  iapply (ld_qrAt c _ _ 24 ![24, 0, 0]) $$ HR; iintro HR
  iapply (step_qr c (qrW m c) _ 24 (by decide) 512 256 rfl rfl slices_S1024x512_o512_256_S512x32 shapeCasts_S512x32_S1x512x32 _ rfl _) $$ HR; iintro HR
  iapply (ld_qrAt c _ _ 25 ![25, 0, 0]) $$ HR; iintro HR
  rw [wp_ret]; imodintro
  iapply Hk
  iexact HR

/-- Part 24 of the body. -/
theorem part24 (c : Dev nD)  (fR : FVec F S32x512x32 .bf16) (fS : FVec F S2x512x32 .bf16) {Q : PUnit → sProp 𝕄} :
    (iprop(qrAt c (qrW m c) fR 25 ∗ krAt c (krW m c) fS 1) : sProp 𝕄)
      ⊢ iprop(((qrAt c (qrW m c) fR 32 ∗ krAt c (krW m c) fS 2) -∗ Q ⟨⟩)
          -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 (k0_pay20 (xF m c) (wqrB m c)) (k0_pay21 (xF m c) (wkrB m c)) (k0_pay51 (k0_pay20 (xF m c) (wqrB m c)))) Q) := by
  simp only [k0_part24_eq_skeleton]; unfold k0_part24_skel
  simp only [Prog.lift, Prog.bind_op, Prog.bind_ret, Prog.pure_eq_ret, wp_deviceId]
  iintro ⟨HR, HK⟩ Hk
  iapply (step_qr c (qrW m c) _ 25 (by decide) 512 288 rfl rfl slices_S1024x512_o512_288_S512x32 shapeCasts_S512x32_S1x512x32 _ rfl _) $$ HR; iintro HR
  iapply (ld_qrAt c _ _ 26 ![26, 0, 0]) $$ HR; iintro HR
  iapply (step_qr c (qrW m c) _ 26 (by decide) 512 320 rfl rfl slices_S1024x512_o512_320_S512x32 shapeCasts_S512x32_S1x512x32 _ rfl _) $$ HR; iintro HR
  iapply (ld_qrAt c _ _ 27 ![27, 0, 0]) $$ HR; iintro HR
  iapply (step_qr c (qrW m c) _ 27 (by decide) 512 352 rfl rfl slices_S1024x512_o512_352_S512x32 shapeCasts_S512x32_S1x512x32 _ rfl _) $$ HR; iintro HR
  iapply (ld_qrAt c _ _ 28 ![28, 0, 0]) $$ HR; iintro HR
  iapply (step_qr c (qrW m c) _ 28 (by decide) 512 384 rfl rfl slices_S1024x512_o512_384_S512x32 shapeCasts_S512x32_S1x512x32 _ rfl _) $$ HR; iintro HR
  iapply (ld_qrAt c _ _ 29 ![29, 0, 0]) $$ HR; iintro HR
  iapply (step_qr c (qrW m c) _ 29 (by decide) 512 416 rfl rfl slices_S1024x512_o512_416_S512x32 shapeCasts_S512x32_S1x512x32 _ rfl _) $$ HR; iintro HR
  iapply (ld_qrAt c _ _ 30 ![30, 0, 0]) $$ HR; iintro HR
  iapply (step_qr c (qrW m c) _ 30 (by decide) 512 448 rfl rfl slices_S1024x512_o512_448_S512x32 shapeCasts_S512x32_S1x512x32 _ rfl _) $$ HR; iintro HR
  iapply (ld_qrAt c _ _ 31 ![31, 0, 0]) $$ HR; iintro HR
  iapply (step_qr c (qrW m c) _ 31 (by decide) 512 480 rfl rfl slices_S1024x512_o512_480_S512x32 shapeCasts_S512x32_S1x512x32 _ rfl _) $$ HR; iintro HR
  iapply (ld_krAt c _ _ 1 ![1, 0, 0]) $$ HK; iintro HK
  iapply (step_kr c (krW m c) _ 1 (by decide) 512 rfl slices_S1024x32_o512_0_S512x32 shapeCasts_S512x32_S1x512x32 _ rfl _) $$ HK; iintro HK
  rw [wp_ret]; imodintro
  iapply Hk
  isplitl [HR]; · iexact HR
  iexact HK

/-- Part 25 of the body. -/
theorem part25 (c : Dev nD) (w1 w2 w3 : BitVec 32) {Q : (Σ' (v722 : BitVec 32), BitVec 32) → sProp 𝕄} :
    (iprop(St m K c 18 12 0) : sProp 𝕄)
      ⊢ iprop((∀ w : BitVec 32, ∀ w' : BitVec 32, (St m K c 18 14 0) -∗ Q ⟨w, w'⟩)
          -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3) Q) := by
  simp only [k0_part25_eq_skeleton]; unfold k0_part25_skel
  simp only [Prog.lift, Prog.bind_op, Prog.bind_ret, Prog.pure_eq_ret, wp_deviceId]
  iintro HS Hk
  iapply (recv_C m K c 12 18 0 (by decide) rfl (by decide) (by decide)) $$ HS; iintro HS
  iapply (recv_K m K c 13 18 0 (by decide) rfl (by decide) (by decide)) $$ HS; iintro HS
  rw [wp_ret]; imodintro
  iapply Hk
  iexact HS

/-- Part 26 of the body. -/
theorem part26 (c : Dev nD) (w1 w2 w3 : BitVec 32) (w w' : BitVec 32) {Q : PUnit → sProp 𝕄} :
    (iprop(St m K c 18 14 0) : sProp 𝕄)
      ⊢ iprop(((St m K c 18 16 0) -∗ Q ⟨⟩)
          -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3 w w') Q) := by
  simp only [k0_part26_eq_skeleton]; unfold k0_part26_skel
  simp only [Prog.lift, Prog.bind_op, Prog.bind_ret, Prog.pure_eq_ret, wp_deviceId]
  iintro HS Hk
  iapply (recv_V m K c 14 18 0 (by decide) rfl (by decide) (by decide)) $$ HS; iintro HS
  iapply (recv_C m K c 15 18 0 (by decide) rfl (by decide) (by decide)) $$ HS; iintro HS
  rw [wp_ret]; imodintro
  iapply Hk
  iexact HS

end Cert.MlaProof

end
-- ==== Proof.Parts6.lean ====
/-
# `Parts6`: parts 27, 28, 29 of the body
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Part 27 of the body. -/
theorem part27 (c : Dev nD) (w1 w2 w3 : BitVec 32) {Q : (Σ' (v778 : FVec F S1024x2048 .bf16), FVec F S1024x2048 .bf16) → sProp 𝕄} :
    (iprop(St m K c 18 16 0 ∗ ((c : Thread nD τ).loc cc0_scratch5 ↦{fullShare} kb2 m c)) : sProp 𝕄)
      ⊢ iprop(((St m K c 18 18 0 ∗ ((c : Thread nD τ).loc cc0_scratch5 ↦{fullShare} kb2 m c)) -∗ Q ⟨(k0_pay60 (ownC m (back 3 c)) (ownV m (back 3 c))), (k0_pay61 (ownC m (back 3 c)) (ownK m (back 3 c)) (kb2 m c))⟩)
          -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 w1 w2 w3) Q) := by
  simp only [k0_part27_eq_skeleton]; unfold k0_part27_skel
  simp only [Prog.lift, Prog.bind_op, Prog.bind_ret, Prog.pure_eq_ret, wp_deviceId]
  iintro ⟨HS, HKB⟩ Hk
  iapply (recv_K m K c 16 18 0 (by decide) rfl (by decide) (by decide)) $$ HS; iintro HS
  iapply (recv_V m K c 17 18 0 (by decide) rfl (by decide) (by decide)) $$ HS; iintro HS
  iapply (load_C m K c 3 18 18 0 (by decide) (by decide) _) $$ HS; iintro HS
  iapply (load_K m K c 3 18 18 0 (by decide) (by decide) _) $$ HS; iintro HS
  iapply (load_C m K c 3 18 18 0 (by decide) (by decide) _) $$ HS; iintro HS
  iapply (load_V m K c 3 18 18 0 (by decide) (by decide) _) $$ HS; iintro HS
  iapply (ld_Kb c _) $$ HKB; iintro HKB
  rw [wp_ret]; imodintro
  iapply Hk
  isplitl [HS]; · iexact HS
  iexact HKB

/-- Part 28 of the body. -/
theorem part28 (c : Dev nD)  {Q : PUnit → sProp 𝕄} :
    (iprop(St m K c 18 18 0 ∗ ((c : Thread nD τ).loc cc0_scratch5 ↦{fullShare} kb2 m c) ∗ ((c : Thread nD τ).loc cc0_scratch6 ↦{fullShare} vb2 m c)) : sProp 𝕄)
      ⊢ iprop(((St m K c 18 18 2 ∗ ((c : Thread nD τ).loc cc0_scratch5 ↦{fullShare} kb3 m c) ∗ ((c : Thread nD τ).loc cc0_scratch6 ↦{fullShare} vb3 m c)) -∗ Q ⟨⟩)
          -∗ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 (k0_pay60 (ownC m (back 3 c)) (ownV m (back 3 c))) (k0_pay61 (ownC m (back 3 c)) (ownK m (back 3 c)) (kb2 m c))) Q) := by
  simp only [k0_part28_eq_skeleton]; unfold k0_part28_skel
  simp only [Prog.lift, Prog.bind_op, Prog.bind_ret, Prog.pure_eq_ret, wp_deviceId]
  iintro ⟨HS, HKB, HVB⟩ Hk
  iapply (ld_Kb c _) $$ HKB; iintro HKB
  iapply (st_K c _ _ (kb3 m c) rfl) $$ HKB; iintro HKB
  iapply (ld_Vb c _) $$ HVB; iintro HVB
  iapply (ld_Vb c _) $$ HVB; iintro HVB
  iapply (st_V c _ _ (vb3 m c) rfl) $$ HVB; iintro HVB
  iapply (done_C m K c 0 18 18 (by decide) rfl (by decide)) $$ HS; iintro HS
  iapply (done_K m K c 1 18 18 (by decide) rfl (by decide)) $$ HS; iintro HS
  rw [wp_ret]; imodintro
  iapply Hk
  isplitl [HS]; · iexact HS
  isplitl [HKB]; · iexact HKB
  iexact HVB

/-- Part 29 of the body. -/
theorem part29 (c : Dev nD)  {Q : PUnit → sProp 𝕄} :
    (iprop(St m K c 18 18 2) : sProp 𝕄)
      ⊢ iprop(((St m K c 18 18 6) -∗ Q ⟨⟩)
          -∗ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 ) Q) := by
  simp only [k0_part29_eq_skeleton]; unfold k0_part29_skel
  simp only [Prog.lift, Prog.bind_op, Prog.bind_ret, Prog.pure_eq_ret, wp_deviceId]
  iintro HS Hk
  iapply (done_V m K c 2 18 18 (by decide) rfl (by decide)) $$ HS; iintro HS
  iapply (done_C m K c 3 18 18 (by decide) rfl (by decide)) $$ HS; iintro HS
  iapply (done_K m K c 4 18 18 (by decide) rfl (by decide)) $$ HS; iintro HS
  iapply (done_V m K c 5 18 18 (by decide) rfl (by decide)) $$ HS; iintro HS
  rw [wp_ret]; imodintro
  iapply Hk
  iexact HS

end Cert.MlaProof

end
-- ==== Proof.Parts7.lean ====
/-
# `Parts7`: parts 30, 31, 32 of the body
-/
module

public import proofs.«01_k».proof.Proof.Puts2

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-- Part 30 of the body. -/
theorem part30 (c : Dev nD)  {Q : PUnit → sProp 𝕄} :
    (iprop(St m K c 18 18 6) : sProp 𝕄)
      ⊢ iprop(((St m K c 18 18 10) -∗ Q ⟨⟩)
          -∗ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 ) Q) := by
  simp only [k0_part30_eq_skeleton]; unfold k0_part30_skel
  simp only [Prog.lift, Prog.bind_op, Prog.bind_ret, Prog.pure_eq_ret, wp_deviceId]
  iintro HS Hk
  iapply (done_C m K c 6 18 18 (by decide) rfl (by decide)) $$ HS; iintro HS
  iapply (done_K m K c 7 18 18 (by decide) rfl (by decide)) $$ HS; iintro HS
  iapply (done_V m K c 8 18 18 (by decide) rfl (by decide)) $$ HS; iintro HS
  iapply (done_C m K c 9 18 18 (by decide) rfl (by decide)) $$ HS; iintro HS
  rw [wp_ret]; imodintro
  iapply Hk
  iexact HS

/-- Part 31 of the body. -/
theorem part31 (c : Dev nD)  {Q : PUnit → sProp 𝕄} :
    (iprop(St m K c 18 18 10) : sProp 𝕄)
      ⊢ iprop(((St m K c 18 18 14) -∗ Q ⟨⟩)
          -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 ) Q) := by
  simp only [k0_part31_eq_skeleton]; unfold k0_part31_skel
  simp only [Prog.lift, Prog.bind_op, Prog.bind_ret, Prog.pure_eq_ret, wp_deviceId]
  iintro HS Hk
  iapply (done_K m K c 10 18 18 (by decide) rfl (by decide)) $$ HS; iintro HS
  iapply (done_V m K c 11 18 18 (by decide) rfl (by decide)) $$ HS; iintro HS
  iapply (done_C m K c 12 18 18 (by decide) rfl (by decide)) $$ HS; iintro HS
  iapply (done_K m K c 13 18 18 (by decide) rfl (by decide)) $$ HS; iintro HS
  rw [wp_ret]; imodintro
  iapply Hk
  iexact HS

/-- Part 32 of the body. -/
theorem part32 (c : Dev nD)  {Q : PUnit → sProp 𝕄} :
    (iprop(St m K c 18 18 14) : sProp 𝕄)
      ⊢ iprop(((St m K c 18 18 17) -∗ Q ⟨⟩)
          -∗ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 ) Q) := by
  simp only [k0_part32_eq_skeleton]; unfold k0_part32_skel
  simp only [Prog.lift, Prog.bind_op, Prog.bind_ret, Prog.pure_eq_ret, wp_deviceId]
  iintro HS Hk
  iapply (done_V m K c 14 18 18 (by decide) rfl (by decide)) $$ HS; iintro HS
  iapply (done_C m K c 15 18 18 (by decide) rfl (by decide)) $$ HS; iintro HS
  iapply (done_K m K c 16 18 18 (by decide) rfl (by decide)) $$ HS; iintro HS
  rw [wp_ret]; imodintro
  iapply Hk
  iexact HS

end Cert.MlaProof

end
-- ==== Proof.Body.lean ====
/-
# `Body`: the body, from what a device starts with to its result

Its parts one after another, the loop over the heads, and the output projection.
-/
module

public import proofs.«01_k».proof.Proof.Start
public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD → ℕ → ℕ)

/-! ## The buffers filled slice by slice: at first, and at last -/

theorem q_first (c : Dev nD) (f : FVec F S1024x2048 .bf16) : iprop(((c : Thread nD τ).loc cc0_scratch4 ↦{fullShare} f)) = (qAt m c f 0 : sProp 𝕄) := by
  unfold qAt
  rw [part_none]
  exact fun e h => by omega
theorem q_last (c : Dev nD) (f : FVec F S1024x2048 .bf16) : (qAt m c f 4 : sProp 𝕄) = iprop(((c : Thread nD τ).loc cc0_scratch4 ↦{fullShare} gQ m c)) := by
  unfold qAt
  rw [part_all]
  exact fun e => (e 1).isLt
theorem qr_first (c : Dev nD) (w : FVec F S1024x512 .bf16) (f : FVec F S32x512x32 .bf16) : iprop(((c : Thread nD τ).loc cc0_scratch7 ↦{fullShare} f)) = (qrAt c w f 0 : sProp 𝕄) := by
  unfold qrAt
  rw [part_none]
  exact fun e h => by omega
theorem qr_last (c : Dev nD) (w : FVec F S1024x512 .bf16) (f : FVec F S32x512x32 .bf16) : (qrAt c w f 32 : sProp 𝕄) = iprop(((c : Thread nD τ).loc cc0_scratch7 ↦{fullShare} qrOf w)) := by
  unfold qrAt
  rw [part_all]
  exact fun e => (e 0).isLt
theorem kr_first (c : Dev nD) (w : FVec F S1024x32 .bf16) (f : FVec F S2x512x32 .bf16) : iprop(((c : Thread nD τ).loc cc0_scratch8 ↦{fullShare} f)) = (krAt c w f 0 : sProp 𝕄) := by
  unfold krAt
  rw [part_none]
  exact fun e h => by omega
theorem kr_last (c : Dev nD) (w : FVec F S1024x32 .bf16) (f : FVec F S2x512x32 .bf16) : (krAt c w f 2 : sProp 𝕄) = iprop(((c : Thread nD τ).loc cc0_scratch8 ↦{fullShare} krOf w)) := by
  unfold krAt
  rw [part_all]
  exact fun e => (e 0).isLt
theorem o_first (c : Dev nD) (f : FVec F S1024x2048 .bf16) : iprop(((c : Thread nD τ).loc cc0_scratch3 ↦{fullShare} f)) = (oAt m c f 0 : sProp 𝕄) := by
  unfold oAt
  rw [part_none]
  exact fun e h => by omega
theorem o_last (c : Dev nD) (f : FVec F S1024x2048 .bf16) : (oAt m c f k0_t1_loop.trips : sProp 𝕄) = iprop(((c : Thread nD τ).loc cc0_scratch3 ↦{fullShare} gO m c)) := by
  unfold oAt
  rw [part_all]
  exact fun e => by
    have h0 : (e 0).val < 1024 := (e 0).isLt
    have h1 : (e 1).val < 2048 := (e 1).isLt
    rw [trips_eq]
    omega

/-! ## The body -/

/-- What a device's ring starts from. -/
def startK (c : Dev nD) : sProp 𝕄 :=
  iprop(Ctx m K ∗ dutyTok ER (barCell (prv c)) 0 true ∗ dutyTok ER (barCell (nxt c)) 0 false
    ∗ cred (tallyAt (barCell c) () 2) ∗ atPos ER (barCell c) 0 ∅ 0 ∗ Lin c)

/-- The staged inputs, unchanged by the body. -/
def Ins (c : Dev nD) : sProp 𝕄 := iprop(((c : Thread nD τ).loc cc0_stg0_0 ↦{fullShare} xB m c) ∗ ((c : Thread nD τ).loc cc0_stg1_0 ↦{fullShare} dB m c) ∗ ((c : Thread nD τ).loc cc0_stg2_0 ↦{fullShare} ukB m c) ∗ ((c : Thread nD τ).loc cc0_stg3_0 ↦{fullShare} uvB m c) ∗ ((c : Thread nD τ).loc cc0_stg4_0 ↦{fullShare} wqB m c) ∗ ((c : Thread nD τ).loc cc0_stg5_0 ↦{fullShare} wqrB m c) ∗ ((c : Thread nD τ).loc cc0_stg6_0 ↦{fullShare} wkrB m c) ∗ ((c : Thread nD τ).loc cc0_stg7_0 ↦{fullShare} woB m c))

/-- The buffers the body leaves filled. -/
def Outs (c : Dev nD) : sProp 𝕄 :=
  iprop(((c : Thread nD τ).loc cc0_stg8_0 ↦{fullShare} outF m c) ∗ ((c : Thread nD τ).loc cc0_scratch3 ↦{fullShare} gO m c) ∗ ((c : Thread nD τ).loc cc0_scratch4 ↦{fullShare} gQ m c) ∗ ((c : Thread nD τ).loc cc0_scratch5 ↦{fullShare} kb3 m c)
    ∗ ((c : Thread nD τ).loc cc0_scratch6 ↦{fullShare} vb3 m c) ∗ ((c : Thread nD τ).loc cc0_scratch7 ↦{fullShare} qrOf (qrW m c)) ∗ ((c : Thread nD τ).loc cc0_scratch8 ↦{fullShare} krOf (krW m c)))

set_option maxHeartbeats 400000 in
theorem run_body (c : Dev nD) (fC : FVec F S4x1024x128 .bf16) (fK fV : FVec F S4x128x2048 .bf16) (fO fQ fKb fVb : FVec F S1024x2048 .bf16)
    (fR : FVec F S32x512x32 .bf16) (fS : FVec F S2x512x32 .bf16) (fout : FVec F S2x512x2048 .bf16) {Q : PUnit → sProp 𝕄} :
    (iprop(startK m K c ∗ (∃ W, owes (c : Thread nD τ) (O₀ c) W) ∗ Ins m c ∗ ((c : Thread nD τ).loc cc0_stg8_0 ↦{fullShare} fout)
        ∗ ((c : Thread nD τ).loc cc0_scratch0 ↦{fullShare} fC) ∗ ((c : Thread nD τ).loc cc0_scratch1 ↦{fullShare} fK) ∗ ((c : Thread nD τ).loc cc0_scratch2 ↦{fullShare} fV)
        ∗ ((c : Thread nD τ).loc cc0_scratch3 ↦{fullShare} fO) ∗ ((c : Thread nD τ).loc cc0_scratch4 ↦{fullShare} fQ) ∗ ((c : Thread nD τ).loc cc0_scratch5 ↦{fullShare} fKb) ∗ ((c : Thread nD τ).loc cc0_scratch6 ↦{fullShare} fVb)
        ∗ ((c : Thread nD τ).loc cc0_scratch7 ↦{fullShare} fR) ∗ ((c : Thread nD τ).loc cc0_scratch8 ↦{fullShare} fS)) : sProp 𝕄)
      ⊢ iprop(((Done m c ∗ Ins m c ∗ Outs m c) -∗ Q ⟨⟩)
          -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) Q) := by
  simp only [cc0_body_eq_skeleton]; unfold cc0_body_skel
  rw [q_first m c fQ, qr_first c (qrW m c) fR, kr_first c (krW m c) fS, o_first m c fO]
  unfold startK Ins
  iintro ⟨⟨#HX, Ht1, Ht2, HcB, HatB, HLin⟩, HO, ⟨X0, X1, X2, X3, X4, X5, X6, X7⟩, X8, HC, HK, HV, HOb, HQ, HKb, HVb, HR, HSr⟩ Hk
  simp only [wp_bind]
  iapply (part2 m c) $$ X0; iintro %v2 %v8 %v19 %v31 X0
  try simp only [wp_bind]
  iapply (part3 m K c v2 v8 v19 v31 fC fK fV) $$ [HO Ht1 X1 X2 X3 HC HK HV]
  · isplitr; · iexact HX
    isplitl [HO]; · iexact HO
    isplitl [Ht1]; · iexact Ht1
    isplitl [X1]; · iexact X1
    isplitl [X2]; · iexact X2
    isplitl [X3]; · iexact X3
    isplitl [HC]; · iexact HC
    isplitl [HK]; · iexact HK
    iexact HV
  iintro ⟨HO, Hl, Hr, X1, X2, X3⟩
  try simp only [wp_bind]
  iapply (part4 m K c v2 v8 v19) $$ [HO Hl Hr Ht2 HcB HatB HLin]
  · isplitr; · iexact HX
    isplitl [HO]; · iexact HO
    isplitl [Hl]; · iexact Hl
    isplitl [Hr]; · iexact Hr
    isplitl [Ht2]; · iexact Ht2
    isplitl [HcB]; · iexact HcB
    isplitl [HatB]; · iexact HatB
    iexact HLin
  iintro ⟨HS, HatB⟩
  try simp only [wp_bind]
  iapply (part5 m K c v2 v8 v19) $$ HS; iintro %u5 HS
  try simp only [wp_bind]
  iapply (part6 m K c v2 v8 v19 u5) $$ HS; iintro HS
  try simp only [wp_bind]
  iapply (part7 m K c v2 v8 v19 fKb fVb fQ) $$ [HS HKb HVb X4 HQ]
  · isplitl [HS]; · iexact HS
    isplitl [HKb]; · iexact HKb
    isplitl [HVb]; · iexact HVb
    isplitl [X4]; · iexact X4
    iexact HQ
  iintro ⟨HS, HKb, HVb, X4, HQ⟩
  try simp only [wp_bind]
  iapply (part8 m K c v2 v8 v19) $$ HS; iintro %u8 HS
  try simp only [wp_bind]
  iapply (part9 m K c v2 v8 v19 u8) $$ HS; iintro HS
  try simp only [wp_bind]
  iapply (part10 m K c v2 v8 v19 fQ) $$ [HS X4 HQ]
  · isplitl [HS]; · iexact HS
    isplitl [X4]; · iexact X4
    iexact HQ
  iintro %u10 %t10 ⟨HS, X4, HQ⟩
  try simp only [wp_bind]
  iapply (part11 m K c v2 v8 v19 u10 t10) $$ HS; iintro HS
  try simp only [wp_bind]
  iapply (part12 m K c v2 v8 v19) $$ HS; iintro HS
  try simp only [wp_bind]
  iapply (part13 m K c fQ) $$ [HS HKb HVb X4 HQ]
  · isplitl [HS]; · iexact HS
    isplitl [HKb]; · iexact HKb
    isplitl [HVb]; · iexact HVb
    isplitl [X4]; · iexact X4
    iexact HQ
  iintro ⟨HS, HKb, HVb, X4, HQ⟩
  try simp only [wp_bind]
  iapply (part14 m K c v2 v8 v19 fQ) $$ [HS HQ]
  · isplitl [HS]; · iexact HS
    iexact HQ
  iintro %u14 %t14 ⟨HS, HQ⟩
  try simp only [wp_bind]
  iapply (part15 m K c v2 v8 v19 u14 t14) $$ HS; iintro HS
  try simp only [wp_bind]
  iapply (part16 m K c v2 v8 v19 fQ) $$ [HS X4 HQ]
  · isplitl [HS]; · iexact HS
    isplitl [X4]; · iexact X4
    iexact HQ
  iintro %u16 %t16 ⟨HS, X4, HQ⟩
  try simp only [wp_bind]
  iapply (part17 m K c v2 v8 v19 u16 t16) $$ HS; iintro HS
  try simp only [wp_bind]
  iapply (part18 m K c v2 v8 v19) $$ HS; iintro HS
  try simp only [wp_bind]
  iapply (part19 m K c v2 v8 v19) $$ [HS HKb]
  · isplitl [HS]; · iexact HS
    iexact HKb
  iintro ⟨HS, HKb⟩
  try simp only [wp_bind]
  iapply (part20 m c fR) $$ [HKb HVb X5 X6 HR]
  · isplitl [HKb]; · iexact HKb
    isplitl [HVb]; · iexact HVb
    isplitl [X5]; · iexact X5
    isplitl [X6]; · iexact X6
    iexact HR
  iintro ⟨HKb, HVb, X5, X6, HR⟩
  try simp only [wp_bind]
  iapply (part21 m c fR) $$ HR; iintro HR
  try simp only [wp_bind]
  iapply (part22 m c fR fS) $$ [HR HSr]
  · isplitl [HR]; · iexact HR
    iexact HSr
  iintro ⟨HR, HSr⟩
  try simp only [wp_bind]
  iapply (part23 m c fR) $$ HR; iintro HR
  try simp only [wp_bind]
  iapply (part24 m c fR fS) $$ [HR HSr]
  · isplitl [HR]; · iexact HR
    iexact HSr
  iintro ⟨HR, HSr⟩
  try simp only [wp_bind]
  iapply (part25 m K c v2 v8 v19) $$ HS; iintro %u25 %t25 HS
  try simp only [wp_bind]
  iapply (part26 m K c v2 v8 v19 u25 t25) $$ HS; iintro HS
  try simp only [wp_bind]
  iapply (part27 m K c v2 v8 v19) $$ [HS HKb]
  · isplitl [HS]; · iexact HS
    iexact HKb
  iintro ⟨HS, HKb⟩
  try simp only [wp_bind]
  iapply (part28 m K c) $$ [HS HKb HVb]
  · isplitl [HS]; · iexact HS
    isplitl [HKb]; · iexact HKb
    iexact HVb
  iintro ⟨HS, HKb, HVb⟩
  try simp only [wp_bind]
  iapply (part29 m K c) $$ HS; iintro HS
  try simp only [wp_bind]
  iapply (part30 m K c) $$ HS; iintro HS
  try simp only [wp_bind]
  iapply (part31 m K c) $$ HS; iintro HS
  try simp only [wp_bind]
  iapply (part32 m K c) $$ HS; iintro HS
  simp only [Prog.lift, Prog.bind_op, Prog.bind_ret, Prog.pure_eq_ret, wp_deviceId, wp_bind]
  iapply (done_V m K c 17 18 18 (by decide) rfl (by decide)) $$ HS; iintro HS
  imod (leave m K c) $$ [HS HatB] with HD
  · isplitl [HS] <;> iassumption
  ihave HQ := (Entails.of_eq (q_last m c fQ)) $$ HQ
  ihave HR := (Entails.of_eq (qr_last c (qrW m c) fR)) $$ HR
  ihave HSr := (Entails.of_eq (kr_last c (krW m c) fS)) $$ HSr
  rw [wp_ret]; imodintro
  unfold Scf.Loop.for
  iapply (Scf.wp_for frame (wpE (defs₀ (F := F)) 𝒱₀ (c : Thread nD τ) none) Set.univ _ _ _ _ _ _ (fun t _ => loopI m c fO t) (fun t acc => trip m c fO t acc))
  isplitl [HOb HQ HKb HVb HR HSr]
  · unfold loopI
    isplitl [HOb]; · iexact HOb
    isplitl [HQ]; · iexact HQ
    isplitl [HKb]; · iexact HKb
    isplitl [HVb]; · iexact HVb
    isplitl [HR] <;> iassumption
  iintro %acc HI
  unfold loopI
  icases HI with ⟨HOb, HQ, HKb, HVb, HR, HSr⟩
  ihave HOb := (Entails.of_eq (o_last m c fO)) $$ HOb
  iapply (ld_Ob c _ _) $$ HOb; iintro HOb
  rw [wp_ret]; imodintro
  iapply (ld_wo c _) $$ X7; iintro X7
  rw [wp_ret]; imodintro
  iapply (ld_out c _ _) $$ X8; iintro X8
  rw [wp_ret]; imodintro
  iapply (st_out c _ _ _) $$ X8; iintro X8
  rw [wp_ret]; imodintro
  rw [wp_ret]; imodintro
  iapply Hk
  isplitl [HD]; · iexact HD
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6] <;> iassumption
  unfold Outs
  isplitl [X8]; · iexact X8
  isplitl [HOb]; · iexact HOb
  isplitl [HQ]; · iexact HQ
  isplitl [HKb]; · iexact HKb
  isplitl [HVb]; · iexact HVb
  isplitl [HR] <;> iassumption

end Cert.MlaProof

end
-- ==== Proof.Obl.lean ====
/-
# `Obl`: the body as the launch asks for it

What a device holds before its one grid point and after it, and the body between the two.
-/
module

public import proofs.«01_k».proof.Proof.Body
public import proofs.«01_k».proof.Proof.Gen.KernelIdeal.Frame

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Stretches of numbers, moved and cut -/

omit [FloatOps F] in
theorem sep_shift (k n : ℕ) (Φ : ℕ → sProp 𝕄) : bigSep (Finset.Ico k (n + k)) Φ = bigSep (Finset.Ico 0 n) (fun i => Φ (k + i)) := by
  have h : Finset.Ico k (n + k) = (Finset.Ico 0 n).map (addLeftEmbedding k) := Finset.ext fun x => by
    rw [Finset.mem_map, Finset.mem_Ico]
    constructor
    · intro h
      exact ⟨x - k, Finset.mem_Ico.mpr ⟨Nat.zero_le _, by omega⟩, by show k + (x - k) = x; omega⟩
    · rintro ⟨y, hy, rfl⟩
      rw [Finset.mem_Ico] at hy
      exact ⟨Nat.le_add_right _ _, by show k + y < n + k; omega⟩
  rw [h, bigSep_map]
  rfl

omit [FloatOps F] in
theorem sep_fin (n : ℕ) (Φ : ℕ → sProp 𝕄) : bigSep Finset.univ (fun k : Fin n => Φ k.val) = bigSep (Finset.Ico 0 n) Φ := by
  have h : Finset.Ico 0 n = (Finset.univ : Finset (Fin n)).map Fin.valEmbedding := Finset.ext fun x => by
    rw [Finset.mem_map, Finset.mem_Ico]
    constructor
    · intro h
      exact ⟨⟨x, h.2⟩, Finset.mem_univ _, rfl⟩
    · rintro ⟨y, -, rfl⟩
      exact ⟨Nat.zero_le _, y.isLt⟩
  rw [h, bigSep_map]
  rfl

omit [FloatOps F] in
/-- Thirty-six, as two eighteens. -/
theorem cut36 (k : ℕ) (Φ : ℕ → sProp 𝕄) :
    bigSep (Finset.Ico k (36 + k)) Φ = iprop(bigSep (Finset.Ico 0 18) (fun i => Φ (k + i)) ∗ bigSep (Finset.Ico 0 18) (fun i => Φ (k + 18 + i))) := by
  rw [show Finset.Ico k (36 + k) = Finset.Ico k (18 + k) ∪ Finset.Ico (k + 18) (18 + (k + 18)) from by
      rw [show 36 + k = 18 + (k + 18) by omega, show 18 + k = k + 18 by omega]
      exact (Finset.Ico_union_Ico_eq_Ico (by omega) (by omega)).symm,
    bigSep_union (by rw [show 18 + k = k + 18 by omega]; exact Finset.Ico_disjoint_Ico_consecutive k (k + 18) _), sep_shift k 18, sep_shift (k + 18) 18]
  rfl

/-- A family over a device's cells: its barrier's, its send semaphores', its receive semaphores'. -/
theorem sep_cells (Φ : ℕ → sProp 𝕄) :
    bigSep Finset.univ (fun k : Fin 37 => Φ k.val)
      = iprop(Φ 0 ∗ bigSep (Finset.Ico 0 18) (fun i => Φ (1 + i)) ∗ bigSep (Finset.Ico 0 18) (fun i => Φ (19 + i))) := by
  rw [sep_fin, sep_head (by decide : 0 < 37), cut36 1]
theorem sep_own (Φ : ℕ → sProp 𝕄) :
    bigSep Finset.univ (fun k : Fin 36 => Φ (1 + k.val))
      = iprop(bigSep (Finset.Ico 0 18) (fun i => Φ (1 + i)) ∗ bigSep (Finset.Ico 0 18) (fun i => Φ (19 + i))) := by
  rw [sep_fin 36 (fun k => Φ (1 + k)), ← sep_shift, cut36 1]

/-! ## The kernel's own semaphores -/

/-- The eighteen send semaphores, then the eighteen receive semaphores. -/
abbrev osem : Fin 36 → SemLoc sig := fun k => csem (1 + k.val)

theorem sep_same {s : Finset ℕ} {Φ Ψ : ℕ → sProp 𝕄} (h : ∀ i ∈ s, Φ i = Ψ i) : bigSep s Φ = bigSep s Ψ := bigSep_congr h
theorem sends_eq (c : Dev nD) (Φ : GSem nD τ sig → sProp 𝕄) : bigSep (Finset.Ico 0 18) (fun i => Φ (kcell c (1 + i))) = bigSep (Finset.Ico 0 18) (fun i => Φ (sendCell c i)) :=
  sep_same fun i hi => by rw [kcell_send c i (Finset.mem_Ico.mp hi).2]
theorem recvs_eq (c : Dev nD) (Φ : GSem nD τ sig → sProp 𝕄) : bigSep (Finset.Ico 0 18) (fun i => Φ (kcell c (19 + i))) = bigSep (Finset.Ico 0 18) (fun i => Φ (recvCell c i)) :=
  sep_same fun i hi => by rw [kcell_recv c i (Finset.mem_Ico.mp hi).2]

theorem ownSems0_eq (c : Dev nD) : (Pipeline.ownSems0 (Ix := Unit) (Name := ℕ) (U := UU) (Lvl := ℕ) (Val := Elt F) (τ := τ) osem c : sProp 𝕄)
    = iprop(bigSep (Finset.Ico 0 18) (fun i => semVal (sendCell c i) 0) ∗ bigSep (Finset.Ico 0 18) (fun i => semVal (recvCell c i) 0)) := by
  rw [← sends_eq c (fun g => semVal g 0), ← recvs_eq c (fun g => semVal g 0)]
  exact sep_own (fun k => semVal (kcell c k) 0)
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Before and after the point -/

/-- What a device holds of the ring as the body begins, besides what it may look up: its places, and the duties it performs. -/
def linear (c : Dev nD) : sProp 𝕄 :=
  iprop(atPos ER (barCell c) 0 ∅ 0 ∗ bigSep (Finset.Ico 0 18) (fun i => atPos ER (sendCell c i) 0 ∅ 0) ∗ bigSep (Finset.Ico 0 18) (fun i => atPos ER (recvCell c i) 0 ∅ 0)
    ∗ dutyTok ER (barCell (prv c)) 0 true ∗ dutyTok ER (barCell (nxt c)) 0 false
    ∗ bigSep (Finset.Ico 0 18) (fun i => dutyTok ER (sendCell c i) 0 false) ∗ bigSep (Finset.Ico 0 18) (fun i => dutyTok ER (recvCell (nxt c) i) 0 false))

def start (c : Dev nD) : sProp 𝕄 :=
  iprop((∃ K, records m K ∗ linear c) ∗ cred (tallyAt (barCell c) () 2) ∗ bigSep (Finset.Ico 0 18) (fun i => cred (tallyAt (recvCell c i) () (nOf i)))
    ∗ levAts L lv)

theorem start_open (c : Dev nD) : start m c ⊢ iprop(∃ K, startK m K c) := by
  unfold start linear startK Lin Ctx
  iintro ⟨⟨%K, #HR, HaB, HaS, HaV, Ht1, Ht2, HtS, HtV⟩, HcB, HcV, #HL⟩
  iexists K
  isplitr
  · isplitl; · iexact HR
    iexact HL
  isplitl [Ht1]; · iexact Ht1
  isplitl [Ht2]; · iexact Ht2
  isplitl [HcB]; · iexact HcB
  isplitl [HaB]; · iexact HaB
  isplitl [HtS]; · iexact HtS
  isplitl [HtV]; · iexact HtV
  isplitl [HcV HaV]
  · ihave H1 := (Entails.of_eq (sep_both _ _ _).symm) $$ [HcV HaV]
    · isplitl [HcV] <;> iassumption
    iapply (sep_each (Ψ := recvRes c) fun i _ => by unfold recvRes; exact BI.Entails.refl _) $$ H1
  iexact HaS

def Φ₀ (c : Dev nD) : sProp 𝕄 := iprop(start m c ∗ Pipeline.scopedRest (Ix := Unit) (Name := ℕ) (U := UU) (Lvl := ℕ) (Val := Elt F) cfg0.spec c)
def Φ₁ (c : Dev nD) : sProp 𝕄 :=
  iprop(unscopedSems0 c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => dB m c
    | ⟨2, _⟩ => ukB m c
    | ⟨3, _⟩ => uvB m c
    | ⟨4, _⟩ => wqB m c
    | ⟨5, _⟩ => wqrB m c
    | ⟨6, _⟩ => wkrB m c
    | ⟨7, _⟩ => woB m c
    | ⟨8, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem blk_read_0 (f : main_arg0.ty.Contents (Elt F)) : ((cfg0.win 0).blk t0_0).view.read (Elt F) f = f := Memref.read_access_unit_zero (Elt F) main_arg0 (by decide) _ f
theorem before_0 (c : Dev nD) (d) : (dats m ρ 0 c).before (0 : Fin 9) t0_0 d = xB m c := by
  unfold Dat.before
  rw [if_pos (fetch0_0 t0_0)]
  exact blk_read_0 (xB m c)
omit [FloatOps F] in
theorem blk_read_1 (f : main_arg1.ty.Contents (Elt F)) : ((cfg0.win 1).blk t0_0).view.read (Elt F) f = f := Memref.read_access_unit_zero (Elt F) main_arg1 (by decide) _ f
theorem before_1 (c : Dev nD) (d) : (dats m ρ 0 c).before (1 : Fin 9) t0_0 d = dB m c := by
  unfold Dat.before
  rw [if_pos (fetch0_1 t0_0)]
  exact blk_read_1 (dB m c)
omit [FloatOps F] in
theorem blk_read_2 (f : main_arg2.ty.Contents (Elt F)) : ((cfg0.win 2).blk t0_0).view.read (Elt F) f = f := Memref.read_access_unit_zero (Elt F) main_arg2 (by decide) _ f
theorem before_2 (c : Dev nD) (d) : (dats m ρ 0 c).before (2 : Fin 9) t0_0 d = ukB m c := by
  unfold Dat.before
  rw [if_pos (fetch0_2 t0_0)]
  exact blk_read_2 (ukB m c)
omit [FloatOps F] in
theorem blk_read_3 (f : main_arg3.ty.Contents (Elt F)) : ((cfg0.win 3).blk t0_0).view.read (Elt F) f = f := Memref.read_access_unit_zero (Elt F) main_arg3 (by decide) _ f
theorem before_3 (c : Dev nD) (d) : (dats m ρ 0 c).before (3 : Fin 9) t0_0 d = uvB m c := by
  unfold Dat.before
  rw [if_pos (fetch0_3 t0_0)]
  exact blk_read_3 (uvB m c)
omit [FloatOps F] in
theorem blk_read_4 (f : main_arg4.ty.Contents (Elt F)) : ((cfg0.win 4).blk t0_0).view.read (Elt F) f = f := Memref.read_access_unit_zero (Elt F) main_arg4 (by decide) _ f
theorem before_4 (c : Dev nD) (d) : (dats m ρ 0 c).before (4 : Fin 9) t0_0 d = wqB m c := by
  unfold Dat.before
  rw [if_pos (fetch0_4 t0_0)]
  exact blk_read_4 (wqB m c)
omit [FloatOps F] in
theorem blk_read_5 (f : main_arg5.ty.Contents (Elt F)) : ((cfg0.win 5).blk t0_0).view.read (Elt F) f = f := Memref.read_access_unit_zero (Elt F) main_arg5 (by decide) _ f
theorem before_5 (c : Dev nD) (d) : (dats m ρ 0 c).before (5 : Fin 9) t0_0 d = wqrB m c := by
  unfold Dat.before
  rw [if_pos (fetch0_5 t0_0)]
  exact blk_read_5 (wqrB m c)
omit [FloatOps F] in
theorem blk_read_6 (f : main_arg6.ty.Contents (Elt F)) : ((cfg0.win 6).blk t0_0).view.read (Elt F) f = f := Memref.read_access_unit_zero (Elt F) main_arg6 (by decide) _ f
theorem before_6 (c : Dev nD) (d) : (dats m ρ 0 c).before (6 : Fin 9) t0_0 d = wkrB m c := by
  unfold Dat.before
  rw [if_pos (fetch0_6 t0_0)]
  exact blk_read_6 (wkrB m c)
omit [FloatOps F] in
theorem blk_read_7 (f : main_arg7.ty.Contents (Elt F)) : ((cfg0.win 7).blk t0_0).view.read (Elt F) f = f := Memref.read_access_unit_zero (Elt F) main_arg7 (by decide) _ f
theorem before_7 (c : Dev nD) (d) : (dats m ρ 0 c).before (7 : Fin 9) t0_0 d = woB m c := by
  unfold Dat.before
  rw [if_pos (fetch0_7 t0_0)]
  exact blk_read_7 (woB m c)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 9) t0_0 d)) ∗ (∃ d, stg c cc0_stg1_0 ((dats m ρ 0 c).before (1 : Fin 9) t0_0 d)) ∗ (∃ d, stg c cc0_stg2_0 ((dats m ρ 0 c).before (2 : Fin 9) t0_0 d)) ∗ (∃ d, stg c cc0_stg3_0 ((dats m ρ 0 c).before (3 : Fin 9) t0_0 d)) ∗ (∃ d, stg c cc0_stg4_0 ((dats m ρ 0 c).before (4 : Fin 9) t0_0 d)) ∗ (∃ d, stg c cc0_stg5_0 ((dats m ρ 0 c).before (5 : Fin 9) t0_0 d)) ∗ (∃ d, stg c cc0_stg6_0 ((dats m ρ 0 c).before (6 : Fin 9) t0_0 d)) ∗ (∃ d, stg c cc0_stg7_0 ((dats m ρ 0 c).before (7 : Fin 9) t0_0 d)) ∗ (∃ d, stg c cc0_stg8_0 ((dats m ρ 0 c).before (8 : Fin 9) t0_0 d)))
def bodyPost (c : Dev nD) : sProp 𝕄 :=
  iprop(Φ₁ c ∗ (dats m ρ 0 c).owesAt () t0_0.succ ∗ stg c cc0_stg0_0 (xB m c) ∗ stg c cc0_stg1_0 (dB m c) ∗ stg c cc0_stg2_0 (ukB m c) ∗ stg c cc0_stg3_0 (uvB m c) ∗ stg c cc0_stg4_0 (wqB m c) ∗ stg c cc0_stg5_0 (wqrB m c) ∗ stg c cc0_stg6_0 (wkrB m c) ∗ stg c cc0_stg7_0 (woB m c) ∗ stg c cc0_stg8_0 (outF m c))

set_option maxHeartbeats 1000000 in
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) (fun _ => bodyPost m ρ c) := by
  unfold bodyPre Φ₀ Dat.owesAt Pipeline.owesWithin
  rw [show (dats m ρ 0 c).owed t0_0.castSucc = O₀ c from rfl, scopedRest0_eq]
  iintro ⟨⟨Hs, ⟨%fC, HC⟩, ⟨%fK, HK⟩, ⟨%fV, HV⟩, ⟨%fO, HOb⟩, ⟨%fQ, HQ⟩, ⟨%fKb, HKb⟩, ⟨%fVb, HVb⟩, ⟨%fR, HR⟩, ⟨%fS, HSr⟩⟩,
    ⟨%W, %hW, HO⟩, ⟨%d0, %g0, %hg0, X0⟩, ⟨%d1, %g1, %hg1, X1⟩, ⟨%d2, %g2, %hg2, X2⟩, ⟨%d3, %g3, %hg3, X3⟩, ⟨%d4, %g4, %hg4, X4⟩, ⟨%d5, %g5, %hg5, X5⟩, ⟨%d6, %g6, %hg6, X6⟩, ⟨%d7, %g7, %hg7, X7⟩, ⟨%d8, %g8, %hg8, X8⟩⟩
  obtain rfl : g0 = xB m c := hg0.trans (before_0 m ρ c d0)
  obtain rfl : g1 = dB m c := hg1.trans (before_1 m ρ c d1)
  obtain rfl : g2 = ukB m c := hg2.trans (before_2 m ρ c d2)
  obtain rfl : g3 = uvB m c := hg3.trans (before_3 m ρ c d3)
  obtain rfl : g4 = wqB m c := hg4.trans (before_4 m ρ c d4)
  obtain rfl : g5 = wqrB m c := hg5.trans (before_5 m ρ c d5)
  obtain rfl : g6 = wkrB m c := hg6.trans (before_6 m ρ c d6)
  obtain rfl : g7 = woB m c := hg7.trans (before_7 m ρ c d7)
  ihave Hs := (start_open m c) $$ Hs
  icases Hs with ⟨%K, Hs⟩
  iapply (run_body m K c fC fK fV fO fQ fKb fVb fR fS g8) $$ [Hs HO X0 X1 X2 X3 X4 X5 X6 X7 X8 HC HK HV HOb HQ HKb HVb HR HSr]
  · isplitl [Hs]; · iexact Hs
    isplitl [HO]; · iexists W; iexact HO
    isplitl [X0 X1 X2 X3 X4 X5 X6 X7]
    · unfold Ins
      isplitl [X0]; · iexact X0
      isplitl [X1]; · iexact X1
      isplitl [X2]; · iexact X2
      isplitl [X3]; · iexact X3
      isplitl [X4]; · iexact X4
      isplitl [X5]; · iexact X5
      isplitl [X6] <;> iassumption
    isplitl [X8]; · iexact X8
    isplitl [HC]; · iexact HC
    isplitl [HK]; · iexact HK
    isplitl [HV]; · iexact HV
    isplitl [HOb]; · iexact HOb
    isplitl [HQ]; · iexact HQ
    isplitl [HKb]; · iexact HKb
    isplitl [HVb]; · iexact HVb
    isplitl [HR] <;> iassumption
  unfold Done Ins Outs
  iintro ⟨⟨⟨%W', HO⟩, HC, HK, HV, HzS, HzV, HzB⟩, ⟨X0, X1, X2, X3, X4, X5, X6, X7⟩, X8, HOb, HQ, HKb, HVb, HR, HSr⟩
  unfold bodyPost Φ₁ Dat.owesAt Pipeline.owesWithin
  rw [show (dats m ρ 0 c).owed t0_0.succ = 0 from rfl, scopedRest0_eq, ownSems0_eq, unscopedSems0_eq]
  isplitl [HzS HzV HzB HC HK HV HOb HQ HKb HVb HR HSr]
  · isplitl [HzB]; · iexact HzB
    isplitl [HzS HzV]
    · isplitl [HzS] <;> iassumption
    isplitl [HC]; · iexists _; iexact HC
    isplitl [HK]; · iexists _; iexact HK
    isplitl [HV]; · iexists _; iexact HV
    isplitl [HOb]; · iexists _; iexact HOb
    isplitl [HQ]; · iexists _; iexact HQ
    isplitl [HKb]; · iexists _; iexact HKb
    isplitl [HVb]; · iexists _; iexact HVb
    isplitl [HR]; · iexists _; iexact HR
    iexists _; iexact HSr
  isplitl [HO]
  · iexists W'
    isplitr; · ipureintro; exact fun _ _ => Or.inl trivial
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  isplitl [X4]
  · iexists _; isplitr; · (ipureintro; rfl)
    iexact X4
  isplitl [X5]
  · iexists _; isplitr; · (ipureintro; rfl)
    iexact X5
  isplitl [X6]
  · iexists _; isplitr; · (ipureintro; rfl)
    iexact X6
  isplitl [X7]
  · iexists _; isplitr; · (ipureintro; rfl)
    iexact X7
  iexists _; isplitr; · (ipureintro; rfl)
  iexact X8

set_option maxRecDepth 100000 in
/-- The body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound_body m ρ c

end Cert.MlaProof

end
-- ==== Proof.Launch.lean ====
/-
# `Launch`: the ring allocated, and the whole run

What the launch hands out - thirty-seven cells a device, the tokens of the duties, the credit of what all devices owe -
dealt to the devices that use it, and the theorem of the run.
-/
module

public import proofs.«01_k».proof.Proof.Obl
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem csem_inj : ∀ k k' : Fin 37, csem k.val = csem k'.val → k = k' := by decide

abbrev cellOf (ck : Dev nD × Fin 37) : GSem nD τ sig := kcell ck.1 ck.2.val
theorem cellOf_injective : Function.Injective cellOf := by
  rintro ⟨c, k⟩ ⟨c', k'⟩ h
  have h1 : c = c' := congrArg (fun g : GSem nD τ sig => g.1.1) h
  have h2 : k = k' := csem_inj k k' (congrArg Prod.snd h)
  rw [h1, h2]
def ringCells : Finset (GSem nD τ sig) := Finset.univ.map ⟨cellOf, cellOf_injective⟩

/-- The duties of a device's cells: `0` the barrier's second, and `1 + k` the first of cell `k`. -/
abbrev dutyAt (c : Dev nD) (k : ℕ) : GSem nD τ sig × ℕ × Bool := if k = 0 then (barCell c, 0, true) else (kcell c (k - 1), 0, false)
theorem duty_inj : ∀ k k' : Fin 38, (if k.val = 0 then (SemLoc.reg barS, true) else (csem (k.val - 1), false)) = (if k'.val = 0 then (SemLoc.reg barS, true) else (csem (k'.val - 1), false)) → k = k' := by
  decide
abbrev tokOf (ck : Dev nD × Fin 38) : GSem nD τ sig × ℕ × Bool := dutyAt ck.1 ck.2.val
theorem tok_dev (c : Dev nD) (k : ℕ) : (dutyAt c k).1.1.1 = c := by unfold dutyAt; split <;> rfl
theorem tok_sem (c : Dev nD) (k : ℕ) : ((dutyAt c k).1.2, (dutyAt c k).2.2) = if k = 0 then (SemLoc.reg barS, true) else (csem (k - 1), false) := by
  unfold dutyAt; split <;> rfl
theorem tokOf_injective : Function.Injective tokOf := by
  rintro ⟨c, k⟩ ⟨c', k'⟩ h
  have h1 : c = c' := by
    have := congrArg (fun x : GSem nD τ sig × ℕ × Bool => x.1.1.1) h
    exact (tok_dev c k.val).symm.trans (this.trans (tok_dev c' k'.val))
  have h2 : k = k' := duty_inj k k' (by
    rw [← tok_sem c k.val, ← tok_sem c' k'.val]
    exact congrArg (fun x : GSem nD τ sig × ℕ × Bool => (x.1.2, x.2.2)) h)
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 true ∗ dutyTok ER (barCell c) 0 false
    ∗ bigSep (Finset.Ico 0 18) (fun i => dutyTok ER (sendCell c i) 0 false) ∗ bigSep (Finset.Ico 0 18) (fun i => dutyTok ER (recvCell c i) 0 false))

theorem toks_minted (c : Dev nD) : bigSep Finset.univ (fun k : Fin 38 => (dutyTok ER (tokOf (c, k)).1 (tokOf (c, k)).2.1 (tokOf (c, k)).2.2 : sProp 𝕄)) = toks c := by
  rw [sep_fin 38 (fun k => (dutyTok ER (dutyAt c k).1 (dutyAt c k).2.1 (dutyAt c k).2.2 : sProp 𝕄)), sep_head (by decide : 0 < 38), sep_shift 1 37,
    ← sep_fin 37 (fun i => (dutyTok ER (dutyAt c (1 + i)).1 (dutyAt c (1 + i)).2.1 (dutyAt c (1 + i)).2.2 : sProp 𝕄)),
    sep_cells (fun i => (dutyTok ER (dutyAt c (1 + i)).1 (dutyAt c (1 + i)).2.1 (dutyAt c (1 + i)).2.2 : sProp 𝕄))]
  unfold toks
  rw [← sends_eq c (fun g => (dutyTok ER g 0 false : sProp 𝕄)), ← recvs_eq c (fun g => (dutyTok ER g 0 false : sProp 𝕄))]
  have e (i : ℕ) : dutyAt c (1 + i) = (kcell c i, 0, false) := by
    unfold dutyAt; rw [if_neg (by omega), Nat.add_sub_cancel_left]
  simp only [e]
  rfl

/-- What the launch element deals device `c`. -/
def G (c : Dev nD) : sProp 𝕄 :=
  iprop((bigSep Finset.univ fun k : Fin 37 => roundState ER (ringRd m) (cellOf (c, k)) 0)
    ∗ (bigSep Finset.univ fun k : Fin 37 => iprop(atPos ER (cellOf (c, k)) 0 ∅ 0 ∗ reached ER (cellOf (c, k)) 0)) ∗ toks c)

/-- What the global step makes of it. -/
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 37 => Φ (cellOf (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_minted c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 37 => semVal (cellOf (c, k)) 0 : sProp 𝕄) := by
  rw [ownSems0_eq, unscopedSems0_eq, sep_cells (fun k => semVal (kcell c k) 0), sends_eq c (fun g => semVal g 0), recvs_eq c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (cellOf (c, k))))
          ∗ (bigSep Finset.univ fun k => iprop(atPos ER (cellOf (c, k)) 0 ∅ 0 ∗ reached ER (cellOf (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 37 => semVal (cellOf (c, k)) 0) ∗ bigSep Finset.univ fun k : Fin 37 => roundState ER (ringRd m) (cellOf (c, k)) 0)
      ⊢ (|={Set.univ}=> bigSep Finset.univ fun k => iprop(∃ κ : ℕ, cellInv ER (ringRd m) κ (cellOf (c, k))) : sProp 𝕄) from by
        rw [← bigSep_sep']
        exact (bigSep_mono fun k _ => (Rounds.body_intro ER (ringRd m) (cellOf (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens as their payers hold them. -/
def payToks (c : Dev nD) : sProp 𝕄 :=
  iprop(dutyTok ER (barCell (prv c)) 0 true ∗ dutyTok ER (barCell (nxt c)) 0 false
    ∗ bigSep (Finset.Ico 0 18) (fun i => dutyTok ER (sendCell c i) 0 false) ∗ bigSep (Finset.Ico 0 18) (fun i => dutyTok ER (recvCell (nxt c) i) 0 false))

omit [FloatOps F] in
/-- The tokens dealt around the ring: a barrier's second one device up, its first and the receives' one device down. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep (Finset.Ico 0 18) (fun i => dutyTok ER (recvCell c i) 0 false) : sProp 𝕄))]
  iintro ⟨H1, H2, H3, H4⟩
  isplitl [H1]; · iexact H1
  isplitl [H2]; · iexact H2
  isplitl [H3]; · iexact H3
  iexact H4

theorem linear_intro (c : Dev nD) :
    iprop(bigSep Finset.univ (fun k : Fin 37 => (atPos ER (cellOf (c, k)) 0 ∅ 0 : sProp 𝕄)) ∗ payToks c) ⊢ linear c := by
  rw [sep_cells (fun k => (atPos ER (kcell c k) 0 ∅ 0 : sProp 𝕄)), sends_eq c (fun g => (atPos ER g 0 ∅ 0 : sProp 𝕄)),
    recvs_eq c (fun g => (atPos ER g 0 ∅ 0 : sProp 𝕄))]
  unfold linear payToks
  iintro ⟨⟨H1, H2, H3⟩, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

omit [FloatOps F] in
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A name for each numbered cell of each device, from a name for each cell. -/
def nameOf (K : Dev nD × Fin 37 → ℕ) (c : Dev nD) (k : ℕ) : ℕ := if h : k < 37 then K (c, ⟨k, h⟩) else 0
theorem nameOf_at (K : Dev nD × Fin 37 → ℕ) (ck : Dev nD × Fin 37) : nameOf K ck.1 ck.2.val = K ck := by
  unfold nameOf; rw [dif_pos ck.2.isLt]

theorem ghost_intro (K : Dev nD → ℕ → ℕ) (c : Dev nD) :
    iprop(records m K ∗ (bigSep Finset.univ (fun k : Fin 37 => (atPos ER (cellOf (c, k)) 0 ∅ 0 : sProp 𝕄)) ∗ payToks c)) ⊢ G' m c := by
  unfold G'
  iintro ⟨#HR, H⟩
  iexists K
  isplitr; · iexact HR
  iapply (linear_intro c) $$ H

theorem regroup :
    (bigSep Finset.univ fun c : Dev nD => iprop((bigSep Finset.univ fun k => iprop(∃ κ : ℕ, cellInv ER (ringRd m) κ (cellOf (c, k))))
          ∗ (bigSep Finset.univ fun k => iprop(atPos ER (cellOf (c, k)) 0 ∅ 0 ∗ reached ER (cellOf (c, k)) 0)) ∗ toks c) : sProp 𝕄)
      ⊢ bigSep Finset.univ (G' m) := by
  rw [bigSep_sep', bigSep_sep', ← bigSep_univ_prod (fun ck : Dev nD × Fin 37 => iprop(∃ κ : ℕ, cellInv ER (ringRd m) κ (cellOf ck))),
    bigSep_congr (s := Finset.univ) (fun (c : Dev nD) _ => bigSep_sep' Finset.univ (fun k : Fin 37 => (atPos ER (cellOf (c, k)) 0 ∅ 0 : sProp 𝕄)) (fun k => reached ER (cellOf (c, k)) 0)),
    bigSep_sep', ← bigSep_univ_prod (fun ck : Dev nD × Fin 37 => (reached ER (cellOf ck) 0 : sProp 𝕄))]
  iintro ⟨HI, ⟨Hat, #HR⟩, Htok⟩
  ihave HK := (BI.bigSep_exists_pi Finset.univ (fun (ck : Dev nD × Fin 37) (κ : ℕ) => (cellInv ER (ringRd m) κ (cellOf ck) : sProp 𝕄))) $$ HI
  icases HK with ⟨%K, HI⟩
  ihave HI' := (Entails.of_eq (bigSep_congr (s := Finset.univ) fun (ck : Dev nD × Fin 37) _ =>
    show (cellInv ER (ringRd m) (K ck) (cellOf ck) : sProp 𝕄) = cellInv ER (ringRd m) (nameOf K ck.1 ck.2.val) (kcell ck.1 ck.2.val) by rw [nameOf_at])) $$ HI
  icases HI' with #HI'
  ihave Htk := (toks_around (F := F)) $$ Htok
  iapply (each_with (R := records m (nameOf K)) fun c _ => ghost_intro m (nameOf K) c)
  isplitr
  · unfold records; isplitl; · iexact HI'
    iexact HR
  · iapply (Entails.of_eq (bigSep_sep' Finset.univ (fun c : Dev nD => bigSep Finset.univ fun k : Fin 37 => (atPos ER (cellOf (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices together owe the cells of device `c`: its previous device the receives, its two neighbours the barrier. -/
def dueRecv (c : Dev nD) : CellTallies nD τ sig Unit := ∑ i ∈ Finset.Ico 0 18, tallyAt (recvCell c i) () (nOf i)
def dueBar (c : Dev nD) : CellTallies nD τ sig Unit := tallyAt (barCell c) () 1
def dueTo (c : Dev nD) : CellTallies nD τ sig Unit := dueRecv c + dueBar c + dueBar c

theorem owed_as (d : Dev nD) : O₀ d = dueRecv (ring d) + dueBar (ring d) + dueBar (ring.symm d) := rfl

theorem due_sum : ∑ d, O₀ d = ∑ d, dueTo d := by
  rw [Finset.sum_congr rfl (fun d _ => owed_as d), Finset.sum_add_distrib, Finset.sum_add_distrib, Equiv.sum_comp ring dueRecv, Equiv.sum_comp ring dueBar,
    Equiv.sum_comp ring.symm dueBar, ← Finset.sum_add_distrib, ← Finset.sum_add_distrib]
  exact Finset.sum_congr rfl fun d _ => rfl

theorem due_cell (d : Dev nD) (g : GSem nD τ sig) (h : dueTo d g ≠ 0) : g.1 = d.tc := by
  by_contra hne
  refine h ?_
  have hb : dueBar d g = 0 := tallyAt_ne_cell (fun e => hne (congrArg Prod.fst e)) _ _
  have hr : dueRecv d g = 0 := by
    unfold dueRecv
    rw [Finset.sum_apply]
    exact Finset.sum_eq_zero fun i _ => tallyAt_ne_cell (fun e => hne (congrArg Prod.fst e)) _ _
  unfold dueTo
  rw [Pi.add_apply, Pi.add_apply, hb, hr, add_zero, add_zero]

theorem cred_sum (n : ℕ) (f : ℕ → CellTallies nD τ sig Unit) : (cred (∑ i ∈ Finset.Ico 0 n, f i) : sProp 𝕄) ⊢ bigSep (Finset.Ico 0 n) (fun i => cred (f i)) := by
  induction n with
  | zero => rw [Finset.Ico_self, bigSep_empty]; exact BI.affine
  | succ n ih =>
    rw [Ico_last (Nat.zero_le n), Finset.sum_insert last_notMem, ← Ico_last (Nat.zero_le n), sep_last (Nat.zero_le n)]
    iintro H
    ihave H := (cred_add _ _).1 $$ H
    icases H with ⟨H1, H2⟩
    isplitl [H1]; · iexact H1
    iapply ih $$ H2

theorem tally_two (g : GSem nD τ sig) : (tallyAt g () 1 + tallyAt g () 1 : CellTallies nD τ sig Unit) = tallyAt g () 2 := by
  exact tallyAt_add g () 1 1

theorem creds (c : Dev nD) :
    (Pipeline.launchCred O₀ c : sProp 𝕄) ⊢ iprop(cred (tallyAt (barCell c) () 2) ∗ bigSep (Finset.Ico 0 18) (fun i => cred (tallyAt (recvCell c i) () (nOf i)))) := by
  rw [Pipeline.launchCred_of_sum O₀ dueTo due_sum due_cell c]
  unfold dueTo dueBar
  rw [add_assoc, tally_two]
  unfold dueRecv
  iintro H
  ihave H := (cred_add _ _).1 $$ H
  icases H with ⟨H1, H2⟩
  isplitl [H2]; · iexact H2
  iapply (cred_sum 18 _) $$ H1

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on thirty-two devices: the run ends, with every array at its final contents and every
counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

theorem final_0 (c : Dev nD) : finalA m ρ c (0 : Fin 9) = xB m c := (dats (F := F) m ρ 0 c).arrAt_in (0 : Fin 9) rfl _
theorem final_1 (c : Dev nD) : finalA m ρ c (1 : Fin 9) = dB m c := (dats (F := F) m ρ 0 c).arrAt_in (1 : Fin 9) rfl _
theorem final_2 (c : Dev nD) : finalA m ρ c (2 : Fin 9) = ukB m c := (dats (F := F) m ρ 0 c).arrAt_in (2 : Fin 9) rfl _
theorem final_3 (c : Dev nD) : finalA m ρ c (3 : Fin 9) = uvB m c := (dats (F := F) m ρ 0 c).arrAt_in (3 : Fin 9) rfl _
theorem final_4 (c : Dev nD) : finalA m ρ c (4 : Fin 9) = wqB m c := (dats (F := F) m ρ 0 c).arrAt_in (4 : Fin 9) rfl _
theorem final_5 (c : Dev nD) : finalA m ρ c (5 : Fin 9) = wqrB m c := (dats (F := F) m ρ 0 c).arrAt_in (5 : Fin 9) rfl _
theorem final_6 (c : Dev nD) : finalA m ρ c (6 : Fin 9) = wkrB m c := (dats (F := F) m ρ 0 c).arrAt_in (6 : Fin 9) rfl _
theorem final_7 (c : Dev nD) : finalA m ρ c (7 : Fin 9) = woB m c := (dats (F := F) m ρ 0 c).arrAt_in (7 : Fin 9) rfl _
theorem blk_read_8 (f : main_v1.ty.Contents (Elt F)) : ((cfg0.win 8).blk t0_0).view.read (Elt F) f = f := Memref.read_access_unit_zero (Elt F) main_v1 (by decide) _ f
theorem final_8 (c : Dev nD) : finalA m ρ c (8 : Fin 9) = outF m c := by
  have h := (dats m ρ 0 c).read_blk_arrAt_eq_flushed (8 : Fin 9) (fun t t' _ _ hne => absurd ((fin_N0 t).trans (fin_N0 t').symm) hne) cfg0.N t0_0 t0_0.isLt (flush0_8 t0_0)
  exact (blk_read_8 _).symm.trans h

end Cert.MlaProof

end
-- ==== Proof.Run.lean ====
/-
# `Run`: what the run leaves in the arguments and the result
-/
module

public import proofs.«01_k».proof.Proof.Launch

@[expose] public section

set_option maxRecDepth 16384

noncomputable section

namespace Cert.MlaProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Every device's arguments end as they were and its result holds `outF`; every counter is zero. -/
theorem run_values : θ_run defs (onTc (τ := τ) (main (F := F))) (s₀ m ρ) (fun r => (∀ c : Dev nD,
      r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨(h.1 c (8 : Fin 9)).trans (final_8 m ρ c),
    (h.1 c (0 : Fin 9)).trans (final_0 m ρ c), (h.1 c (1 : Fin 9)).trans (final_1 m ρ c), (h.1 c (2 : Fin 9)).trans (final_2 m ρ c), (h.1 c (3 : Fin 9)).trans (final_3 m ρ c), (h.1 c (4 : Fin 9)).trans (final_4 m ρ c), (h.1 c (5 : Fin 9)).trans (final_5 m ρ c), (h.1 c (6 : Fin 9)).trans (final_6 m ρ c), (h.1 c (7 : Fin 9)).trans (final_7 m ρ c)⟩, h.2⟩) (run_main m ρ)

theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => (h.1 c).2, h.2⟩) (run_values m ρ)

end Cert.MlaProof

end
-- ==== Proof.MathK.lean ====
/-
# `MathK`: each stored value of the kernel over extended reals, read at an index
-/
module

public import Idealize.ShloMosaic.Lib.Pointwise
public import proofs.«01_k».proof.Proof.Vals

@[expose] public section

set_option maxRecDepth 16384

noncomputable section

namespace Cert.MlaProof

open Cert.KernelIdeal Cert.KernelIdeal.Gen

open Idealize.ShloMosaic
open Idealize.ShloMosaic.TcCoe
open scoped BigOperators

/-- The score scale: what the kernel's named literal denotes. -/
def scl : EReal := (((Real.sqrt 160)⁻¹ : ℝ) : EReal)
/-- The name's value. -/
theorem named_scl : Named.named (F := Ideal) κ "inv_sqrt_160" (φ := .f32) 0x3DA1E89B#32 = scl := rfl

/-- The rows of the two batches, one under the other. -/
theorem pay3_apply (v : FVec Ideal S2x512x2048 .bf16) (r : Fin 1024) (d : Fin 2048) :
    k0_pay3 (F := Ideal) v (ix2 r d) = v (ix3 ⟨r.val / 512, by omega⟩ ⟨r.val % 512, by omega⟩ d) := by
  pointwise [k0_pay3]

/-- A device's own compressed block is a product. -/
theorem pay4_apply (x : FVec Ideal S1024x2048 .bf16) (w : FVec Ideal S2048x128 .bf16) (r : Fin 1024) (k : Fin 128) :
    k0_pay4 (F := Ideal) x w (ix3 0 r k) = ∑ d : Fin 2048, x (ix2 r d) * w (ix2 d k) := by
  pointwise [k0_pay4]

/-- A weight block with a leading axis of one. -/
theorem pay5_apply (w : FVec Ideal S128x2048 .bf16) (k : Fin 128) (n : Fin 2048) :
    k0_pay5 (F := Ideal) w (ix3 0 k n) = w (ix2 k n) := by
  pointwise [k0_pay5]

/-- A weight block with a leading axis of one. -/
theorem pay6_apply (w : FVec Ideal S128x2048 .bf16) (k : Fin 128) (n : Fin 2048) :
    k0_pay6 (F := Ideal) w (ix3 0 k n) = w (ix2 k n) := by
  pointwise [k0_pay6]

/-- One slot's product. -/
theorem pay7_apply (c : FVec Ideal S1x1024x128 .bf16) (w : FVec Ideal S1x128x2048 .bf16) (r : Fin 1024) (n : Fin 2048) :
    k0_pay7 (F := Ideal) c w (ix2 r n) = ∑ k : Fin 128, c (ix3 0 r k) * w (ix3 0 k n) := by
  pointwise [k0_pay7]

/-- A store as it is. -/
theorem pay8_apply (b : FVec Ideal S1024x2048 .bf16) (r : Fin 1024) (n : Fin 2048) :
    k0_pay8 (F := Ideal) b (ix2 r n) = b (ix2 r n) := by
  pointwise [k0_pay8]

/-- One slot's product. -/
theorem pay9_apply (c : FVec Ideal S1x1024x128 .bf16) (w : FVec Ideal S1x128x2048 .bf16) (r : Fin 1024) (n : Fin 2048) :
    k0_pay9 (F := Ideal) c w (ix2 r n) = ∑ k : Fin 128, c (ix3 0 r k) * w (ix3 0 k n) := by
  pointwise [k0_pay9]

/-- A block of queries is a product. -/
theorem pay10_apply (x : FVec Ideal S1024x2048 .bf16) (w : FVec Ideal S2048x512 .bf16) (r : Fin 1024) (n : Fin 512) :
    k0_pay10 (F := Ideal) x w (ix2 r n) = ∑ d : Fin 2048, x (ix2 r d) * w (ix2 d n) := by
  pointwise [k0_pay10]

/-- One slot's product added on. -/
theorem pay12_apply (c : FVec Ideal S1x1024x128 .bf16) (w : FVec Ideal S1x128x2048 .bf16) (b : FVec Ideal S1024x2048 .bf16) (r : Fin 1024) (n : Fin 2048) :
    k0_pay12 (F := Ideal) c w b (ix2 r n) = b (ix2 r n) + ∑ k : Fin 128, c (ix3 0 r k) * w (ix3 0 k n) := by
  pointwise [k0_pay12]

/-- One slot's product added on. -/
theorem pay13_apply (c : FVec Ideal S1x1024x128 .bf16) (w : FVec Ideal S1x128x2048 .bf16) (b : FVec Ideal S1024x2048 .bf16) (r : Fin 1024) (n : Fin 2048) :
    k0_pay13 (F := Ideal) c w b (ix2 r n) = b (ix2 r n) + ∑ k : Fin 128, c (ix3 0 r k) * w (ix3 0 k n) := by
  pointwise [k0_pay13]

/-- One slot's product. -/
theorem pay16_apply (c : FVec Ideal S1x1024x128 .bf16) (w : FVec Ideal S1x128x2048 .bf16) (r : Fin 1024) (n : Fin 2048) :
    k0_pay16 (F := Ideal) c w (ix2 r n) = ∑ k : Fin 128, c (ix3 0 r k) * w (ix3 0 k n) := by
  pointwise [k0_pay16]

/-- One slot's product added on. -/
theorem pay17_apply (c : FVec Ideal S1x1024x128 .bf16) (w : FVec Ideal S1x128x2048 .bf16) (b : FVec Ideal S1024x2048 .bf16) (r : Fin 1024) (n : Fin 2048) :
    k0_pay17 (F := Ideal) c w b (ix2 r n) = b (ix2 r n) + ∑ k : Fin 128, c (ix3 0 r k) * w (ix3 0 k n) := by
  pointwise [k0_pay17]

/-- A store as it is. -/
theorem pay18_apply (b : FVec Ideal S1024x2048 .bf16) (r : Fin 1024) (n : Fin 2048) :
    k0_pay18 (F := Ideal) b (ix2 r n) = b (ix2 r n) := by
  pointwise [k0_pay18]

/-- Two buffers added. -/
theorem pay19_apply (a b : FVec Ideal S1024x2048 .bf16) (r : Fin 1024) (n : Fin 2048) :
    k0_pay19 (F := Ideal) a b (ix2 r n) = b (ix2 r n) + a (ix2 r n) := by
  pointwise [k0_pay19]

/-- The rotary queries are a product. -/
theorem pay20_apply (x : FVec Ideal S1024x2048 .bf16) (w : FVec Ideal S2048x512 .bf16) (r : Fin 1024) (n : Fin 512) :
    k0_pay20 (F := Ideal) x w (ix2 r n) = ∑ d : Fin 2048, x (ix2 r d) * w (ix2 d n) := by
  pointwise [k0_pay20]

/-- The rotary key is a product. -/
theorem pay21_apply (x : FVec Ideal S1024x2048 .bf16) (w : FVec Ideal S2048x32 .bf16) (r : Fin 1024) (n : Fin 32) :
    k0_pay21 (F := Ideal) x w (ix2 r n) = ∑ d : Fin 2048, x (ix2 r d) * w (ix2 d n) := by
  pointwise [k0_pay21]

/-- One slot's product. -/
theorem pay60_apply (c : FVec Ideal S1x1024x128 .bf16) (w : FVec Ideal S1x128x2048 .bf16) (r : Fin 1024) (n : Fin 2048) :
    k0_pay60 (F := Ideal) c w (ix2 r n) = ∑ k : Fin 128, c (ix3 0 r k) * w (ix3 0 k n) := by
  pointwise [k0_pay60]

/-- One slot's product added on. -/
theorem pay61_apply (c : FVec Ideal S1x1024x128 .bf16) (w : FVec Ideal S1x128x2048 .bf16) (b : FVec Ideal S1024x2048 .bf16) (r : Fin 1024) (n : Fin 2048) :
    k0_pay61 (F := Ideal) c w b (ix2 r n) = b (ix2 r n) + ∑ k : Fin 128, c (ix3 0 r k) * w (ix3 0 k n) := by
  pointwise [k0_pay61]

/-- A store as it is. -/
theorem pay62_apply (b : FVec Ideal S1024x2048 .bf16) (r : Fin 1024) (n : Fin 2048) :
    k0_pay62 (F := Ideal) b (ix2 r n) = b (ix2 r n) := by
  pointwise [k0_pay62]

/-- Two buffers added. -/
theorem pay63_apply (a b : FVec Ideal S1024x2048 .bf16) (r : Fin 1024) (n : Fin 2048) :
    k0_pay63 (F := Ideal) a b (ix2 r n) = b (ix2 r n) + a (ix2 r n) := by
  pointwise [k0_pay63]

/-- The out-projection, row by row of a batch. -/
theorem pay2_apply (o : FVec Ideal S1024x2048 .bf16) (w : FVec Ideal S2048x2048 .bf16) (b : Fin 2) (s : Fin 512) (n : Fin 2048) :
    k0_pay2 (F := Ideal) o w (ix3 b s n) = ∑ k : Fin 2048, o (ix2 ⟨b.val * 512 + s.val, by omega⟩ k) * w (ix2 k n) := by
  pointwise [k0_pay2]

/-- The score of query row `i` against key row `j`. -/
def kscore (q k : FVec Ideal S512x128 .bf16) (qr kr : FVec Ideal S1x512x32 .bf16) (i j : Fin 512) : EReal :=
  ((∑ d : Fin 128, q (ix2 i d) * k (ix2 j d)) + ∑ d : Fin 32, qr (ix3 0 i d) * kr (ix3 0 j d)) * scl

/-- One head: weights that are exponentials times the reciprocal of their sum, applied to the values. -/
theorem pay1_apply (q k v : FVec Ideal S512x128 .bf16) (qr kr : FVec Ideal S1x512x32 .bf16) (i : Fin 512) (n : Fin 128) :
    k0_pay1 (F := Ideal) q k v qr kr (ix2 i n)
      = ∑ j : Fin 512, (Ideal.exp (kscore q k qr kr i j) * Ideal.div 1 (∑ j' : Fin 512, Ideal.exp (kscore q k qr kr i j'))) * v (ix2 j n) := by
  pointwise [k0_pay1, kscore, named_scl]

end Cert.MlaProof

end
-- ==== Proof.Soft.lean ====
/-
# `Soft`: finite extended reals, and the two ways of normalizing a row of exponentials
-/
module

public import Idealize.ShloMosaic.Lib.Pointwise

@[expose] public section

noncomputable section

namespace Cert.MlaSoft

open Idealize.ShloMosaic
open scoped BigOperators

/-- An extended real that is a real number. -/
def IsR (x : EReal) : Prop := ∃ r : ℝ, x = (r : EReal)

/-- A product of reals is real. -/
theorem IsR.mul {x y : EReal} (hx : IsR x) (hy : IsR y) : IsR (x * y) := by
  obtain ⟨r, rfl⟩ := hx
  obtain ⟨s, rfl⟩ := hy
  exact ⟨r * s, (EReal.coe_mul r s).symm⟩

/-- A sum of two reals is real. -/
theorem IsR.add {x y : EReal} (hx : IsR x) (hy : IsR y) : IsR (x + y) := by
  obtain ⟨r, rfl⟩ := hx
  obtain ⟨s, rfl⟩ := hy
  exact ⟨r + s, (EReal.coe_add r s).symm⟩

/-- The sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of reals is real. -/
theorem IsR.sum {ι : Type} [Fintype ι] {f : ι → EReal} (h : ∀ i, IsR (f i)) : IsR (∑ i, f i) := by
  choose g hg using h
  exact ⟨∑ i, g i, by rw [coe_sum]; exact Finset.sum_congr rfl fun i _ => hg i⟩

/-- What is neither infinity is real. -/
theorem IsR.of_ne {x : EReal} (h1 : x ≠ ⊤) (h2 : x ≠ ⊥) : IsR x := ⟨x.toReal, (EReal.coe_toReal h1 h2).symm⟩

/-- What is less than the greatest in absolute value is a real number. -/
theorem IsR.of_abs {x : EReal} (h : max x (-x) < ⊤) : IsR x := by
  refine IsR.of_ne (fun e => ?_) (fun e => ?_) <;> subst e <;> simp at h

/-- The greatest of a row of reals is a real. -/
theorem IsR.fold_max {n : ℕ} (hn : 0 < n) {f : Fin n → EReal} (h : ∀ i, IsR (f i)) : IsR (Finset.univ.fold max ⊥ f) := by
  refine IsR.of_ne (ne_of_lt ?_) (ne_of_gt ?_)
  · refine (Finset.fold_max_lt (c := ⊤)).mpr ⟨bot_lt_top, fun i _ => ?_⟩
    obtain ⟨r, hr⟩ := h i
    rw [hr]
    exact EReal.coe_lt_top r
  · refine (Finset.lt_fold_max (c := ⊥)).mpr (.inr ⟨⟨0, hn⟩, Finset.mem_univ _, ?_⟩)
    obtain ⟨r, hr⟩ := h ⟨0, hn⟩
    rw [hr]
    exact EReal.bot_lt_coe r

/-- A quotient of reals whose divisor is not zero. -/
theorem div_coe (a b : ℝ) (hb : b ≠ 0) : Ideal.div (a : EReal) (b : EReal) = ((a / b : ℝ) : EReal) := by
  have h : (b : EReal) ≠ 0 := fun e => hb (EReal.coe_eq_zero.mp e)
  unfold Ideal.div
  rw [if_neg h, ← EReal.coe_inv, ← EReal.coe_mul, div_eq_mul_inv]

/-- On a row of real scores, an exponential times the reciprocal of the row's sum is the quotient of the exponentials
    of the scores less any real shift. -/
theorem softmax_shift {n : ℕ} (hn : 0 < n) {s : Fin n → EReal} (hs : ∀ i, IsR (s i)) {M : EReal} (hM : IsR M) (j : Fin n) :
    Ideal.exp (s j) * Ideal.div 1 (∑ i, Ideal.exp (s i)) = Ideal.div (Ideal.exp (s j - M)) (∑ i, Ideal.exp (s i - M)) := by
  haveI : Nonempty (Fin n) := ⟨⟨0, hn⟩⟩
  choose r hr using hs
  obtain ⟨μ, rfl⟩ := hM
  obtain rfl : s = fun i => (r i : EReal) := funext hr
  have h1 : (∑ i, Ideal.exp (r i : EReal)) = ((∑ i, Real.exp (r i) : ℝ) : EReal) := (coe_sum _ _).symm
  have h2 : (∑ i, Ideal.exp ((r i : EReal) - (μ : EReal))) = ((∑ i, Real.exp (r i - μ) : ℝ) : EReal) := (coe_sum _ _).symm
  have p1 : 0 < ∑ i, Real.exp (r i) := Finset.sum_pos (fun i _ => Real.exp_pos _) Finset.univ_nonempty
  have p2 : 0 < ∑ i, Real.exp (r i - μ) := Finset.sum_pos (fun i _ => Real.exp_pos _) Finset.univ_nonempty
  show Ideal.exp (r j : EReal) * Ideal.div 1 (∑ i, Ideal.exp (r i : EReal)) = Ideal.div (Ideal.exp ((r j : EReal) - (μ : EReal))) (∑ i, Ideal.exp ((r i : EReal) - (μ : EReal)))
  rw [h1, h2, ← EReal.coe_one, div_coe _ _ p1.ne', show Ideal.exp ((r j : EReal) - (μ : EReal)) = ((Real.exp (r j - μ) : ℝ) : EReal) from rfl,
    div_coe _ _ p2.ne', show Ideal.exp (r j : EReal) = ((Real.exp (r j) : ℝ) : EReal) from rfl, ← EReal.coe_mul]
  refine congrArg _ ?_
  have h3 : ∑ i, Real.exp (r i - μ) = (∑ i, Real.exp (r i)) * (Real.exp μ)⁻¹ := by
    rw [Finset.sum_mul]
    exact Finset.sum_congr rfl fun i _ => by rw [Real.exp_sub, div_eq_mul_inv]
  have p3 := (Real.exp_pos μ).ne'
  rw [h3, Real.exp_sub]
  field_simp

/-- A sum over 512 places is the sum of four sums over 128. -/
theorem sum_four (g : Fin 512 → EReal) :
    ∑ k, g k = ∑ y : Fin 4, ∑ k : Fin 128, g ⟨128 * y.val + k.val, by omega⟩ := by
  rw [← Finset.sum_product' (f := fun (y : Fin 4) (k : Fin 128) => g ⟨128 * y.val + k.val, by omega⟩)]
  refine Finset.sum_bij' (fun k _ => ((⟨k.val / 128, by omega⟩ : Fin 4), (⟨k.val % 128, by omega⟩ : Fin 128)))
    (fun p _ => ⟨128 * p.1.val + p.2.val, by omega⟩) ?_ ?_ ?_ ?_ ?_
  · intros; exact Finset.mem_univ _
  · intros; exact Finset.mem_univ _
  · intro k _
    exact Fin.ext (by show 128 * (k.val / 128) + k.val % 128 = k.val; omega)
  · rintro ⟨y, k⟩ _
    refine Prod.ext (Fin.ext ?_) (Fin.ext ?_)
    · show (128 * y.val + k.val) / 128 = y.val; omega
    · show (128 * y.val + k.val) % 128 = k.val; omega
  · intro k _
    exact congrArg g (Fin.ext (by show k.val = 128 * (k.val / 128) + k.val % 128; omega))

/-- Four terms met in ring order, whichever comes first, are all four. -/
theorem ring_four (G : Fin 4 → EReal) (y : Fin 4) :
    G y + G ⟨(y.val + 3) % 4, by omega⟩ + G ⟨(y.val + 2) % 4, by omega⟩ + G ⟨(y.val + 1) % 4, by omega⟩ = ∑ i, G i := by
  rw [Fin.sum_univ_four]
  fin_cases y
  · show G 0 + G 3 + G 2 + G 1 = _; ac_rfl
  · show G 1 + G 0 + G 3 + G 2 = _; ac_rfl
  · show G 2 + G 1 + G 0 + G 3 = _; ac_rfl
  · show G 3 + G 2 + G 1 + G 0 = _; ac_rfl

/-- The scale is a real number. -/
theorem isR_scale : IsR (((Real.sqrt 160)⁻¹ : ℝ) : EReal) := ⟨_, rfl⟩

/-- The literal 160. -/
theorem ofBits_160 : Ideal.ofBits .f32 0x43200000#32 = ((160 : ℝ) : EReal) := by
  simp [Ideal.ofBits, Ideal.ieee, -EReal.coe_mul]; norm_num

/-- The reciprocal of the root, as the reference computes it. -/
theorem inv_root : Ideal.div 1 (Ideal.sqrt (Ideal.ofBits .f32 0x43200000#32)) = (((Real.sqrt 160)⁻¹ : ℝ) : EReal) := by
  have h : Real.sqrt 160 ≠ 0 := (Real.sqrt_pos.mpr (by norm_num)).ne'
  rw [ofBits_160, Ideal.sqrt_coe, if_neg (by norm_num), ← EReal.coe_one, div_coe _ _ h, one_div]

/-- The literal of minus infinity, -/
theorem neg_inf : Ideal.ofBits .f32 0xFF800000#32 = ⊥ := by simp [Ideal.ofBits, Ideal.ieee]
/-- and of infinity. -/
theorem inf_bf16 : Ideal.ofBits .bf16 0x7F80#16 = ⊤ := by simp [Ideal.ofBits, Ideal.ieee]

end Cert.MlaSoft

end
-- ==== Proof.MathR.lean ====
/-
# `MathR`: the reference's steps over extended reals, read at an index
-/
module

public import Idealize.ShloMosaic.Lib.Pointwise
public import proofs.«01_k».proof.Proof.Gen.ReferenceIdeal.Run
public import proofs.«01_k».proof.Proof.Soft

@[expose] public section

set_option maxRecDepth 16384

noncomputable section

namespace Cert.MlaRef

open Cert.ReferenceIdeal Cert.ReferenceIdeal.Gen Cert.ReferenceIdeal.Value

open Idealize.ShloMosaic
open Idealize.ShloMosaic.TcCoe
open scoped BigOperators

/-- The compressed rows. -/
def rC (X : FVec Ideal S2x512x2048 .bf16) (D : FVec Ideal S2048x512 .bf16) : FVec Ideal S2x512x512 .f32 :=
  Host.dotGeneral (F := Ideal) dot_S2x512x2048_S2048x512_S2x512x512_2_0_01_1_n_n none (extf .f32 X bitsLt_bf16_f32) (extf .f32 D bitsLt_bf16_f32)
/-- Read at an index. -/
theorem rC_apply (X : FVec Ideal S2x512x2048 .bf16) (D : FVec Ideal S2048x512 .bf16) (b : Fin 2) (s : Fin 512) (k : Fin 512) :
    rC X D (ix3 b s k) = ∑ d : Fin 2048, X (ix3 b s d) * D (ix2 d k) := by
  pointwise [rC]

/-- Keys or values by head, from the compressed rows. -/
def rKV (C : FVec Ideal S2x512x512 .f32) (U : FVec Ideal S512x2048 .bf16) : FVec Ideal S2x512x16x128 .f32 :=
  shapeCast _ (Host.dotGeneral (F := Ideal) dot_S2x512x512_S512x2048_S2x512x2048_2_0_01_1_n_n none C (extf .f32 U bitsLt_bf16_f32)) shapeCasts_S2x512x2048_S2x512x16x128
/-- Read at an index. -/
theorem rKV_apply (C : FVec Ideal S2x512x512 .f32) (U : FVec Ideal S512x2048 .bf16) (b : Fin 2) (s : Fin 512) (h : Fin 16) (n : Fin 128) :
    rKV C U (ix4 b s h n) = ∑ k : Fin 512, C (ix3 b s k) * U (ix2 k ⟨h.val * 128 + n.val, by omega⟩) := by
  pointwise [rKV]

/-- Queries by head. -/
def rQ (X : FVec Ideal S2x512x2048 .bf16) (W : FVec Ideal S2048x2048 .bf16) : FVec Ideal S2x512x16x128 .f32 :=
  shapeCast _ (Host.dotGeneral (F := Ideal) dot_S2x512x2048_S2048x2048_S2x512x2048_2_0_01_1_n_n none (extf .f32 X bitsLt_bf16_f32) (extf .f32 W bitsLt_bf16_f32)) shapeCasts_S2x512x2048_S2x512x16x128
/-- Read at an index. -/
theorem rQ_apply (X : FVec Ideal S2x512x2048 .bf16) (W : FVec Ideal S2048x2048 .bf16) (b : Fin 2) (s : Fin 512) (h : Fin 16) (n : Fin 128) :
    rQ X W (ix4 b s h n) = ∑ d : Fin 2048, X (ix3 b s d) * W (ix2 d ⟨h.val * 128 + n.val, by omega⟩) := by
  pointwise [rQ]

/-- Rotary queries by head. -/
def rQr (X : FVec Ideal S2x512x2048 .bf16) (W : FVec Ideal S2048x512 .bf16) : FVec Ideal S2x512x16x32 .f32 :=
  shapeCast _ (Host.dotGeneral (F := Ideal) dot_S2x512x2048_S2048x512_S2x512x512_2_0_01_1_n_n none (extf .f32 X bitsLt_bf16_f32) (extf .f32 W bitsLt_bf16_f32)) shapeCasts_S2x512x512_S2x512x16x32
/-- Read at an index. -/
theorem rQr_apply (X : FVec Ideal S2x512x2048 .bf16) (W : FVec Ideal S2048x512 .bf16) (b : Fin 2) (s : Fin 512) (h : Fin 16) (n : Fin 32) :
    rQr X W (ix4 b s h n) = ∑ d : Fin 2048, X (ix3 b s d) * W (ix2 d ⟨h.val * 32 + n.val, by omega⟩) := by
  pointwise [rQr]

/-- The rotary key, repeated for every head. -/
def rKr (X : FVec Ideal S2x512x2048 .bf16) (W : FVec Ideal S2048x32 .bf16) : FVec Ideal S2x512x16x32 .f32 :=
  broadcastInDim S2x512x16x32 ![0, 1, 2, 3] bcast_S2x512x1x32_S2x512x16x32_0_1_2_3 (shapeCast _ (Host.dotGeneral (F := Ideal) dot_S2x512x2048_S2048x32_S2x512x32_2_0_01_1_n_n none (extf .f32 X bitsLt_bf16_f32) (extf .f32 W bitsLt_bf16_f32)) shapeCasts_S2x512x32_S2x512x1x32)
/-- Read at an index. -/
theorem rKr_apply (X : FVec Ideal S2x512x2048 .bf16) (W : FVec Ideal S2048x32 .bf16) (b : Fin 2) (s : Fin 512) (h : Fin 16) (n : Fin 32) :
    rKr X W (ix4 b s h n) = ∑ d : Fin 2048, X (ix3 b s d) * W (ix2 d n) := by
  pointwise [rKr]

/-- The scores. -/
def rS (Q K : FVec Ideal S2x512x16x128 .f32) (Qr Kr : FVec Ideal S2x512x16x32 .f32) : FVec Ideal S2x16x512x512 .f32 :=
  mulf (addf (Host.dotGeneral (F := Ideal) dot_S2x512x16x128_S2x512x16x128_S2x16x512x512_3_3_1_1_02_02 none Q K) (Host.dotGeneral dot_S2x512x16x32_S2x512x16x32_S2x16x512x512_3_3_1_1_02_02 none Qr Kr)) (broadcastInDim S2x16x512x512 ![] bcast_S_S2x16x512x512 (Host.divf (constant S_ .f32 0x3F800000#32) (Host.sqrt (constant S_ .f32 0x43200000#32))))
/-- Read at an index. -/
theorem rS_apply (Q K : FVec Ideal S2x512x16x128 .f32) (Qr Kr : FVec Ideal S2x512x16x32 .f32) (b : Fin 2) (h : Fin 16) (i j : Fin 512) :
    rS Q K Qr Kr (ix4 b h i j) = ((∑ d : Fin 128, Q (ix4 b i h d) * K (ix4 b j h d)) + ∑ d : Fin 32, Qr (ix4 b i h d) * Kr (ix4 b j h d)) * (((Real.sqrt 160)⁻¹ : ℝ) : EReal) := by
  rw [← Cert.MlaSoft.inv_root]
  pointwise [rS]

/-- The exponentials of the scores less their row's greatest. -/
def rE (S : FVec Ideal S2x16x512x512 .f32) : FVec Ideal S2x16x512x512 .f32 :=
  Host.exp (F := Ideal) (subf S (broadcastInDim S2x16x512x512 ![0, 1, 2, 3] bcast_S2x16x512x1_S2x16x512x512_0_1_2_3 (broadcastInDim S2x16x512x1 ![0, 1, 2] bcast_S2x16x512_S2x16x512x1_0_1_2 (Host.reduce FloatOps.maximumf S (constant S_ .f32 0xFF800000#32) reducesTo_S2x16x512x512_S2x16x512_d3 h_S_))))
/-- Read at an index. -/
theorem rE_apply (S : FVec Ideal S2x16x512x512 .f32) (b : Fin 2) (h : Fin 16) (i j : Fin 512) :
    rE S (ix4 b h i j) = Ideal.exp (S (ix4 b h i j) - Finset.univ.fold max (Ideal.ofBits .f32 0xFF800000#32) fun j' : Fin 512 => S (ix4 b h i j')) := by
  pointwise [rE]

/-- The attention weights. -/
def rP (E : FVec Ideal S2x16x512x512 .f32) : FVec Ideal S2x16x512x512 .f32 :=
  Host.divf (F := Ideal) E (broadcastInDim S2x16x512x512 ![0, 1, 2, 3] bcast_S2x16x512x1_S2x16x512x512_0_1_2_3 (broadcastInDim S2x16x512x1 ![0, 1, 2] bcast_S2x16x512_S2x16x512x1_0_1_2 (Host.reduceAdd E (constant S_ .f32 0x00000000#32) reducesTo_S2x16x512x512_S2x16x512_d3 h_S_)))
/-- Read at an index. -/
theorem rP_apply (E : FVec Ideal S2x16x512x512 .f32) (b : Fin 2) (h : Fin 16) (i j : Fin 512) :
    rP E (ix4 b h i j) = Ideal.div (E (ix4 b h i j)) (∑ j' : Fin 512, E (ix4 b h i j')) := by
  pointwise [rP]

/-- The result from the weights, the values and the out-projection. -/
def rOut (V : FVec Ideal S2x512x16x128 .f32) (P : FVec Ideal S2x16x512x512 .f32) (W : FVec Ideal S2048x2048 .bf16) : FVec Ideal S2x512x2048 .bf16 :=
  truncf .bf16 (Host.dotGeneral (F := Ideal) dot_S2x512x2048_S2048x2048_S2x512x2048_2_0_01_1_n_n none (shapeCast _ (transpose S2x512x16x128 [0, 3, 1, 2] (Host.dotGeneral dot_S2x512x16x128_S2x16x512x512_S2x16x128x512_1_3_3_2_02_01 none V P) transposes_S2x16x128x512_S2x512x16x128_0_3_1_2) shapeCasts_S2x512x16x128_S2x512x2048) (extf .f32 W bitsLt_bf16_f32)) bitsLt_bf16_f32
/-- Read at an index. -/
theorem rOut_apply (V : FVec Ideal S2x512x16x128 .f32) (P : FVec Ideal S2x16x512x512 .f32) (W : FVec Ideal S2048x2048 .bf16) (b : Fin 2) (s : Fin 512) (n : Fin 2048) :
    rOut V P W (ix3 b s n) = ∑ k : Fin 2048, (∑ j : Fin 512, V (ix4 b j ⟨k.val / 128, by omega⟩ ⟨k.val % 128, by omega⟩) * P (ix4 b ⟨k.val / 128, by omega⟩ s j)) * W (ix2 k n) := by
  pointwise [rOut]

variable (m : (ℓ : Loc nD τ sig) → Buf (Elt Ideal) ℓ) (c : Dev nD)

/-- The reference's arguments. -/
def aX : FVec Ideal S2x512x2048 .bf16 := m ((c.tc : Thread nD τ).loc main_arg0)
/-- The reference's argument. -/
def aD : FVec Ideal S2048x512 .bf16 := m ((c.tc : Thread nD τ).loc main_arg1)
/-- The reference's argument. -/
def aUk : FVec Ideal S512x2048 .bf16 := m ((c.tc : Thread nD τ).loc main_arg2)
/-- The reference's argument. -/
def aUv : FVec Ideal S512x2048 .bf16 := m ((c.tc : Thread nD τ).loc main_arg3)
/-- The reference's argument. -/
def aQ : FVec Ideal S2048x2048 .bf16 := m ((c.tc : Thread nD τ).loc main_arg4)
/-- The reference's argument. -/
def aQr : FVec Ideal S2048x512 .bf16 := m ((c.tc : Thread nD τ).loc main_arg5)
/-- The reference's argument. -/
def aKr : FVec Ideal S2048x32 .bf16 := m ((c.tc : Thread nD τ).loc main_arg6)
/-- The reference's argument. -/
def aO : FVec Ideal S2048x2048 .bf16 := m ((c.tc : Thread nD τ).loc main_arg7)

/-- The scores of the reference's arguments. -/
def rScores : FVec Ideal S2x16x512x512 .f32 :=
  rS (rQ (aX m c) (aQ m c)) (rKV (rC (aX m c) (aD m c)) (aUk m c)) (rQr (aX m c) (aQr m c)) (rKr (aX m c) (aKr m c))

/-- The reference's result, by its steps. -/
theorem res_eq : res_main_v40 (F := Ideal) m c
    = rOut (rKV (rC (aX m c) (aD m c)) (aUv m c)) (rP (rE (rScores m c))) (aO m c) := rfl

end Cert.MlaRef

end
-- ==== Proof.MathV.lean ====
/-
# `MathV`: the kernel's result over extended reals is the reference's
-/
module

public import proofs.«01_k».proof.Proof.MathK
public import proofs.«01_k».proof.Proof.MathR
public import proofs.«01_k».proof.Proof.Soft

@[expose] public section

set_option maxRecDepth 16384

noncomputable section

namespace Cert.MlaProof

open Cert.KernelIdeal Cert.KernelIdeal.Gen

open Idealize.ShloMosaic
open Idealize.ShloMosaic.TcCoe
open Cert.MlaSoft Cert.MlaRef
open scoped BigOperators

/-! ## A device's blocks -/

/-- A device's place on the mesh's second axis. -/
def yc (c : Dev nD) : Fin 4 := ⟨c.val / 4 % 4, Nat.mod_lt _ (by decide)⟩

/-- One step back round the ring, -/
theorem yc_back1 (c : Dev nD) : yc (back 1 c) = ⟨((yc c).val + 3) % 4, Nat.mod_lt _ (by decide)⟩ := by revert c; decide +kernel
/-- two steps, -/
theorem yc_back2 (c : Dev nD) : yc (back 2 c) = ⟨((yc c).val + 2) % 4, Nat.mod_lt _ (by decide)⟩ := by revert c; decide +kernel
/-- and three. -/
theorem yc_back3 (c : Dev nD) : yc (back 3 c) = ⟨((yc c).val + 1) % 4, Nat.mod_lt _ (by decide)⟩ := by revert c; decide +kernel

/-- Every device's arguments are its blocks of the whole arrays. -/
structure Agree (m : (ℓ : Loc nD τ sig) → Buf (Elt Ideal) ℓ) (X : FVec Ideal S2x512x2048 .bf16) (D : FVec Ideal ⟨2, ![2048, 512]⟩ .bf16)
    (Uk Uv : FVec Ideal ⟨2, ![512, 2048]⟩ .bf16) (Q : FVec Ideal S2048x2048 .bf16) (Qr : FVec Ideal S2048x512 .bf16)
    (Kr : FVec Ideal S2048x32 .bf16) (O : FVec Ideal S2048x2048 .bf16) : Prop where
  hX : ∀ c, xB m c = X
  hD : ∀ c (d : Fin 2048) (k : Fin 128), dB m c (ix2 d k) = D (ix2 d ⟨128 * (yc c).val + k.val, by have := (yc c).isLt; omega⟩)
  hUk : ∀ c (k : Fin 128) (n : Fin 2048), ukB m c (ix2 k n) = Uk (ix2 ⟨128 * (yc c).val + k.val, by have := (yc c).isLt; omega⟩ n)
  hUv : ∀ c (k : Fin 128) (n : Fin 2048), uvB m c (ix2 k n) = Uv (ix2 ⟨128 * (yc c).val + k.val, by have := (yc c).isLt; omega⟩ n)
  hQ : ∀ c, wqB m c = Q
  hQr : ∀ c, wqrB m c = Qr
  hKr : ∀ c, wkrB m c = Kr
  hO : ∀ c, woB m c = O

section
variable {m : (ℓ : Loc nD τ sig) → Buf (Elt Ideal) ℓ} {X : FVec Ideal S2x512x2048 .bf16} {D : FVec Ideal ⟨2, ![2048, 512]⟩ .bf16}
  {Uk Uv : FVec Ideal ⟨2, ![512, 2048]⟩ .bf16} {Q : FVec Ideal S2048x2048 .bf16} {Qr : FVec Ideal S2048x512 .bf16}
  {Kr : FVec Ideal S2048x32 .bf16} {O : FVec Ideal S2048x2048 .bf16}

/-- Row `512 b + s` of the kernel's rows. -/
abbrev rw2 (b : Fin 2) (s : Fin 512) : Fin 1024 := ⟨b.val * 512 + s.val, by omega⟩
/-- Column `n` of head `h`. -/
abbrev cl (h : Fin 16) (n : Fin 128) : Fin 2048 := ⟨h.val * 128 + n.val, by omega⟩

/-- A kernel row is a row of the reference's input. -/
theorem xF_at (A : Agree m X D Uk Uv Q Qr Kr O) (c : Dev nD) (b : Fin 2) (s : Fin 512) (d : Fin 2048) :
    xF m c (ix2 (rw2 b s) d) = X (ix3 b s d) := by
  refine (pay3_apply _ _ _).trans ?_
  rw [A.hX c]
  refine congrArg X (congrArg₂ (fun p q => ix3 p q d) (Fin.ext ?_) (Fin.ext ?_))
  · show (b.val * 512 + s.val) / 512 = b.val; omega
  · show (b.val * 512 + s.val) % 512 = s.val; omega

/-- A slot of the compressed buffer holds a block of the reference's compressed rows. -/
theorem cS_at (A : Agree m X D Uk Uv Q Qr Kr O) (c : Dev nD) (h : ℕ) (b : Fin 2) (s : Fin 512) (k : Fin 128) :
    cS m c h (ix3 0 (rw2 b s) k) = rC X D (ix3 b s ⟨128 * (yc (back h c)).val + k.val, by have := (yc (back h c)).isLt; omega⟩) := by
  refine (pay4_apply _ _ _ _).trans ?_
  rw [rC_apply]
  exact Finset.sum_congr rfl fun d _ => by rw [xF_at A, A.hD]

/-- A slot of the key weights holds a block of rows, -/
theorem kS_at (A : Agree m X D Uk Uv Q Qr Kr O) (c : Dev nD) (h : ℕ) (k : Fin 128) (n : Fin 2048) :
    kS m c h (ix3 0 k n) = Uk (ix2 ⟨128 * (yc (back h c)).val + k.val, by have := (yc (back h c)).isLt; omega⟩ n) :=
  (pay5_apply _ _ _).trans (A.hUk _ _ _)
/-- and so does a slot of the value weights. -/
theorem vS_at (A : Agree m X D Uk Uv Q Qr Kr O) (c : Dev nD) (h : ℕ) (k : Fin 128) (n : Fin 2048) :
    vS m c h (ix3 0 k n) = Uv (ix2 ⟨128 * (yc (back h c)).val + k.val, by have := (yc (back h c)).isLt; omega⟩ n) :=
  (pay6_apply _ _ _).trans (A.hUv _ _ _)

/-- One block's part of a product with the compressed rows. -/
def blk (X : FVec Ideal S2x512x2048 .bf16) (D : FVec Ideal ⟨2, ![2048, 512]⟩ .bf16) (U : FVec Ideal ⟨2, ![512, 2048]⟩ .bf16)
    (b : Fin 2) (s : Fin 512) (n : Fin 2048) (y : Fin 4) : EReal :=
  ∑ k : Fin 128, rC X D (ix3 b s ⟨128 * y.val + k.val, by omega⟩) * U (ix2 ⟨128 * y.val + k.val, by omega⟩ n)

/-- One slot's product for the keys, -/
theorem sum_k (A : Agree m X D Uk Uv Q Qr Kr O) (c : Dev nD) (h : ℕ) (b : Fin 2) (s : Fin 512) (n : Fin 2048) :
    ∑ k : Fin 128, cS m c h (ix3 0 (rw2 b s) k) * kS m c h (ix3 0 k n) = blk X D Uk b s n (yc (back h c)) :=
  Finset.sum_congr rfl fun k _ => by rw [cS_at A, kS_at A]
/-- and for the values. -/
theorem sum_v (A : Agree m X D Uk Uv Q Qr Kr O) (c : Dev nD) (h : ℕ) (b : Fin 2) (s : Fin 512) (n : Fin 2048) :
    ∑ k : Fin 128, cS m c h (ix3 0 (rw2 b s) k) * vS m c h (ix3 0 k n) = blk X D Uv b s n (yc (back h c)) :=
  Finset.sum_congr rfl fun k _ => by rw [cS_at A, vS_at A]

/-- The four blocks, met in the order the ring brings them, make the whole product. -/
theorem blk_all (X : FVec Ideal S2x512x2048 .bf16) (D : FVec Ideal ⟨2, ![2048, 512]⟩ .bf16) (U : FVec Ideal ⟨2, ![512, 2048]⟩ .bf16)
    (c : Dev nD) (b : Fin 2) (s : Fin 512) (h : Fin 16) (n : Fin 128) :
    blk X D U b s (cl h n) (yc (back 0 c)) + blk X D U b s (cl h n) (yc (back 1 c)) + blk X D U b s (cl h n) (yc (back 2 c)) + blk X D U b s (cl h n) (yc (back 3 c))
      = rKV (rC X D) U (ix4 b s h n) := by
  rw [rKV_apply, sum_four, yc_back1, yc_back2, yc_back3]
  exact ring_four (blk X D U b s (cl h n)) (yc c)

/-- The key buffer at the end. -/
theorem kb3_at (A : Agree m X D Uk Uv Q Qr Kr O) (c : Dev nD) (b : Fin 2) (s : Fin 512) (h : Fin 16) (n : Fin 128) :
    kb3 m c (ix2 (rw2 b s) (cl h n)) = rKV (rC X D) Uk (ix4 b s h n) := by
  rw [← blk_all X D Uk c, ← sum_k A c 0, ← sum_k A c 1, ← sum_k A c 2, ← sum_k A c 3]
  unfold kb3 kb2 kb1 kb0
  rw [pay62_apply, pay61_apply, pay18_apply, pay17_apply, pay12_apply, pay8_apply, pay7_apply]

/-- The value buffer at the end. -/
theorem vb3_at (A : Agree m X D Uk Uv Q Qr Kr O) (c : Dev nD) (b : Fin 2) (s : Fin 512) (h : Fin 16) (n : Fin 128) :
    vb3 m c (ix2 (rw2 b s) (cl h n)) = rKV (rC X D) Uv (ix4 b s h n) := by
  rw [← blk_all X D Uv c, ← sum_v A c 0, ← sum_v A c 1, ← sum_v A c 2, ← sum_v A c 3]
  unfold vb3 vb2 vb1 vb0
  rw [pay63_apply, pay60_apply, pay19_apply, pay16_apply, pay13_apply, pay9_apply]

/-! ## Queries and the rotary parts -/

/-- The query buffer is the reference's queries. -/
theorem gQ_at (A : Agree m X D Uk Uv Q Qr Kr O) (c : Dev nD) (b : Fin 2) (s : Fin 512) (h : Fin 16) (n : Fin 128) :
    gQ m c (ix2 (rw2 b s) (cl h n)) = rQ X Q (ix4 b s h n) := by
  rw [rQ_apply]
  refine (pay10_apply _ _ _ _).trans (Finset.sum_congr rfl fun d _ => ?_)
  rw [A.hQ]
  refine congrArg₂ (· * ·) (xF_at A c b s d) (congrArg Q (congrArg (ix2 d) (Fin.ext ?_)))
  show (512 * ((h.val * 128 + n.val) / 512) + (h.val * 128 + n.val) % 512) % 2048 = h.val * 128 + n.val
  omega

/-- The rotary queries are the reference's, -/
theorem qr_at (A : Agree m X D Uk Uv Q Qr Kr O) (c : Dev nD) (b : Fin 2) (s : Fin 512) (h : Fin 16) (n : Fin 32) :
    hdQ (16 * b.val + h.val) (qrOf (qrW m c)) (ix3 0 s n) = rQr X Qr (ix4 b s h n) := by
  rw [rQr_apply]
  refine (pay20_apply _ _ _ _).trans (Finset.sum_congr rfl fun d _ => ?_)
  rw [A.hQr]
  refine congrArg₂ (· * ·) ?_ (congrArg Qr (congrArg (ix2 d) (Fin.ext ?_)))
  · rw [← xF_at A c b s d]
    refine congrArg (xF m c) (congrArg (fun p => ix2 p d) (Fin.ext ?_))
    show (512 * ((16 * b.val + h.val) % 32 / 16) + s.val) % 1024 = b.val * 512 + s.val
    omega
  · show (32 * ((16 * b.val + h.val) % 32 % 16) + n.val) % 512 = h.val * 32 + n.val
    omega

/-- and so is the rotary key. -/
theorem kr_at (A : Agree m X D Uk Uv Q Qr Kr O) (c : Dev nD) (b : Fin 2) (s : Fin 512) (h : Fin 16) (n : Fin 32) :
    hdK (16 * b.val + h.val) (krOf (krW m c)) (ix3 0 s n) = rKr X Kr (ix4 b s h n) := by
  rw [rKr_apply]
  refine (pay21_apply _ _ _ _).trans (Finset.sum_congr rfl fun d _ => ?_)
  rw [A.hKr]
  refine congrArg₂ (· * ·) ?_ rfl
  rw [← xF_at A c b s d]
  refine congrArg (xF m c) (congrArg (fun p => ix2 p d) (Fin.ext ?_))
  show (512 * ((16 * b.val + h.val) / 16 % 2) + s.val) % 1024 = b.val * 512 + s.val
  omega

/-- A head's block of a row-by-column buffer. -/
theorem hd_at (f : FVec Ideal S1024x2048 .bf16) (b : Fin 2) (s : Fin 512) (h : Fin 16) (n : Fin 128) :
    hd (16 * b.val + h.val) f (ix2 s n) = f (ix2 (rw2 b s) (cl h n)) := by
  refine congrArg f (congrArg₂ ix2 (Fin.ext ?_) (Fin.ext ?_))
  · show (512 * ((16 * b.val + h.val) / 16) + s.val) % 1024 = b.val * 512 + s.val; omega
  · show (128 * ((16 * b.val + h.val) % 16) + n.val) % 2048 = h.val * 128 + n.val; omega

/-! ## The scores -/

/-- The reference's scores. -/
abbrev sc (X : FVec Ideal S2x512x2048 .bf16) (D : FVec Ideal ⟨2, ![2048, 512]⟩ .bf16) (Uk : FVec Ideal ⟨2, ![512, 2048]⟩ .bf16)
    (Q : FVec Ideal S2048x2048 .bf16) (Qr : FVec Ideal S2048x512 .bf16) (Kr : FVec Ideal S2048x32 .bf16) : FVec Ideal ⟨4, ![2, 16, 512, 512]⟩ .f32 :=
  Cert.MlaRef.rS (rQ X Q) (rKV (rC X D) Uk) (rQr X Qr) (rKr X Kr)

/-- The kernel's scores are the reference's. -/
theorem kscore_at (A : Agree m X D Uk Uv Q Qr Kr O) (c : Dev nD) (b : Fin 2) (h : Fin 16) (i j : Fin 512) :
    kscore (hd (16 * b.val + h.val) (gQ m c)) (hd (16 * b.val + h.val) (kb3 m c)) (hdQ (16 * b.val + h.val) (qrOf (qrW m c)))
      (hdK (16 * b.val + h.val) (krOf (krW m c))) i j = sc X D Uk Q Qr Kr (ix4 b h i j) := by
  unfold sc
  rw [rS_apply]
  unfold kscore scl
  refine congrArg₂ (· * ·) (congrArg₂ (· + ·) (Finset.sum_congr rfl fun d _ => ?_) (Finset.sum_congr rfl fun d _ => ?_)) rfl
  · rw [hd_at, hd_at, gQ_at A, kb3_at A]
  · rw [qr_at A, kr_at A]

/-- What every score is made of is a real number. -/
structure Fin6 (X : FVec Ideal S2x512x2048 .bf16) (D : FVec Ideal ⟨2, ![2048, 512]⟩ .bf16) (Uk : FVec Ideal ⟨2, ![512, 2048]⟩ .bf16)
    (Q : FVec Ideal S2048x2048 .bf16) (Qr : FVec Ideal S2048x512 .bf16) (Kr : FVec Ideal S2048x32 .bf16) : Prop where
  hX : ∀ i, IsR (X i)
  hD : ∀ i, IsR (D i)
  hUk : ∀ i, IsR (Uk i)
  hQ : ∀ i, IsR (Q i)
  hQr : ∀ i, IsR (Qr i)
  hKr : ∀ i, IsR (Kr i)

/-- Then so is every score. -/
theorem sc_real (H : Fin6 X D Uk Q Qr Kr) (b : Fin 2) (h : Fin 16) (i j : Fin 512) : IsR (sc X D Uk Q Qr Kr (ix4 b h i j)) := by
  unfold sc
  rw [rS_apply]
  refine IsR.mul (IsR.add (IsR.sum fun d => IsR.mul ?_ ?_) (IsR.sum fun d => IsR.mul ?_ ?_)) isR_scale
  · rw [rQ_apply]
    exact IsR.sum fun d => IsR.mul (H.hX _) (H.hQ _)
  · rw [rKV_apply]
    refine IsR.sum fun k => IsR.mul ?_ (H.hUk _)
    rw [rC_apply]
    exact IsR.sum fun d => IsR.mul (H.hX _) (H.hD _)
  · rw [rQr_apply]
    exact IsR.sum fun d => IsR.mul (H.hX _) (H.hQr _)
  · rw [rKr_apply]
    exact IsR.sum fun d => IsR.mul (H.hX _) (H.hKr _)

/-! ## The attention and the result -/

/-- One head's attention is the reference's. -/
theorem attn_at (A : Agree m X D Uk Uv Q Qr Kr O) (H : Fin6 X D Uk Q Qr Kr) (c : Dev nD) (b : Fin 2) (h : Fin 16) (i : Fin 512) (n : Fin 128) :
    attn m c (16 * b.val + h.val) (ix2 i n)
      = ∑ j : Fin 512, rKV (rC X D) Uv (ix4 b j h n) * rP (rE (sc X D Uk Q Qr Kr)) (ix4 b h i j) := by
  refine (pay1_apply _ _ _ _ _ _ _).trans (Finset.sum_congr rfl fun j _ => ?_)
  rw [hd_at, vb3_at A, mul_comm]
  refine congrArg _ ?_
  rw [rP_apply, rE_apply, neg_inf]
  simp only [kscore_at A, rE_apply, neg_inf]
  exact softmax_shift (s := fun j => sc X D Uk Q Qr Kr (ix4 b h i j)) (by decide) (fun j => sc_real H b h i j)
    (IsR.fold_max (by decide) fun j => sc_real H b h i j) j

/-- Every device's result is the reference's. -/
theorem outF_eq (A : Agree m X D Uk Uv Q Qr Kr O) (H : Fin6 X D Uk Q Qr Kr) (c : Dev nD) :
    outF m c = rOut (rKV (rC X D) Uv) (rP (rE (sc X D Uk Q Qr Kr))) O := by
  funext e
  obtain ⟨b, s, n, rfl⟩ : ∃ (b : Fin 2) (s : Fin 512) (n : Fin 2048), e = ix3 b s n := ⟨e 0, e 1, e 2, eq_ix3 e⟩
  rw [rOut_apply]
  refine (pay2_apply _ _ _ _ _).trans (Finset.sum_congr rfl fun k _ => ?_)
  rw [A.hO]
  refine congrArg₂ (· * ·) ?_ rfl
  rw [← attn_at A H c]
  unfold gO
  refine congrArg₂ (attn m c) ?_ (congrArg₂ ix2 (Fin.ext ?_) (Fin.ext ?_))
  · show 16 * ((b.val * 512 + s.val) / 512) + k.val / 128 = 16 * b.val + k.val / 128; omega
  · show (b.val * 512 + s.val) % 512 = s.val; omega
  · rfl

end

end Cert.MlaProof

end
-- ==== Proof.PreF.lean ====
/-
# `PreF`: what the precondition says of one device's blocks
-/
module

public import Idealize.ShloMosaic.Lib.ReduceAll
public import proofs.«01_k».proof.Pre_scores_finite_KernelIdeal
public import proofs.«01_k».proof.Pre_scores_finite_ReferenceIdeal
public import proofs.«01_k».proof.Proof.Soft

@[expose] public section

set_option maxRecDepth 16384

noncomputable section

namespace Cert.MlaPre

open Idealize.ShloMosaic Cert.MlaSoft Cert.Pre_scores_finite_KernelIdeal

/-- The precondition's shapes are what its operations ask, over one device's blocks, -/
theorem facts : Cert.Pre_scores_finite_KernelIdeal.Facts :=
  ⟨by decide, by decide, by decide, by decide, by decide, by decide, by decide, by decide, by decide, by decide, by decide, by decide, by decide⟩
/-- and over the whole arrays. -/
theorem factsR : Cert.Pre_scores_finite_ReferenceIdeal.Facts :=
  ⟨by decide, by decide, by decide, by decide, by decide, by decide, by decide, by decide, by decide, by decide, by decide⟩

instance : Subsingleton S_.Idx := ⟨fun a b => funext fun k => k.elim0⟩

/-- One conjunct: every element is less than infinity in absolute value, so it is a real number. -/
theorem real_of_all {s : Shape} {axes : List (Fin s.rank)} (x : FVec Ideal s .bf16) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .bf16 0x7F80#16))) (constantI S_ 1 1#1) h hu j = 1#1) (i : s.Idx) :
    IsR (x i) := by
  have h1 := Host.reduce_andi_all _ _ h hu j e i
  have h2 : Ideal.cmp .olt (max (x i) (-(x i))) (Ideal.ofBits .bf16 0x7F80#16) = 1#1 := h1
  rw [inf_bf16] at h2
  refine IsR.of_abs ?_
  by_contra hn
  have h3 : Ideal.cmp .olt (max (x i) (-(x i))) ⊤ = 0#1 := by
    simp only [Ideal.cmp]
    simp [hn]
  rw [h3] at h2
  exact absurd h2 (by decide)

variable [Facts]

/-- The precondition, conjunct by conjunct. -/
theorem real_of_pre (a0 : FVec Ideal S2x512x2048 .bf16) (a1 : FVec Ideal S2048x128 .bf16) (a2 a3 : FVec Ideal S128x2048 .bf16) (a4 : FVec Ideal S2048x2048 .bf16)
    (a5 : FVec Ideal S2048x512 .bf16) (a6 : FVec Ideal S2048x32 .bf16) (a7 : FVec Ideal S2048x2048 .bf16)
    (h : fn (F := Ideal) a0 a1 a2 a3 a4 a5 a6 a7 = fun _ => 1#1) :
    (∀ i, IsR (a0 i)) ∧ (∀ i, IsR (a1 i)) ∧ (∀ i, IsR (a2 i)) ∧ (∀ i, IsR (a4 i)) ∧ (∀ i, IsR (a5 i)) ∧ (∀ i, IsR (a6 i)) := by
  have j : S_.Idx := fun k => k.elim0
  have h0 := congrFun h j
  unfold fn fn_part1 at h0
  obtain ⟨h0, e6⟩ := IntOp.andi_eq_one.1 h0
  obtain ⟨h0, e5⟩ := IntOp.andi_eq_one.1 h0
  obtain ⟨h0, e4⟩ := IntOp.andi_eq_one.1 h0
  obtain ⟨h0, e2⟩ := IntOp.andi_eq_one.1 h0
  obtain ⟨e0, e1⟩ := IntOp.andi_eq_one.1 h0
  exact ⟨real_of_all _ _ _ _ _ e0, real_of_all _ _ _ _ _ e1, real_of_all _ _ _ _ _ e2, real_of_all _ _ _ _ _ e4, real_of_all _ _ _ _ _ e5, real_of_all _ _ _ _ _ e6⟩

end Cert.MlaPre

end
-- ==== Proof.Value.lean ====
/-
# `Value`: the value claim, from the run and the equality of the two results
-/
module

public import proofs.«01_k».proof.Defs
public import proofs.«01_k».proof.Proof.Run
public import proofs.«01_k».proof.Proof.MathV
public import proofs.«01_k».proof.Proof.PreF

@[expose] public section

set_option maxRecDepth 16384

noncomputable section

namespace Cert.MlaProof

open Cert.KernelIdeal Cert.KernelIdeal.Gen

open Idealize.ShloMosaic Idealize.SL.Sem
open Idealize.ShloMosaic.TcCoe
open Cert.MlaSoft Cert.MlaRef

/-- Which block of the columns a device holds, -/
theorem cols_val (c : Dev nD) : ((Layout.meshBlock [2, 4, 4] ![[], [1]] c) (1 : Fin 2)).val = (yc c).val ∧ ((Layout.meshBlock [2, 4, 4] ![[], [1]] c) (0 : Fin 2)).val = 0 := by
  revert c; decide +kernel
/-- and of the rows. -/
theorem rows_val (c : Dev nD) : ((Layout.meshBlock [2, 4, 4] ![[1], []] c) (0 : Fin 2)).val = (yc c).val ∧ ((Layout.meshBlock [2, 4, 4] ![[1], []] c) (1 : Fin 2)).val = 0 := by
  revert c; decide +kernel

/-- A block of columns read at an index, -/
theorem block_cols (D : FVec Ideal ⟨2, ![2048, 512]⟩ .bf16) (c : Dev nD) (d : Fin 2048) (k : Fin 128) :
    (Layout.blockN ⟨2, ![2048, 128]⟩ ⟨2, ![2048, 512]⟩ (Layout.meshBlock [2, 4, 4] ![[], [1]] c) D) (ix2 d k)
      = D (ix2 d ⟨128 * (yc c).val + k.val, by have := (yc c).isLt; omega⟩) := by
  rw [Layout.blockN_apply]
  refine congrArg D (funext fun a => Fin.ext ?_)
  rw [Layout.TilesN.idx_val]
  fin_cases a
  · show ((Layout.meshBlock [2, 4, 4] ![[], [1]] c) (0 : Fin 2)).val * 2048 + d.val = d.val
    rw [(cols_val c).2]; omega
  · show ((Layout.meshBlock [2, 4, 4] ![[], [1]] c) (1 : Fin 2)).val * 128 + k.val = 128 * (yc c).val + k.val
    rw [(cols_val c).1]; omega
/-- and a block of rows. -/
theorem block_rows (U : FVec Ideal ⟨2, ![512, 2048]⟩ .bf16) (c : Dev nD) (k : Fin 128) (n : Fin 2048) :
    (Layout.blockN ⟨2, ![128, 2048]⟩ ⟨2, ![512, 2048]⟩ (Layout.meshBlock [2, 4, 4] ![[1], []] c) U) (ix2 k n)
      = U (ix2 ⟨128 * (yc c).val + k.val, by have := (yc c).isLt; omega⟩ n) := by
  rw [Layout.blockN_apply]
  refine congrArg U (funext fun a => Fin.ext ?_)
  rw [Layout.TilesN.idx_val]
  fin_cases a
  · show ((Layout.meshBlock [2, 4, 4] ![[1], []] c) (0 : Fin 2)).val * 128 + k.val = 128 * (yc c).val + k.val
    rw [(rows_val c).1]; omega
  · show ((Layout.meshBlock [2, 4, 4] ![[1], []] c) (1 : Fin 2)).val * 2048 + n.val = n.val
    rw [(rows_val c).2]; omega

/-- The device that holds a given block. -/
def devOf (y : Fin 4) : Dev nD := ⟨4 * y.val, by have := y.isLt; simp only [nD]; omega⟩
/-- It does. -/
theorem yc_devOf (y : Fin 4) : yc (devOf y) = y := by revert y; decide +kernel

/-- If every device's blocks are real, so are the whole arrays that the scores are made of. -/
theorem fin_of_blocks {m : (ℓ : Loc nD τ sig) → Buf (Elt Ideal) ℓ} {X : FVec Ideal S2x512x2048 .bf16} {D : FVec Ideal ⟨2, ![2048, 512]⟩ .bf16}
    {Uk Uv : FVec Ideal ⟨2, ![512, 2048]⟩ .bf16} {Q : FVec Ideal S2048x2048 .bf16} {Qr : FVec Ideal S2048x512 .bf16}
    {Kr : FVec Ideal S2048x32 .bf16} {O : FVec Ideal S2048x2048 .bf16} (A : Agree m X D Uk Uv Q Qr Kr O)
    (H : ∀ c, (∀ i, IsR (xB m c i)) ∧ (∀ i, IsR (dB m c i)) ∧ (∀ i, IsR (ukB m c i)) ∧ (∀ i, IsR (wqB m c i)) ∧ (∀ i, IsR (wqrB m c i)) ∧ (∀ i, IsR (wkrB m c i))) :
    Fin6 X D Uk Q Qr Kr where
  hX i := by
    have h := (H 0).1 i
    rw [A.hX] at h
    exact h
  hD i := by
    obtain ⟨d, k, rfl⟩ : ∃ (d : Fin 2048) (k : Fin 512), i = ix2 d k := ⟨i 0, i 1, eq_ix2 i⟩
    have h := (H (devOf ⟨k.val / 128, by omega⟩)).2.1 (ix2 d ⟨k.val % 128, by omega⟩)
    rw [A.hD] at h
    simp only [yc_devOf] at h
    rwa [show (⟨128 * (k.val / 128) + k.val % 128, by omega⟩ : Fin 512) = k from Fin.ext (Nat.div_add_mod _ _)] at h
  hUk i := by
    obtain ⟨k, n, rfl⟩ : ∃ (k : Fin 512) (n : Fin 2048), i = ix2 k n := ⟨i 0, i 1, eq_ix2 i⟩
    have h := (H (devOf ⟨k.val / 128, by omega⟩)).2.2.1 (ix2 ⟨k.val % 128, by omega⟩ n)
    rw [A.hUk] at h
    simp only [yc_devOf] at h
    rwa [show (⟨128 * (k.val / 128) + k.val % 128, by omega⟩ : Fin 512) = k from Fin.ext (Nat.div_add_mod _ _)] at h
  hQ i := by
    have h := (H 0).2.2.2.1 i
    rw [A.hQ] at h
    exact h
  hQr i := by
    have h := (H 0).2.2.2.2.1 i
    rw [A.hQr] at h
    exact h
  hKr i := by
    have h := (H 0).2.2.2.2.2 i
    rw [A.hKr] at h
    exact h

/-- The value claim. -/
theorem value_claim : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := Cert.MlaPre.facts) := by
  letI := Cert.MlaPre.facts
  intro m g m' g' hp hm
  have A : Agree m (aX m' 0) (aD m' 0) (aUk m' 0) (aUv m' 0) (aQ m' 0) (aQr m' 0) (aKr m' 0) (aO m' 0) :=
    { hX := fun c => (hm c).1
      hD := fun c d k => (congrFun (hm c).2.1 _).trans (block_cols _ c d k)
      hUk := fun c k n => (congrFun (hm c).2.2.1 _).trans (block_rows _ c k n)
      hUv := fun c k n => (congrFun (hm c).2.2.2.1 _).trans (block_rows _ c k n)
      hQ := fun c => (hm c).2.2.2.2.1
      hQr := fun c => (hm c).2.2.2.2.2.1
      hKr := fun c => (hm c).2.2.2.2.2.2.1
      hO := fun c => (hm c).2.2.2.2.2.2.2 }
  have H : Fin6 (aX m' 0) (aD m' 0) (aUk m' 0) (aQ m' 0) (aQr m' 0) (aKr m' 0) :=
    fin_of_blocks A fun c => Cert.MlaPre.real_of_pre _ _ _ _ _ _ _ _ (hp c)
  refine ⟨Cert.ReferenceIdeal.Value.res_main_v40 (F := Ideal) m' 0, ?_, ?_⟩
  · refine (θ_run Cert.KernelIdeal.defs _ _).mono (fun r h c => ?_) (run_values (F := Ideal) m g)
    obtain ⟨h1, h2⟩ := h.1 c
    refine ⟨h1.trans ((outF_eq A H c).trans (res_eq m' 0).symm), h2⟩
  · exact (θ_run Cert.ReferenceIdeal.defs _ _).mono (fun r h => h 0) (Cert.ReferenceIdeal.Value.run (F := Ideal) m' g')

end Cert.MlaProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ => Cert.MlaProof.run_frame (F := Ideal) m ρ

/-- At words the named literal is its own pattern. -/
@[reducible] def namedBits : Named Bits := ⟨fun _ _ φ b => FloatOps.ofBits φ b⟩

set_option maxRecDepth 100000 in
/-- With it, the kernel's text is the same in both programs: the body the label is bound to, -/
theorem defs₀_eq : Cert.Kernel.defs₀ (F := Bits) = @Cert.KernelIdeal.defs₀ Bits _ namedBits _ := by
  letI := namedBits
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l x
  match l, x with
  | ⟨0, _⟩, (t, s) => rfl
set_option maxRecDepth 100000 in
/-- and the pipeline around it. -/
theorem defs_eq : Cert.Kernel.defs (F := Bits) = @Cert.KernelIdeal.defs Bits _ namedBits _ :=
  letI := namedBits
  congrArg (Pipeline.defs (Cert.KernelIdeal.pcfgs (F := Bits))) defs₀_eq

/-- So its run is the one run, at words. -/
theorem frame_kernel : Cert.quiescent_Kernel := fun m ρ _ => by
  letI := namedBits
  have h := Cert.MlaProof.run_frame (F := Bits) m ρ
  rw [← defs_eq] at h
  exact h

/-- The reference has no semaphores. -/
theorem frame_reference : Cert.quiescent_ReferenceIdeal := fun m ρ _ =>
  (θ_run Cert.ReferenceIdeal.defs _ _).mono (fun r h => ⟨fun c => (h c).2, funext fun g => nomatch g.2⟩) (Cert.ReferenceIdeal.Value.run (F := Ideal) m ρ)

/-- Every claim; the two frames under the precondition are the frames without it. -/
theorem claim : Cert.Claim := ⟨Cert.Kernel.Gen.facts, Cert.KernelIdeal.Gen.facts, Cert.ReferenceIdeal.Gen.facts, Cert.MlaPre.facts, Cert.MlaPre.factsR,
  frame_kernel, frame_ideal, fun m ρ _ => frame_ideal m ρ trivial, frame_reference, fun m ρ _ => frame_reference m ρ trivial,
  IdealRules.named_const.statement Cert.KernelIdeal.κ "inv_sqrt_160" .f32 0x3DA1E89B#32 (((Real.sqrt 160)⁻¹ : ℝ) : EReal) rfl,
  Cert.MlaProof.value_claim⟩

end Cert.Proof

end
